-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![1, 8192, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = Layout.block ⟨3, ![1, 1024, 1024]⟩ ⟨3, ![1, 8192, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S1x1024x64x128 : Shape := ⟨4, ![1, 1024, 64, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024x64x128 : S_.BroadcastsInDim S1x1024x64x128 (![] : Fin 0 → Fin S1x1024x64x128.rank)
  reducesTo_S1x1024x64x128_S_d0_1_2_3 : S1x1024x64x128.ReducesTo [0, 1, 2, 3] S_

variable [Facts]

def fn {F : FTy → Type} [FloatOps F] (main_arg0 : FVec F S1x1024x1024 .f32) (main_arg1 : FVec F S1024x1024 .f32) (main_arg2 : FVec F S1x1024x64x128 .f32) (main_arg3 : FVec F S1x1024x64x128 .f32) (main_arg4 : FVec F S1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024x64x128 .f32 := Host.absf main_arg2
  let main_cst_2 : FVec F S_ .f32 := constant S_ .f32 0x7F800000#32
  let main_v10 : FVec F S1x1024x64x128 .f32 := broadcastInDim S1x1024x64x128 ![] bcast_S_S1x1024x64x128 main_cst_2
  let main_v11 : IVec S1x1024x64x128 1 := cmpf .olt main_v9 main_v10
  let main_c_3 : IVec S_ 1 := constantI S_ 1 1#1
  let main_v12 : IVec S_ 1 := (fun x v => Host.reduce IntOp.andi x v reducesTo_S1x1024x64x128_S_d0_1_2_3 h_S_) main_v11 main_c_3
  let main_v13 : IVec S_ 1 := andi main_v8 main_v12
  main_v13
-- ==== Pre_finite_ReferenceIdeal.lean ====
abbrev S1x8192x1024 : Shape := ⟨3, ![1, 8192, 1024]⟩
abbrev S1024x8192 : Shape := ⟨2, ![1024, 8192]⟩
abbrev S1x1024x64x128 : Shape := ⟨4, ![1, 1024, 64, 128]⟩
abbrev S8192x1024 : Shape := ⟨2, ![8192, 1024]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x1024x64x128 : S_.BroadcastsInDim S1x1024x64x128 (![] : Fin 0 → Fin S1x1024x64x128.rank)
  reducesTo_S1x1024x64x128_S_d0_1_2_3 : S1x1024x64x128.ReducesTo [0, 1, 2, 3] S_

variable [Facts]

def fn {F : FTy → Type} [FloatOps F] (main_arg0 : FVec F S1x8192x1024 .f32) (main_arg1 : FVec F S1024x8192 .f32) (main_arg2 : FVec F S1x1024x64x128 .f32) (main_arg3 : FVec F S1x1024x64x128 .f32) (main_arg4 : FVec F S8192x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1x1024x64x128 .f32 := Host.absf main_arg2
  let main_cst_2 : FVec F S_ .f32 := constant S_ .f32 0x7F800000#32
  let main_v10 : FVec F S1x1024x64x128 .f32 := broadcastInDim S1x1024x64x128 ![] bcast_S_S1x1024x64x128 main_cst_2
  let main_v11 : IVec S1x1024x64x128 1 := cmpf .olt main_v9 main_v10
  let main_c_3 : IVec S_ 1 := constantI S_ 1 1#1
  let main_v12 : IVec S_ 1 := (fun x v => Host.reduce IntOp.andi x v reducesTo_S1x1024x64x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x1024 : Shape := ⟨2, ![1024, 1024]⟩
abbrev S1x1024x64x128 : Shape := ⟨4, ![1, 1024, 64, 128]⟩
abbrev S_ : Shape := ⟨0, ![]⟩
abbrev S1024x64x128 : Shape := ⟨3, ![1024, 64, 128]⟩
abbrev S1024x8x128 : Shape := ⟨3, ![1024, 8, 128]⟩
abbrev S8x1024x128 : Shape := ⟨3, ![8, 1024, 128]⟩
abbrev S8x512x1024 : Shape := ⟨3, ![8, 512, 1024]⟩
abbrev S2x512x1024 : Shape := ⟨3, ![2, 512, 1024]⟩
abbrev S8 : Shape := ⟨1, ![8]⟩
abbrev S512x1024 : Shape := ⟨2, ![512, 1024]⟩
abbrev S1x512x1024 : Shape := ⟨3, ![1, 512, 1024]⟩
abbrev S1 : Shape := ⟨1, ![1]⟩
abbrev S1024x128 : Shape := ⟨2, ![1024, 128]⟩
abbrev S1x1024x128 : Shape := ⟨3, ![1, 1024, 128]⟩
abbrev S1024 : Shape := ⟨1, ![1024]⟩
abbrev S1024x1 : Shape := ⟨2, ![1024, 1]⟩

abbrev nBuf : Space → Nat
  | .hbm => 43
  | .vmem => 13
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x64x128, .f32⟩
  | .hbm, ⟨3, _⟩ => ⟨S1x1024x64x128, .f32⟩
  | .hbm, ⟨4, _⟩ => ⟨S1024x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1024x64x128, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S1024x8x128, .f32⟩
  | .hbm, ⟨22, _⟩ => ⟨S8x1024x128, .f32⟩
  | .hbm, ⟨23, _⟩ => ⟨S8x1024x128, .bf16⟩
  | .hbm, ⟨24, _⟩ => ⟨S1024x64x128, .f32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S1024x8x128, .f32⟩
  | .hbm, ⟨35, _⟩ => ⟨S8x1024x128, .f32⟩
  | .hbm, ⟨36, _⟩ => ⟨S8x1024x128, .bf16⟩
  | .hbm, ⟨37, _⟩ => ⟨S1024x1024, .f32⟩
  | .hbm, ⟨38, _⟩ => ⟨S1024x1024, .bf16⟩
  | .hbm, ⟨39, _⟩ => ⟨S1024x1024, .bf16⟩
  | .hbm, ⟨40, _⟩ => ⟨S1024x1024, .bf16⟩
  | .hbm, ⟨41, _⟩ => ⟨S1024x1024, .f32⟩
  | .hbm, ⟨42, _⟩ => ⟨S1x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S8x1024x128, .bf16⟩
  | .local _ .vmem, ⟨3, _⟩ => ⟨S8x1024x128, .bf16⟩
  | .local _ .vmem, ⟨4, _⟩ => ⟨S1024x1024, .bf16⟩
  | .local _ .vmem, ⟨5, _⟩ => ⟨S1024x1024, .f32⟩
  | .local _ .vmem, ⟨6, _⟩ => ⟨S8x512x1024, .bf16⟩
  | .local _ .vmem, ⟨7, _⟩ => ⟨S8x512x1024, .bf16⟩
  | .local _ .vmem, ⟨8, _⟩ => ⟨S2x512x1024, .bf16⟩
  | .local _ .vmem, ⟨9, _⟩ => ⟨S2x512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 3 → Bool
  | ⟨0, _⟩ => true
  | ⟨1, _⟩ => true
  | ⟨2, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 3 70 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_c_5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_6 : Ref sig .tc := ⟨.hbm, 25, rfl⟩
abbrev main_v14 : Ref sig .tc := ⟨.hbm, 26, rfl⟩
abbrev main_c_7 : Ref sig .tc := ⟨.hbm, 27, rfl⟩
abbrev main_v15 : Ref sig .tc := ⟨.hbm, 28, rfl⟩
abbrev main_c_8 : Ref sig .tc := ⟨.hbm, 29, rfl⟩
abbrev main_v16 : Ref sig .tc := ⟨.hbm, 30, rfl⟩
abbrev main_v17 : Ref sig .tc := ⟨.hbm, 31, rfl⟩
abbrev main_c_9 : Ref sig .tc := ⟨.hbm, 32, rfl⟩
abbrev main_c_10 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_35 : BitVec 32 := 1#32
  let v76 : BitVec 32 := Scalar.muli v7 c1_i32_35
  let v77 : BitVec 32 := Scalar.addi c0_i32_36 v76
  v77.toNat
def k0_dev4 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_45 : BitVec 32 := 1#32
  let v86 : BitVec 32 := Scalar.muli v5 c1_i32_45
  let v87 : BitVec 32 := Scalar.addi c0_i32_46 v86
  v87.toNat
@[reducible] def k0_t1_loop : Scf.Loop 32 :=
  let c0_i32_71 : BitVec 32 := 0#32
  let c8_i32_72 : BitVec 32 := 8#32
  let v133 : BitVec 32 := Scalar.addi c0_i32_71 c8_i32_72
  let c1_i32_73 : BitVec 32 := 1#32
  ⟨c0_i32_71, v133, c1_i32_73⟩
def k0_off1 (k0_t1 : Fin k0_t1_loop.trips) : Fin 2 → Nat :=
  let c0_1403 : Index := 0#32
  let c0_i32_71 : BitVec 32 := 0#32
  let c1_i32_73 : BitVec 32 := 1#32
  let arg23 : BitVec 32 := Scf.iv c0_i32_71 c1_i32_73 k0_t1
  let c128_i32 : BitVec 32 := 128#32
  let v1370 : BitVec 32 := Scalar.muli arg23 c128_i32
  let v1371 : Index := Scalar.indexCast v1370
  ![0, v1371.toNat]
def k0_off2 (k0_t1 : Fin k0_t1_loop.trips) : Fin 3 → Nat :=
  let c0_i32_71 : BitVec 32 := 0#32
  let c1_i32_73 : BitVec 32 := 1#32
  let arg23 : BitVec 32 := Scf.iv c0_i32_71 c1_i32_73 k0_t1
  let v1373 : Index := Scalar.indexCast arg23
  let c0_1404 : Index := 0#32
  let c0_1405 : Index := 0#32
  ![v1373.toNat, 0, 0]
def k0_dev5 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_116 : BitVec 32 := 1#32
  let v167 : BitVec 32 := Scalar.muli v7 c1_i32_116
  let v168 : BitVec 32 := Scalar.addi c0_i32_117 v167
  v168.toNat
def k0_dev6 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_126 : BitVec 32 := 1#32
  let v177 : BitVec 32 := Scalar.muli v5 c1_i32_126
  let v178 : BitVec 32 := Scalar.addi c0_i32_127 v177
  v178.toNat
def k0_dev7 (d0 : Dev nD) : Nat :=
  let c0_i32_137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_136 : BitVec 32 := 1#32
  let v187 : BitVec 32 := Scalar.muli v7 c1_i32_136
  let v188 : BitVec 32 := Scalar.addi c0_i32_137 v187
  v188.toNat
def k0_dev8 (d0 : Dev nD) : Nat :=
  let c0_i32_147 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_146 : BitVec 32 := 1#32
  let v197 : BitVec 32 := Scalar.muli v5 c1_i32_146
  let v198 : BitVec 32 := Scalar.addi c0_i32_147 v197
  v198.toNat
@[reducible] def k0_t2_loop : Scf.Loop 32 :=
  let c0_i32_180 : BitVec 32 := 0#32
  let c8_i32_181 : BitVec 32 := 8#32
  let v250 : BitVec 32 := Scalar.addi c0_i32_180 c8_i32_181
  let c1_i32_182 : BitVec 32 := 1#32
  ⟨c0_i32_180, v250, c1_i32_182⟩
def k0_off3 (k0_t2 : Fin k0_t2_loop.trips) : Fin 2 → Nat :=
  let c0_1403 : Index := 0#32
  let c0_i32_180 : BitVec 32 := 0#32
  let c1_i32_182 : BitVec 32 := 1#32
  let arg23 : BitVec 32 := Scf.iv c0_i32_180 c1_i32_182 k0_t2
  let c128_i32 : BitVec 32 := 128#32
  let v1370 : BitVec 32 := Scalar.muli arg23 c128_i32
  let v1371 : Index := Scalar.indexCast v1370
  ![0, v1371.toNat]
def k0_off4 (k0_t2 : Fin k0_t2_loop.trips) : Fin 3 → Nat :=
  let c0_i32_180 : BitVec 32 := 0#32
  let c1_i32_182 : BitVec 32 := 1#32
  let arg23 : BitVec 32 := Scf.iv c0_i32_180 c1_i32_182 k0_t2
  let v1373 : Index := Scalar.indexCast arg23
  let c0_1404 : Index := 0#32
  let c0_1405 : Index := 0#32
  ![v1373.toNat, 0, 0]
def k0_dev9 (d0 : Dev nD) : Nat :=
  let c0_i32_231 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_230 : BitVec 32 := 1#32
  let v286 : BitVec 32 := Scalar.muli v5 c1_i32_230
  let v287 : BitVec 32 := Scalar.addi c0_i32_231 v286
  v287.toNat
def k0_dev10 (d0 : Dev nD) : Nat :=
  let c0_i32_234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_233 : BitVec 32 := 1#32
  let v288 : BitVec 32 := Scalar.muli v7 c1_i32_233
  let v289 : BitVec 32 := Scalar.addi c0_i32_234 v288
  v289.toNat
def k0_dev11 (d0 : Dev nD) : Nat :=
  let c0_i32_276 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_275 : BitVec 32 := 1#32
  let v324 : BitVec 32 := Scalar.muli v7 c1_i32_275
  let v325 : BitVec 32 := Scalar.addi c0_i32_276 v324
  v325.toNat
def k0_dev12 (d0 : Dev nD) : Nat :=
  let c0_i32_286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_285 : BitVec 32 := 1#32
  let v334 : BitVec 32 := Scalar.muli v5 c1_i32_285
  let v335 : BitVec 32 := Scalar.addi c0_i32_286 v334
  v335.toNat
def k0_dev13 (d0 : Dev nD) : Nat :=
  let c0_i32_300 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_299 : BitVec 32 := 1#32
  let v344 : BitVec 32 := Scalar.muli v7 c1_i32_299
  let v345 : BitVec 32 := Scalar.addi c0_i32_300 v344
  v345.toNat
def k0_dev14 (d0 : Dev nD) : Nat :=
  let c0_i32_310 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_309 : BitVec 32 := 1#32
  let v354 : BitVec 32 := Scalar.muli v5 c1_i32_309
  let v355 : BitVec 32 := Scalar.addi c0_i32_310 v354
  v355.toNat
@[reducible] def k0_t3_loop : Scf.Loop 32 :=
  let c0_i32_343 : BitVec 32 := 0#32
  let c8_i32_344 : BitVec 32 := 8#32
  let v407 : BitVec 32 := Scalar.addi c0_i32_343 c8_i32_344
  let c1_i32_345 : BitVec 32 := 1#32
  ⟨c0_i32_343, v407, c1_i32_345⟩
def k0_off5 (k0_t3 : Fin k0_t3_loop.trips) : Fin 2 → Nat :=
  let c0_1403 : Index := 0#32
  let c0_i32_343 : BitVec 32 := 0#32
  let c1_i32_345 : BitVec 32 := 1#32
  let arg23 : BitVec 32 := Scf.iv c0_i32_343 c1_i32_345 k0_t3
  let c128_i32 : BitVec 32 := 128#32
  let v1370 : BitVec 32 := Scalar.muli arg23 c128_i32
  let v1371 : Index := Scalar.indexCast v1370
  ![0, v1371.toNat]
def k0_off6 (k0_t3 : Fin k0_t3_loop.trips) : Fin 3 → Nat :=
  let c0_i32_343 : BitVec 32 := 0#32
  let c1_i32_345 : BitVec 32 := 1#32
  let arg23 : BitVec 32 := Scf.iv c0_i32_343 c1_i32_345 k0_t3
  let v1373 : Index := Scalar.indexCast arg23
  let c0_1404 : Index := 0#32
  let c0_1405 : Index := 0#32
  ![v1373.toNat, 0, 0]
def k0_dev15 (d0 : Dev nD) : Nat :=
  let c0_i32_394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_393 : BitVec 32 := 1#32
  let v443 : BitVec 32 := Scalar.muli v5 c1_i32_393
  let v444 : BitVec 32 := Scalar.addi c0_i32_394 v443
  v444.toNat
def k0_dev16 (d0 : Dev nD) : Nat :=
  let c0_i32_397 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_396 : BitVec 32 := 1#32
  let v445 : BitVec 32 := Scalar.muli v7 c1_i32_396
  let v446 : BitVec 32 := Scalar.addi c0_i32_397 v445
  v446.toNat
def k0_dev17 (d0 : Dev nD) : Nat :=
  let c0_i32_438 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_437 : BitVec 32 := 1#32
  let v481 : BitVec 32 := Scalar.muli v7 c1_i32_437
  let v482 : BitVec 32 := Scalar.addi c0_i32_438 v481
  v482.toNat
def k0_dev18 (d0 : Dev nD) : Nat :=
  let c0_i32_448 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_447 : BitVec 32 := 1#32
  let v491 : BitVec 32 := Scalar.muli v5 c1_i32_447
  let v492 : BitVec 32 := Scalar.addi c0_i32_448 v491
  v492.toNat
def k0_dev19 (d0 : Dev nD) : Nat :=
  let c0_i32_462 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_461 : BitVec 32 := 1#32
  let v501 : BitVec 32 := Scalar.muli v7 c1_i32_461
  let v502 : BitVec 32 := Scalar.addi c0_i32_462 v501
  v502.toNat
def k0_dev20 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_471 : BitVec 32 := 1#32
  let v511 : BitVec 32 := Scalar.muli v5 c1_i32_471
  let v512 : BitVec 32 := Scalar.addi c0_i32_472 v511
  v512.toNat
@[reducible] def k0_t4_loop : Scf.Loop 32 :=
  let c0_i32_505 : BitVec 32 := 0#32
  let c8_i32_506 : BitVec 32 := 8#32
  let v564 : BitVec 32 := Scalar.addi c0_i32_505 c8_i32_506
  let c1_i32_507 : BitVec 32 := 1#32
  ⟨c0_i32_505, v564, c1_i32_507⟩
def k0_off7 (k0_t4 : Fin k0_t4_loop.trips) : Fin 2 → Nat :=
  let c0_1403 : Index := 0#32
  let c0_i32_505 : BitVec 32 := 0#32
  let c1_i32_507 : BitVec 32 := 1#32
  let arg23 : BitVec 32 := Scf.iv c0_i32_505 c1_i32_507 k0_t4
  let c128_i32 : BitVec 32 := 128#32
  let v1370 : BitVec 32 := Scalar.muli arg23 c128_i32
  let v1371 : Index := Scalar.indexCast v1370
  ![0, v1371.toNat]
def k0_off8 (k0_t4 : Fin k0_t4_loop.trips) : Fin 3 → Nat :=
  let c0_i32_505 : BitVec 32 := 0#32
  let c1_i32_507 : BitVec 32 := 1#32
  let arg23 : BitVec 32 := Scf.iv c0_i32_505 c1_i32_507 k0_t4
  let v1373 : Index := Scalar.indexCast arg23
  let c0_1404 : Index := 0#32
  let c0_1405 : Index := 0#32
  ![v1373.toNat, 0, 0]
def k0_dev21 (d0 : Dev nD) : Nat :=
  let c0_i32_556 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_555 : BitVec 32 := 1#32
  let v600 : BitVec 32 := Scalar.muli v5 c1_i32_555
  let v601 : BitVec 32 := Scalar.addi c0_i32_556 v600
  v601.toNat
def k0_dev22 (d0 : Dev nD) : Nat :=
  let c0_i32_559 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_558 : BitVec 32 := 1#32
  let v602 : BitVec 32 := Scalar.muli v7 c1_i32_558
  let v603 : BitVec 32 := Scalar.addi c0_i32_559 v602
  v603.toNat
def k0_dev23 (d0 : Dev nD) : Nat :=
  let c0_i32_600 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_599 : BitVec 32 := 1#32
  let v638 : BitVec 32 := Scalar.muli v7 c1_i32_599
  let v639 : BitVec 32 := Scalar.addi c0_i32_600 v638
  v639.toNat
def k0_dev24 (d0 : Dev nD) : Nat :=
  let c0_i32_610 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_609 : BitVec 32 := 1#32
  let v648 : BitVec 32 := Scalar.muli v5 c1_i32_609
  let v649 : BitVec 32 := Scalar.addi c0_i32_610 v648
  v649.toNat
def k0_dev25 (d0 : Dev nD) : Nat :=
  let c0_i32_624 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_623 : BitVec 32 := 1#32
  let v658 : BitVec 32 := Scalar.muli v7 c1_i32_623
  let v659 : BitVec 32 := Scalar.addi c0_i32_624 v658
  v659.toNat
def k0_dev26 (d0 : Dev nD) : Nat :=
  let c0_i32_634 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_633 : BitVec 32 := 1#32
  let v668 : BitVec 32 := Scalar.muli v5 c1_i32_633
  let v669 : BitVec 32 := Scalar.addi c0_i32_634 v668
  v669.toNat
@[reducible] def k0_t5_loop : Scf.Loop 32 :=
  let c0_i32_667 : BitVec 32 := 0#32
  let c8_i32_668 : BitVec 32 := 8#32
  let v721 : BitVec 32 := Scalar.addi c0_i32_667 c8_i32_668
  let c1_i32_669 : BitVec 32 := 1#32
  ⟨c0_i32_667, v721, c1_i32_669⟩
def k0_off9 (k0_t5 : Fin k0_t5_loop.trips) : Fin 2 → Nat :=
  let c0_1403 : Index := 0#32
  let c0_i32_667 : BitVec 32 := 0#32
  let c1_i32_669 : BitVec 32 := 1#32
  let arg23 : BitVec 32 := Scf.iv c0_i32_667 c1_i32_669 k0_t5
  let c128_i32 : BitVec 32 := 128#32
  let v1370 : BitVec 32 := Scalar.muli arg23 c128_i32
  let v1371 : Index := Scalar.indexCast v1370
  ![0, v1371.toNat]
def k0_off10 (k0_t5 : Fin k0_t5_loop.trips) : Fin 3 → Nat :=
  let c0_i32_667 : BitVec 32 := 0#32
  let c1_i32_669 : BitVec 32 := 1#32
  let arg23 : BitVec 32 := Scf.iv c0_i32_667 c1_i32_669 k0_t5
  let v1373 : Index := Scalar.indexCast arg23
  let c0_1404 : Index := 0#32
  let c0_1405 : Index := 0#32
  ![v1373.toNat, 0, 0]
def k0_dev27 (d0 : Dev nD) : Nat :=
  let c0_i32_718 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_717 : BitVec 32 := 1#32
  let v757 : BitVec 32 := Scalar.muli v5 c1_i32_717
  let v758 : BitVec 32 := Scalar.addi c0_i32_718 v757
  v758.toNat
def k0_dev28 (d0 : Dev nD) : Nat :=
  let c0_i32_721 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_720 : BitVec 32 := 1#32
  let v759 : BitVec 32 := Scalar.muli v7 c1_i32_720
  let v760 : BitVec 32 := Scalar.addi c0_i32_721 v759
  v760.toNat
def k0_dev29 (d0 : Dev nD) : Nat :=
  let c0_i32_762 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_761 : BitVec 32 := 1#32
  let v795 : BitVec 32 := Scalar.muli v7 c1_i32_761
  let v796 : BitVec 32 := Scalar.addi c0_i32_762 v795
  v796.toNat
def k0_dev30 (d0 : Dev nD) : Nat :=
  let c0_i32_772 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_771 : BitVec 32 := 1#32
  let v805 : BitVec 32 := Scalar.muli v5 c1_i32_771
  let v806 : BitVec 32 := Scalar.addi c0_i32_772 v805
  v806.toNat
def k0_dev31 (d0 : Dev nD) : Nat :=
  let c0_i32_786 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_785 : BitVec 32 := 1#32
  let v815 : BitVec 32 := Scalar.muli v7 c1_i32_785
  let v816 : BitVec 32 := Scalar.addi c0_i32_786 v815
  v816.toNat
def k0_dev32 (d0 : Dev nD) : Nat :=
  let c0_i32_796 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_795 : BitVec 32 := 1#32
  let v825 : BitVec 32 := Scalar.muli v5 c1_i32_795
  let v826 : BitVec 32 := Scalar.addi c0_i32_796 v825
  v826.toNat
@[reducible] def k0_t6_loop : Scf.Loop 32 :=
  let c0_i32_829 : BitVec 32 := 0#32
  let c8_i32_830 : BitVec 32 := 8#32
  let v878 : BitVec 32 := Scalar.addi c0_i32_829 c8_i32_830
  let c1_i32_831 : BitVec 32 := 1#32
  ⟨c0_i32_829, v878, c1_i32_831⟩
def k0_off11 (k0_t6 : Fin k0_t6_loop.trips) : Fin 2 → Nat :=
  let c0_1403 : Index := 0#32
  let c0_i32_829 : BitVec 32 := 0#32
  let c1_i32_831 : BitVec 32 := 1#32
  let arg23 : BitVec 32 := Scf.iv c0_i32_829 c1_i32_831 k0_t6
  let c128_i32 : BitVec 32 := 128#32
  let v1370 : BitVec 32 := Scalar.muli arg23 c128_i32
  let v1371 : Index := Scalar.indexCast v1370
  ![0, v1371.toNat]
def k0_off12 (k0_t6 : Fin k0_t6_loop.trips) : Fin 3 → Nat :=
  let c0_i32_829 : BitVec 32 := 0#32
  let c1_i32_831 : BitVec 32 := 1#32
  let arg23 : BitVec 32 := Scf.iv c0_i32_829 c1_i32_831 k0_t6
  let v1373 : Index := Scalar.indexCast arg23
  let c0_1404 : Index := 0#32
  let c0_1405 : Index := 0#32
  ![v1373.toNat, 0, 0]
def k0_dev33 (d0 : Dev nD) : Nat :=
  let c0_i32_880 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_879 : BitVec 32 := 1#32
  let v914 : BitVec 32 := Scalar.muli v5 c1_i32_879
  let v915 : BitVec 32 := Scalar.addi c0_i32_880 v914
  v915.toNat
def k0_dev34 (d0 : Dev nD) : Nat :=
  let c0_i32_883 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_882 : BitVec 32 := 1#32
  let v916 : BitVec 32 := Scalar.muli v7 c1_i32_882
  let v917 : BitVec 32 := Scalar.addi c0_i32_883 v916
  v917.toNat
def k0_dev35 (d0 : Dev nD) : Nat :=
  let c0_i32_924 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_923 : BitVec 32 := 1#32
  let v952 : BitVec 32 := Scalar.muli v7 c1_i32_923
  let v953 : BitVec 32 := Scalar.addi c0_i32_924 v952
  v953.toNat
def k0_dev36 (d0 : Dev nD) : Nat :=
  let c0_i32_934 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_933 : BitVec 32 := 1#32
  let v962 : BitVec 32 := Scalar.muli v5 c1_i32_933
  let v963 : BitVec 32 := Scalar.addi c0_i32_934 v962
  v963.toNat
def k0_dev37 (d0 : Dev nD) : Nat :=
  let c0_i32_948 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_947 : BitVec 32 := 1#32
  let v972 : BitVec 32 := Scalar.muli v7 c1_i32_947
  let v973 : BitVec 32 := Scalar.addi c0_i32_948 v972
  v973.toNat
def k0_dev38 (d0 : Dev nD) : Nat :=
  let c0_i32_958 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_957 : BitVec 32 := 1#32
  let v982 : BitVec 32 := Scalar.muli v5 c1_i32_957
  let v983 : BitVec 32 := Scalar.addi c0_i32_958 v982
  v983.toNat
@[reducible] def k0_t7_loop : Scf.Loop 32 :=
  let c0_i32_991 : BitVec 32 := 0#32
  let c8_i32_992 : BitVec 32 := 8#32
  let v1035 : BitVec 32 := Scalar.addi c0_i32_991 c8_i32_992
  let c1_i32_993 : BitVec 32 := 1#32
  ⟨c0_i32_991, v1035, c1_i32_993⟩
def k0_off13 (k0_t7 : Fin k0_t7_loop.trips) : Fin 2 → Nat :=
  let c0_1403 : Index := 0#32
  let c0_i32_991 : BitVec 32 := 0#32
  let c1_i32_993 : BitVec 32 := 1#32
  let arg23 : BitVec 32 := Scf.iv c0_i32_991 c1_i32_993 k0_t7
  let c128_i32 : BitVec 32 := 128#32
  let v1370 : BitVec 32 := Scalar.muli arg23 c128_i32
  let v1371 : Index := Scalar.indexCast v1370
  ![0, v1371.toNat]
def k0_off14 (k0_t7 : Fin k0_t7_loop.trips) : Fin 3 → Nat :=
  let c0_i32_991 : BitVec 32 := 0#32
  let c1_i32_993 : BitVec 32 := 1#32
  let arg23 : BitVec 32 := Scf.iv c0_i32_991 c1_i32_993 k0_t7
  let v1373 : Index := Scalar.indexCast arg23
  let c0_1404 : Index := 0#32
  let c0_1405 : Index := 0#32
  ![v1373.toNat, 0, 0]
def k0_dev39 (d0 : Dev nD) : Nat :=
  let c0_i32_1042 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1041 : BitVec 32 := 1#32
  let v1071 : BitVec 32 := Scalar.muli v5 c1_i32_1041
  let v1072 : BitVec 32 := Scalar.addi c0_i32_1042 v1071
  v1072.toNat
def k0_dev40 (d0 : Dev nD) : Nat :=
  let c0_i32_1045 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1044 : BitVec 32 := 1#32
  let v1073 : BitVec 32 := Scalar.muli v7 c1_i32_1044
  let v1074 : BitVec 32 := Scalar.addi c0_i32_1045 v1073
  v1074.toNat
def k0_dev41 (d0 : Dev nD) : Nat :=
  let c0_i32_1091 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1090 : BitVec 32 := 1#32
  let v1109 : BitVec 32 := Scalar.muli v7 c1_i32_1090
  let v1110 : BitVec 32 := Scalar.addi c0_i32_1091 v1109
  v1110.toNat
def k0_dev42 (d0 : Dev nD) : Nat :=
  let c0_i32_1101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1100 : BitVec 32 := 1#32
  let v1119 : BitVec 32 := Scalar.muli v5 c1_i32_1100
  let v1120 : BitVec 32 := Scalar.addi c0_i32_1101 v1119
  v1120.toNat
@[reducible] def k0_t8_loop : Scf.Loop 32 :=
  let c0_i32_1134 : BitVec 32 := 0#32
  let c8_i32_1135 : BitVec 32 := 8#32
  let v1172 : BitVec 32 := Scalar.addi c0_i32_1134 c8_i32_1135
  let c1_i32_1136 : BitVec 32 := 1#32
  ⟨c0_i32_1134, v1172, c1_i32_1136⟩
def k0_off15 (k0_t8 : Fin k0_t8_loop.trips) : Fin 2 → Nat :=
  let c0_1403 : Index := 0#32
  let c0_i32_1134 : BitVec 32 := 0#32
  let c1_i32_1136 : BitVec 32 := 1#32
  let arg23 : BitVec 32 := Scf.iv c0_i32_1134 c1_i32_1136 k0_t8
  let c128_i32 : BitVec 32 := 128#32
  let v1370 : BitVec 32 := Scalar.muli arg23 c128_i32
  let v1371 : Index := Scalar.indexCast v1370
  ![0, v1371.toNat]
def k0_off16 (k0_t8 : Fin k0_t8_loop.trips) : Fin 3 → Nat :=
  let c0_i32_1134 : BitVec 32 := 0#32
  let c1_i32_1136 : BitVec 32 := 1#32
  let arg23 : BitVec 32 := Scf.iv c0_i32_1134 c1_i32_1136 k0_t8
  let v1373 : Index := Scalar.indexCast arg23
  let c0_1404 : Index := 0#32
  let c0_1405 : Index := 0#32
  ![v1373.toNat, 0, 0]
def k0_dev43 (d0 : Dev nD) : Nat :=
  let c0_i32_1185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1184 : BitVec 32 := 1#32
  let v1208 : BitVec 32 := Scalar.muli v5 c1_i32_1184
  let v1209 : BitVec 32 := Scalar.addi c0_i32_1185 v1208
  v1209.toNat
def k0_dev44 (d0 : Dev nD) : Nat :=
  let c0_i32_1188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1187 : BitVec 32 := 1#32
  let v1210 : BitVec 32 := Scalar.muli v7 c1_i32_1187
  let v1211 : BitVec 32 := Scalar.addi c0_i32_1188 v1210
  v1211.toNat
def k0_dev45 (d0 : Dev nD) : Nat :=
  let c0_i32_1214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1213 : BitVec 32 := 1#32
  let v1230 : BitVec 32 := Scalar.muli v7 c1_i32_1213
  let v1231 : BitVec 32 := Scalar.addi c0_i32_1214 v1230
  v1231.toNat
def k0_dev46 (d0 : Dev nD) : Nat :=
  let c0_i32_1224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1223 : BitVec 32 := 1#32
  let v1240 : BitVec 32 := Scalar.muli v5 c1_i32_1223
  let v1241 : BitVec 32 := Scalar.addi c0_i32_1224 v1240
  v1241.toNat
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x8192x1024 : Shape := ⟨3, ![1, 8192, 1024]⟩
abbrev S1024x8192 : Shape := ⟨2, ![1024, 8192]⟩
abbrev S1x1024x64x128 : Shape := ⟨4, ![1, 1024, 64, 128]⟩
abbrev S8192x1024 : Shape := ⟨2, ![8192, 1024]⟩
abbrev S1x8192x8192 : Shape := ⟨3, ![1, 8192, 8192]⟩
abbrev S1x8192x64x128 : Shape := ⟨4, ![1, 8192, 64, 128]⟩
abbrev S8192 : Shape := ⟨1, ![8192]⟩
abbrev S_ : Shape := ⟨0, ![]⟩
abbrev S8192x1 : Shape := ⟨2, ![8192, 1]⟩
abbrev S1024 : Shape := ⟨1, ![1024]⟩
abbrev S1x1024 : Shape := ⟨2, ![1, 1024]⟩
abbrev S1x64x8192x1024 : Shape := ⟨4, ![1, 64, 8192, 1024]⟩
abbrev S1x1x8192x1024 : Shape := ⟨4, ![1, 1, 8192, 1024]⟩
abbrev S1x64x8192 : Shape := ⟨3, ![1, 64, 8192]⟩
abbrev S1x64x8192x1 : Shape := ⟨4, ![1, 64, 8192, 1]⟩
abbrev S1x1x8192x1 : Shape := ⟨4, ![1, 1, 8192, 1]⟩
abbrev S1x64x128x8192 : Shape := ⟨4, ![1, 64, 128, 8192]⟩

abbrev nBuf : Space → Nat
  | .hbm => 123
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024x8192, .f32⟩
  | .hbm, ⟨2, _⟩ => ⟨S1x1024x64x128, .f32⟩
  | .hbm, ⟨3, _⟩ => ⟨S1x1024x64x128, .f32⟩
  | .hbm, ⟨4, _⟩ => ⟨S8192x1024, .f32⟩
  | .hbm, ⟨5, _⟩ => ⟨S1x8192x8192, .f32⟩
  | .hbm, ⟨6, _⟩ => ⟨S1x8192x64x128, .f32⟩
  | .hbm, ⟨7, _⟩ => ⟨S8192, .i32⟩
  | .hbm, ⟨8, _⟩ => ⟨S_, .i32⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S8192, .i32⟩
  | .hbm, ⟨17, _⟩ => ⟨S8192, .i32⟩
  | .hbm, ⟨18, _⟩ => ⟨S_, .i32⟩
  | .hbm, ⟨19, _⟩ => ⟨S8192, .i32⟩
  | .hbm, ⟨20, _⟩ => ⟨S8192, .i1⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S8192x1, .i32⟩
  | .hbm, ⟨27, _⟩ => ⟨S1024, .i32⟩
  | .hbm, ⟨28, _⟩ => ⟨S_, .i32⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1x1024, .i32⟩
  | .hbm, ⟨47, _⟩ => ⟨S8192x1024, .i32⟩
  | .hbm, ⟨48, _⟩ => ⟨S8192x1024, .i32⟩
  | .hbm, ⟨49, _⟩ => ⟨S8192x1024, .i1⟩
  | .hbm, ⟨50, _⟩ => ⟨S_, .i32⟩
  | .hbm, ⟨51, _⟩ => ⟨S1x1024, .i32⟩
  | .hbm, ⟨52, _⟩ => ⟨S1x1024, .i1⟩
  | .hbm, ⟨53, _⟩ => ⟨S8192x1024, .i1⟩
  | .hbm, ⟨54, _⟩ => ⟨S8192x1024, .i1⟩
  | .hbm, ⟨55, _⟩ => ⟨S8192x1024, .i32⟩
  | .hbm, ⟨56, _⟩ => ⟨S8192x1024, .i32⟩
  | .hbm, ⟨57, _⟩ => ⟨S8192x1024, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S8192x1024, .i32⟩
  | .hbm, ⟨65, _⟩ => ⟨S8192x1024, .i32⟩
  | .hbm, ⟨66, _⟩ => ⟨S_, .i32⟩
  | .hbm, ⟨67, _⟩ => ⟨S8192x1024, .i32⟩
  | .hbm, ⟨68, _⟩ => ⟨S8192x1024, .i1⟩
  | .hbm, ⟨69, _⟩ => ⟨S_, .i32⟩
  | .hbm, ⟨70, _⟩ => ⟨S8192x1024, .i32⟩
  | .hbm, ⟨71, _⟩ => ⟨S8192x1024, .i1⟩
  | .hbm, ⟨72, _⟩ => ⟨S_, .i32⟩
  | .hbm, ⟨73, _⟩ => ⟨S_, .i1⟩
  | .hbm, ⟨74, _⟩ => ⟨S8192x1024, .i1⟩
  | .hbm, ⟨75, _⟩ => ⟨S8192x1024, .i1⟩
  | .hbm, ⟨76, _⟩ => ⟨S8192x1024, .i1⟩
  | .hbm, ⟨77, _⟩ => ⟨S8192x1024, .i32⟩
  | .hbm, ⟨78, _⟩ => ⟨S8192x1024, .i32⟩
  | .hbm, ⟨79, _⟩ => ⟨S8192x1024, .i32⟩
  | .hbm, ⟨80, _⟩ => ⟨S_, .i32⟩
  | .hbm, ⟨81, _⟩ => ⟨S8192x1024, .i32⟩
  | .hbm, ⟨82, _⟩ => ⟨S8192x1024, .i1⟩
  | .hbm, ⟨83, _⟩ => ⟨S8192x1024, .i1⟩
  | .hbm, ⟨84, _⟩ => ⟨S1x64x8192x1024, .f32⟩
  | .hbm, ⟨85, _⟩ => ⟨S_, .f32⟩
  | .hbm, ⟨86, _⟩ => ⟨S1x64x8192x1024, .f32⟩
  | .hbm, ⟨87, _⟩ => ⟨S1x64x8192x1024, .f32⟩
  | .hbm, ⟨88, _⟩ => ⟨S1x1x8192x1024, .i1⟩
  | .hbm, ⟨89, _⟩ => ⟨S_, .f32⟩
  | .hbm, ⟨90, _⟩ => ⟨S_, .f32⟩
  | .hbm, ⟨91, _⟩ => ⟨S1x64x8192x1024, .i1⟩
  | .hbm, ⟨92, _⟩ => ⟨S1x64x8192x1024, .f32⟩
  | .hbm, ⟨93, _⟩ => ⟨S1x64x8192x1024, .f32⟩
  | .hbm, ⟨94, _⟩ => ⟨S_, .f32⟩
  | .hbm, ⟨95, _⟩ => ⟨S1x64x8192, .f32⟩
  | .hbm, ⟨96, _⟩ => ⟨S1x64x8192x1, .f32⟩
  | .hbm, ⟨97, _⟩ => ⟨S1x64x8192x1024, .f32⟩
  | .hbm, ⟨98, _⟩ => ⟨S1x64x8192x1024, .f32⟩
  | .hbm, ⟨99, _⟩ => ⟨S1x64x8192x1024, .f32⟩
  | .hbm, ⟨100, _⟩ => ⟨S_, .i1⟩
  | .hbm, ⟨101, _⟩ => ⟨S8192, .i1⟩
  | .hbm, ⟨102, _⟩ => ⟨S1x1x8192x1, .i1⟩
  | .hbm, ⟨103, _⟩ => ⟨S_, .f32⟩
  | .hbm, ⟨104, _⟩ => ⟨S1x64x8192, .f32⟩
  | .hbm, ⟨105, _⟩ => ⟨S1x64x8192x1, .f32⟩
  | .hbm, ⟨106, _⟩ => ⟨S_, .f32⟩
  | .hbm, ⟨107, _⟩ => ⟨S_, .f32⟩
  | .hbm, ⟨108, _⟩ => ⟨S1x64x8192x1, .i1⟩
  | .hbm, ⟨109, _⟩ => ⟨S1x64x8192x1, .f32⟩
  | .hbm, ⟨110, _⟩ => ⟨S1x64x8192x1, .f32⟩
  | .hbm, ⟨111, _⟩ => ⟨S1x64x8192x1024, .f32⟩
  | .hbm, ⟨112, _⟩ => ⟨S1x64x8192x1024, .f32⟩
  | .hbm, ⟨113, _⟩ => ⟨S1x1x8192x1, .i1⟩
  | .hbm, ⟨114, _⟩ => ⟨S_, .f32⟩
  | .hbm, ⟨115, _⟩ => ⟨S_, .f32⟩
  | .hbm, ⟨116, _⟩ => ⟨S1x64x8192x1024, .i1⟩
  | .hbm, ⟨117, _⟩ => ⟨S1x64x8192x1024, .f32⟩
  | .hbm, ⟨118, _⟩ => ⟨S1x64x8192x1024, .f32⟩
  | .hbm, ⟨119, _⟩ => ⟨S1x64x128x8192, .f32⟩
  | .hbm, ⟨120, _⟩ => ⟨S1x8192x64x128, .f32⟩
  | .hbm, ⟨121, _⟩ => ⟨S1x8192x8192, .f32⟩
  | .hbm, ⟨122, _⟩ => ⟨S1x8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Prog.lean ====
/- The kernel's body written again as a program of a few parametric pieces.

   The printed body is one long sequence. It repeats eight times the same three things: pass a block of `x` on to the
   neighbours, compute this device's share of the attention layer for the block that is held now, and pass the running
   sums on. Here each of them is one program, over the step number `h` (a natural number with a bound) and over the
   direction `d` (`false`: to the right neighbour, carrying the upper half of the rows; `true`: to the left one,
   carrying the lower half). `body_eq` says that the printed body is the sequence of these pieces. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points

@[expose] public section

noncomputable section

namespace Cert.Proof.Ring

open Idealize.ShloMosaic Idealize.ShloMosaic.TcCoe Idealize.SL.Sem
open Cert.KernelIdeal Cert.KernelIdeal.Gen

variable {F : FTy → Type} [FloatOps F] [Named F]

/-! ## The buffers -/

/-- The block of `x` this device starts with, its query weights, its heads' keys and values, its output weights, and
    the result. -/
abbrev gX : Memref sig .tc .vmem S1024x1024 .bf16 := Memref.whole cc0_stg0_0
abbrev gWq : Memref sig .tc .vmem S1024x1024 .bf16 := Memref.whole cc0_stg1_0
abbrev gK : Memref sig .tc .vmem S8x1024x128 .bf16 := Memref.whole cc0_stg2_0
abbrev gV : Memref sig .tc .vmem S8x1024x128 .bf16 := Memref.whole cc0_stg3_0
abbrev gWo : Memref sig .tc .vmem S1024x1024 .bf16 := Memref.whole cc0_stg4_0
abbrev gOut : Memref sig .tc .vmem S1024x1024 .f32 := Memref.whole cc0_stg5_0

/-- The eight slots of half blocks of `x` that travel in direction `d`. -/
def gXs : Bool → Memref sig .tc .vmem S8x512x1024 .bf16
  | false => Memref.whole cc0_scratch0
  | true => Memref.whole cc0_scratch1

/-- The two slots of running sums that travel in direction `d`. -/
def gAs : Bool → Memref sig .tc .vmem S2x512x1024 .bf16
  | false => Memref.whole cc0_scratch2
  | true => Memref.whole cc0_scratch3

/-- Scratch: the queries, the heads' contexts, and the product with the output weights. -/
abbrev gQ : Memref sig .tc .vmem S1024x1024 .bf16 := Memref.whole cc0_scratch4
abbrev gCtx : Memref sig .tc .vmem S1024x1024 .bf16 := Memref.whole cc0_scratch5
abbrev gD : Memref sig .tc .vmem S1024x1024 .f32 := Memref.whole cc0_scratch6

theorem gXs_whole (d : Bool) : (gXs d).IsWhole := by cases d <;> exact Memref.isWhole_whole _
theorem gAs_whole (d : Bool) : (gAs d).IsWhole := by cases d <;> exact Memref.isWhole_whole _

/-! ## The semaphores -/

/-- Departures and arrivals of half blocks of `x`. -/
def sX : Bool → DmaSems sig S8
  | false => cc0_scratch7
  | true => cc0_scratch9
def rX : Bool → DmaSems sig S8
  | false => cc0_scratch8
  | true => cc0_scratch10

/-- Departures and arrivals of running sums. -/
def sA : Bool → DmaSems sig S8
  | false => cc0_scratch11
  | true => cc0_scratch13
def rA : Bool → DmaSems sig S8
  | false => cc0_scratch12
  | true => cc0_scratch14

/-- The credit of direction `d`: the neighbour that receives in this direction says that a slot is free again. -/
def sCr : Bool → Sems sig S_
  | false => cc0_scratch15
  | true => cc0_scratch16

/-- One semaphore of an array of eight. -/
def at8 (a : DmaSems sig S8) (k : ℕ) (hk : k < 8) : DmaSem sig :=
  ((a.slice (Rect.unit (s := S8) ![k] S1.size (by intro a; fin_cases a; show k + 1 ≤ 8; omega))).squeeze S_ squeezes_S1_S_).sem

/-! ## The slots -/

theorem inb8 (k : ℕ) (hk : k < 8) : ∀ a, (![k, 0, 0] : Fin 3 → Nat) a + S1x512x1024.size a ≤ S8x512x1024.size a := by
  intro a; fin_cases a
  · show k + 1 ≤ 8; omega
  · exact Nat.le_refl 512
  · exact Nat.le_refl 1024

theorem inb2 (k : ℕ) (hk : k < 2) : ∀ a, (![k, 0, 0] : Fin 3 → Nat) a + S1x512x1024.size a ≤ S2x512x1024.size a := by
  intro a; fin_cases a
  · show k + 1 ≤ 2; omega
  · exact Nat.le_refl 512
  · exact Nat.le_refl 1024

/-- The rectangle of slot `k` of the eight, and of the two. -/
abbrev rc8 (k : ℕ) (hk : k < 8) : Rect S8x512x1024 := Rect.unit (s := S8x512x1024) ![k, 0, 0] S1x512x1024.size (inb8 k hk)
abbrev rc2 (k : ℕ) (hk : k < 2) : Rect S2x512x1024 := Rect.unit (s := S2x512x1024) ![k, 0, 0] S1x512x1024.size (inb2 k hk)

theorem words8 (k : ℕ) (hk : k < 8) : (rc8 k hk).WholeWords (EltTy.packing .bf16) := by
  interval_cases k
  exacts [wordsbf16_S8x512x1024_S1x512x1024_0_0_0, wordsbf16_S8x512x1024_S1x512x1024_1_0_0,
    wordsbf16_S8x512x1024_S1x512x1024_2_0_0, wordsbf16_S8x512x1024_S1x512x1024_3_0_0,
    wordsbf16_S8x512x1024_S1x512x1024_4_0_0, wordsbf16_S8x512x1024_S1x512x1024_5_0_0,
    wordsbf16_S8x512x1024_S1x512x1024_6_0_0, wordsbf16_S8x512x1024_S1x512x1024_7_0_0]

theorem words2 (k : ℕ) (hk : k < 2) : (rc2 k hk).WholeWords (EltTy.packing .bf16) := by
  interval_cases k
  exacts [wordsbf16_S2x512x1024_S1x512x1024_0_0_0, wordsbf16_S2x512x1024_S1x512x1024_1_0_0]

theorem packed2 (k : ℕ) (hk : k < 2) : (rc2 k hk).PackedRows (EltTy.packing .bf16) := by
  interval_cases k
  exacts [packedbf16_S2x512x1024_S1x512x1024_0_0_0, packedbf16_S2x512x1024_S1x512x1024_1_0_0]

/-- Slot `k`, one row of the buffer. -/
abbrev xSl (d : Bool) (k : ℕ) (hk : k < 8) : Memref sig .tc .vmem S1x512x1024 .bf16 := (gXs d).slice (rc8 k hk) (fun _ => rfl)
abbrev aSl (d : Bool) (k : ℕ) (hk : k < 2) : Memref sig .tc .vmem S1x512x1024 .bf16 := (gAs d).slice (rc2 k hk) (fun _ => rfl)

/-- The same as a matrix. -/
abbrev xSq (d : Bool) (k : ℕ) (hk : k < 8) : Memref sig .tc .vmem S512x1024 .bf16 :=
  (xSl d k hk).squeeze S512x1024 squeezes_S1x512x1024_S512x1024
abbrev aSq (d : Bool) (k : ℕ) (hk : k < 2) : Memref sig .tc .vmem S512x1024 .bf16 :=
  (aSl d k hk).squeeze S512x1024 squeezes_S1x512x1024_S512x1024

theorem xSq_exact (d : Bool) (k : ℕ) (hk : k < 8) : (xSq d k hk).view.WordExact :=
  ((gXs_whole d).wordExact_slice rfl _ (words8 k hk)).reshape _ _
theorem aSq_exact (d : Bool) (k : ℕ) (hk : k < 2) : (aSq d k hk).view.WordExact :=
  ((gAs_whole d).wordExact_slice rfl _ (words2 k hk)).reshape _ _

/-- The upper and the lower half of the rows of a square matrix, and all of it. -/
abbrev rcTop : Rect S1024x1024 := Rect.unit (s := S1024x1024) ![0, 0] S512x1024.size inb_S1024x1024_S512x1024_0_0
abbrev rcBot : Rect S1024x1024 := Rect.unit (s := S1024x1024) ![512, 0] S512x1024.size inb_S1024x1024_S512x1024_512_0
abbrev rcAll : Rect S1024x1024 := Rect.unit (s := S1024x1024) ![0, 0] S1024x1024.size inb_S1024x1024_S1024x1024_0_0

/-- The half of the rows that travels in direction `d`. -/
def rcHalf : Bool → Rect S1024x1024
  | false => rcTop
  | true => rcBot

/-- The columns of head `t` among the eight of this device, and its matrix of keys (or values). -/
abbrev rcCol (t : Fin k0_t1_loop.trips) : Rect S1024x1024 :=
  Rect.unit (s := S1024x1024) (k0_off1 t) S1024x128.size (k0_off1_inb t)
abbrev rcHd (t : Fin k0_t1_loop.trips) : Rect S8x1024x128 :=
  Rect.unit (s := S8x1024x128) (k0_off2 t) S1x1024x128.size (k0_off2_inb t)

/-! ## Devices -/

/-- The device direction `d` goes to. -/
def dst (d : Bool) (c : Dev nD) : Dev nD :=
  match d with
  | false => ⟨k0_dev2 c, k0_dev2_lt c⟩
  | true => ⟨k0_dev1 c, k0_dev1_lt c⟩

/-- The device's number on the ring as the kernel computes it. -/
def wd (c : Dev nD) : BitVec 32 := Scalar.remsi (Scalar.divsi (Dev.word c) 1#32) 8#32

/-- The number of the device whose block travels in direction `d` and is here after `k` hops. -/
def wSrc (d : Bool) (c : Dev nD) (k : ℕ) : BitVec 32 :=
  match k with
  | 0 => wd c
  | h + 1 => match d with
    | false => Scalar.remsi (Scalar.subi (Scalar.addi (wd c) 8#32) (BitVec.ofNat 32 (h + 1))) 8#32
    | true => Scalar.remsi (Scalar.addi (Scalar.addi (wd c) (BitVec.ofNat 32 h)) 1#32) 8#32

/-! ## Values -/

/-- A half block of `x` as it is stored in its slot. -/
abbrev vX (v : Vec F S512x1024 .bf16) : FVec F S1x512x1024 .bf16 := k0_pay8 v
/-- A half block's queries. -/
abbrev vQ (x : Vec F S1x512x1024 .bf16) (w : Vec F S1024x1024 .bf16) : FVec F S512x1024 .bf16 := k0_pay13 x w
/-- One head's context, the upper half of the rows being a block of device number `jR` and the lower one of `jL`. -/
abbrev vHead (jR jL : BitVec 32) (q : Vec F S1024x128 .bf16) (k v : Vec F S1x1024x128 .bf16) : FVec F S1024x128 .bf16 :=
  k0_pay21 (k0_pay5 k0_pay3 k0_pay4) k0_pay6 k0_pay7 jR jL q k v
/-- The product with the output weights. -/
abbrev vOut (c w : Vec F S1024x1024 .bf16) : FVec F S1024x1024 .f32 := k0_pay23 (k0_pay22 c w)
/-- A running sum's first term. -/
abbrev vFirst (v : Vec F S512x1024 .f32) : FVec F S1x512x1024 .bf16 := k0_pay17 v
/-- A running sum with one more term. -/
abbrev vAdd (a : Vec F S1x512x1024 .bf16) (v : Vec F S512x1024 .f32) : FVec F S1x512x1024 .bf16 := k0_pay24 a v
/-- A finished sum as it is stored in the result. -/
abbrev vFin (a : Vec F S1x512x1024 .bf16) : FVec F S512x1024 .f32 := k0_pay1 a

/-! ## The pieces -/

/-- The type of the programs below. -/
abbrev PK (F : FTy → Type) [FloatOps F] [Named F] := Prog (TpuEff nD τ sig (Elt F) Λ₀ .tc) PUnit

/-- Tell both neighbours that this device has started, and wait for both. -/
def pBarrier (c : Dev nD) : PK F := do
  semSignalWord (dst true c) (SemArray.scalar (sig.barrier 0 rfl) : Sems sig S_).sem 1#32
  semSignalWord (dst false c) (SemArray.scalar (sig.barrier 0 rfl) : Sems sig S_).sem 1#32
  semWaitWord (SemArray.scalar (sig.barrier 0 rfl) : Sems sig S_).sem 2#32

/-- Copy one half of the own block of `x` to its slot 0. -/
def pInit (d : Bool) : PK F := do
  let v : Vec F S512x1024 .bf16 ← match d with
    | false => Prog.lift (.load gX rcTop.toLoadRect (View.loadsAt_vmem h_S512x1024))
    | true => Prog.lift (.load gX rcBot.toLoadRect (View.loadsAt_vmem h_S512x1024))
  let _ : Vec F S1x512x1024 .bf16 ← Prog.lift (.load (gXs d) (rc8 0 (by decide)).toLoadRect (View.loadsAt_vmem h_S1x512x1024))
  Prog.lift (.store (gXs d) (rc8 0 (by decide)) (vX v) Finset.univ
    (View.stores_vmem h_S1x512x1024 ((gXs_whole d).storeExact_slice rfl _ packedbf16_S8x512x1024_S1x512x1024_0_0_0) (fun _ => rfl)) (.inl rfl))

/-- Send slot `k` of direction `d` on to slot `k + 1` of the neighbour. -/
def pSendX (c : Dev nD) (d : Bool) (k : ℕ) (hk : k < 7) : PK F :=
  Prog.lift (.enqueueDma (xSq d k (by omega))
    (.remote (Dev.tc (dst d c)) (xSq d (k + 1) (by omega)) (.dma (at8 (sX d) k (by omega))))
    (.dma (at8 (rX d) k (by omega))) (xSq_exact d k (by omega)) (xSq_exact d (k + 1) (by omega)) ⟨⟨rfl, Or.inl rfl⟩, trivial⟩)

/-- Wait for the arrival in slot `k + 1`. -/
def pRecvX (d : Bool) (k : ℕ) (hk : k < 7) : PK F :=
  Prog.lift (.waitDma2 (at8 (rX d) k (by omega)) (xSq d k (by omega)) (xSq d (k + 1) (by omega))
    (xSq_exact d k (by omega)) (xSq_exact d (k + 1) (by omega)))

/-- Wait for the departure from slot `k`. -/
def pSentX (d : Bool) (k : ℕ) (hk : k < 7) : PK F :=
  Prog.lift (.waitDma2 (at8 (sX d) k (by omega)) (xSq d (k + 1) (by omega)) (xSq d k (by omega))
    (xSq_exact d (k + 1) (by omega)) (xSq_exact d k (by omega)))

/-- Send the running sum of direction `d` at step `h` from slot `h % 2` on to the neighbour's other slot. -/
def pSendA (c : Dev nD) (d : Bool) (h : ℕ) (hh : h < 8) : PK F :=
  Prog.lift (.enqueueDma (aSq d (h % 2) (by omega))
    (.remote (Dev.tc (dst d c)) (aSq d ((h + 1) % 2) (by omega)) (.dma (at8 (sA d) h hh)))
    (.dma (at8 (rA d) h hh)) (aSq_exact d (h % 2) (by omega)) (aSq_exact d ((h + 1) % 2) (by omega)) ⟨⟨rfl, Or.inl rfl⟩, trivial⟩)

/-- Wait for the departure and the arrival of the running sum of direction `d` at step `h`. -/
def pWaitA (d : Bool) (h : ℕ) (hh : h < 8) : PK F := do
  Prog.lift (.waitDma2 (at8 (sA d) h hh) (aSq d ((h + 1) % 2) (by omega)) (aSq d (h % 2) (by omega))
    (aSq_exact d ((h + 1) % 2) (by omega)) (aSq_exact d (h % 2) (by omega)))
  Prog.lift (.waitDma2 (at8 (rA d) h hh) (aSq d (h % 2) (by omega)) (aSq d ((h + 1) % 2) (by omega))
    (aSq_exact d (h % 2) (by omega)) (aSq_exact d ((h + 1) % 2) (by omega)))

/-- Wait for a credit in each direction, and give one. -/
def pTakeCr : PK F := do
  semWaitWord (sCr false).sem 1#32
  semWaitWord (sCr true).sem 1#32
def pGiveCr (c : Dev nD) : PK F := do
  semSignalWord (dst true c) (sCr false).sem 1#32
  semSignalWord (dst false c) (sCr true).sem 1#32

/-- The queries of one half block. -/
def pQ (d : Bool) (k : ℕ) (hk : k < 8) : PK F := do
  let x : Vec F S1x512x1024 .bf16 ← Prog.lift (.load (gXs d) (rc8 k hk).toLoadRect (View.loadsAt_vmem h_S1x512x1024))
  let w : Vec F S1024x1024 .bf16 ← Prog.lift (.load gWq rcAll.toLoadRect (View.loadsAt_vmem h_S1024x1024))
  match d with
  | false => do
    let _ : Vec F S512x1024 .bf16 ← Prog.lift (.load gQ rcTop.toLoadRect (View.loadsAt_vmem h_S512x1024))
    Prog.lift (.store gQ rcTop (vQ x w) Finset.univ (View.stores_vmem h_S512x1024 ((Memref.isWhole_whole _).storeExact_slice rfl _ packedbf16_S1024x1024_S512x1024_0_0) (fun _ => rfl)) (.inl rfl))
  | true => do
    let _ : Vec F S512x1024 .bf16 ← Prog.lift (.load gQ rcBot.toLoadRect (View.loadsAt_vmem h_S512x1024))
    Prog.lift (.store gQ rcBot (vQ x w) Finset.univ (View.stores_vmem h_S512x1024 ((Memref.isWhole_whole _).storeExact_slice rfl _ packedbf16_S1024x1024_S512x1024_512_0) (fun _ => rfl)) (.inl rfl))

/-- One head's context. -/
def pHead (jR jL : BitVec 32) (t : Fin k0_t1_loop.trips) : PK F := do
  let q : Vec F S1024x128 .bf16 ← Prog.lift (.load gQ (rcCol t).toLoadRect (View.loadsAt_vmem h_S1024x128))
  let k : Vec F S1x1024x128 .bf16 ← Prog.lift (.load gK (rcHd t).toLoadRect (View.loadsAt_vmem h_S1x1024x128))
  let v : Vec F S1x1024x128 .bf16 ← Prog.lift (.load gV (rcHd t).toLoadRect (View.loadsAt_vmem h_S1x1024x128))
  let _ : Vec F S1024x128 .bf16 ← Prog.lift (.load gCtx (rcCol t).toLoadRect (View.loadsAt_vmem h_S1024x128))
  Prog.lift (.store gCtx (rcCol t) (vHead jR jL q k v) Finset.univ (View.stores_vmem h_S1024x128 ((Memref.isWhole_whole _).storeExact_slice rfl _ (k0_off1_packedbf16 t)) (fun _ => rfl)) (.inl rfl))
  pure ⟨⟩

/-- This device's share of the attention layer for the block in slot `k` (its halves may be of two devices). -/
def pPart (c : Dev nD) (k : ℕ) (hk : k < 8) : PK F := do
  pQ false k hk
  pQ true k hk
  Scf.Loop.for k0_t1_loop k0_t1_ok ⟨⟩ fun t _ => pHead (wSrc false c k) (wSrc true c k) t
  let v : Vec F S1024x1024 .bf16 ← Prog.lift (.load gCtx rcAll.toLoadRect (View.loadsAt_vmem h_S1024x1024))
  let w : Vec F S1024x1024 .bf16 ← Prog.lift (.load gWo rcAll.toLoadRect (View.loadsAt_vmem h_S1024x1024))
  let _ : Vec F S1024x1024 .f32 ← Prog.lift (.load gD rcAll.toLoadRect (View.loadsAt_vmem h_S1024x1024))
  Prog.lift (.store gD rcAll (vOut v w) Finset.univ (View.stores_vmem_bits_univ h_S1024x1024 rfl) (.inl rfl))

/-- Load one half of the product. -/
def pD (d : Bool) : Prog (TpuEff nD τ sig (Elt F) Λ₀ .tc) (Vec F S512x1024 .f32) :=
  match d with
  | false => Prog.lift (.load gD rcTop.toLoadRect (View.loadsAt_vmem h_S512x1024))
  | true => Prog.lift (.load gD rcBot.toLoadRect (View.loadsAt_vmem h_S512x1024))

/-- Start the running sum of direction `d`. -/
def pFirst (d : Bool) : PK F := do
  let v : Vec F S512x1024 .f32 ← pD d
  let _ : Vec F S1x512x1024 .bf16 ← Prog.lift (.load (gAs d) (rc2 0 (by decide)).toLoadRect (View.loadsAt_vmem h_S1x512x1024))
  Prog.lift (.store (gAs d) (rc2 0 (by decide)) (vFirst v) Finset.univ
    (View.stores_vmem h_S1x512x1024 ((gAs_whole d).storeExact_slice rfl _ (packed2 0 (by decide))) (fun _ => rfl)) (.inl rfl))

/-- Add this device's term to the running sum that has arrived in slot `k`. -/
def pAdd (d : Bool) (k : ℕ) (hk : k < 2) : PK F := do
  let a : Vec F S1x512x1024 .bf16 ← Prog.lift (.load (gAs d) (rc2 k hk).toLoadRect (View.loadsAt_vmem h_S1x512x1024))
  let v : Vec F S512x1024 .f32 ← pD d
  let _ : Vec F S1x512x1024 .bf16 ← Prog.lift (.load (gAs d) (rc2 k hk).toLoadRect (View.loadsAt_vmem h_S1x512x1024))
  Prog.lift (.store (gAs d) (rc2 k hk) (vAdd a v) Finset.univ
    (View.stores_vmem h_S1x512x1024 ((gAs_whole d).storeExact_slice rfl _ (packed2 k hk)) (fun _ => rfl)) (.inl rfl))

/-- Store the finished sum of direction `d` in its half of the result. -/
def pFin (d : Bool) : PK F := do
  let a : Vec F S1x512x1024 .bf16 ← Prog.lift (.load (gAs d) (rc2 0 (by decide)).toLoadRect (View.loadsAt_vmem h_S1x512x1024))
  match d with
  | false => do
    let _ : Vec F S512x1024 .f32 ← Prog.lift (.load gOut rcTop.toLoadRect (View.loadsAt_vmem h_S512x1024))
    Prog.lift (.store gOut rcTop (vFin a) Finset.univ (View.stores_vmem_bits_univ h_S512x1024 rfl) (.inl rfl))
  | true => do
    let _ : Vec F S512x1024 .f32 ← Prog.lift (.load gOut rcBot.toLoadRect (View.loadsAt_vmem h_S512x1024))
    Prog.lift (.store gOut rcBot (vFin a) Finset.univ (View.stores_vmem_bits_univ h_S512x1024 rfl) (.inl rfl))

/-- Step `h`'s arrivals of `x`, and (but for the last) the next hop. -/
def pX (c : Dev nD) (h : ℕ) (hh : h < 6) : PK F := do
  pRecvX false h (by omega)
  pRecvX true h (by omega)
  pSendX c false (h + 1) (by omega)
  pSendX c true (h + 1) (by omega)

/-- Step `h`'s running sums: send, compute the next term meanwhile, wait, hand the credit back, add. -/
def pA (c : Dev nD) (h : ℕ) (hh : h < 7) : PK F := do
  pSendA c false h (by omega)
  pSendA c true h (by omega)
  pPart c (h + 1) (by omega)
  pWaitA false h (by omega)
  pWaitA true h (by omega)
  pGiveCr c
  pAdd false ((h + 1) % 2) (by omega)
  pAdd true ((h + 1) % 2) (by omega)

/-- What precedes the ring's steps. -/
def pHeadline (c : Dev nD) : PK F := do
  pBarrier c
  pInit false
  pInit true
  pSendX c false 0 (by omega)
  pSendX c true 0 (by omega)
  pPart c 0 (by omega)
  pFirst false
  pFirst true

/-- What follows them. -/
def pTail (c : Dev nD) : PK F := do
  pTakeCr
  pSendA c false 7 (by omega)
  pSendA c true 7 (by omega)
  pWaitA false 7 (by omega)
  pWaitA true 7 (by omega)

/-- The last departures. -/
def pSents (k : ℕ) (hk : k < 7) : PK F := do
  pSentX false k hk
  pSentX true k hk

/-- The ring's steps. -/
def pCore : PK F := do
  let c : Dev nD ← Prog.lift .deviceId
  pHeadline c
  pX c 0 (by omega)
  pA c 0 (by omega)
  pX c 1 (by omega); pTakeCr
  pA c 1 (by omega)
  pX c 2 (by omega); pTakeCr
  pA c 2 (by omega)
  pX c 3 (by omega); pTakeCr
  pA c 3 (by omega)
  pX c 4 (by omega); pTakeCr
  pA c 4 (by omega)
  pX c 5 (by omega); pTakeCr
  pA c 5 (by omega)
  pRecvX false 6 (by omega)
  pRecvX true 6 (by omega); pTakeCr
  pA c 6 (by omega)
  pTail c
  pSents 0 (by omega)
  pSents 1 (by omega)
  pSents 2 (by omega)
  pSents 3 (by omega)
  pSents 4 (by omega)
  pSents 5 (by omega)
  pSents 6 (by omega)

/-- The kernel's body. -/
def pBody : PK F := do
  pCore
  pFin false
  pFin true

set_option maxRecDepth 65536 in
set_option maxHeartbeats 4000000 in
/-- The ring's steps are printed as the sequence of the pieces above. -/
theorem core_eq : k0_part50 (F := F) gX (Memref.isWhole_whole _) gWq (Memref.isWhole_whole _) gK (Memref.isWhole_whole _)
    gV (Memref.isWhole_whole _) gWo (Memref.isWhole_whole _) gOut (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    gQ (Memref.isWhole_whole _) gCtx (Memref.isWhole_whole _) gD (Memref.isWhole_whole _)
    cc0_scratch7 cc0_scratch8 cc0_scratch9 cc0_scratch10 cc0_scratch11 cc0_scratch12 cc0_scratch13 cc0_scratch14
    cc0_scratch15 cc0_scratch16 = pCore := by
  rw [k0_part50_eq_skeleton]
  unfold k0_part50_skel pCore
  simp only [k0_part4_eq_skeleton, k0_part4_skel, k0_part8_eq_skeleton, k0_part8_skel, k0_part14_eq_skeleton, k0_part14_skel, k0_part20_eq_skeleton, k0_part20_skel, k0_part25_eq_skeleton, k0_part25_skel, k0_part31_eq_skeleton, k0_part31_skel, k0_part37_eq_skeleton, k0_part37_skel, k0_part42_eq_skeleton, k0_part42_skel, pHeadline, pA, pPart, bind_assoc]
  rfl

/-- The printed body, on the buffers it is called with, is `pBody`. -/
theorem body_eq : cc0__body (F := F) gX (Memref.isWhole_whole _) gWq (Memref.isWhole_whole _) gK (Memref.isWhole_whole _)
    gV (Memref.isWhole_whole _) gWo (Memref.isWhole_whole _) gOut (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    gQ (Memref.isWhole_whole _) gCtx (Memref.isWhole_whole _) gD (Memref.isWhole_whole _)
    cc0_scratch7 cc0_scratch8 cc0_scratch9 cc0_scratch10 cc0_scratch11 cc0_scratch12 cc0_scratch13 cc0_scratch14
    cc0_scratch15 cc0_scratch16 = pBody := by
  have h := core_eq (F := F)
  unfold cc0__body pBody
  rw [h]
  rfl

end Cert.Proof.Ring

end
-- ==== Proof.Rules.lean ====
/- Rules for one step of a program that holds a buffer, or a slice of it, at contents that are known.

   `owns c m q X`: core `c` holds the share `q` of what the memref `m` places, and reads `X` through it. A load of a part
   reads that part of `X`; a store to a part overlays it; a remote copy of one slice to another hands its contents over. -/
module

public import Idealize.ShloMosaic.Lib.Pipeline.Regions
public import Idealize.ShloMosaic.Lib.Pipeline.Kit
public import Idealize.ShloMosaic.Lib.Rounds
public import Idealize.ShloMosaic.Lib.Tactic
public import Idealize.ShloMosaic.Lib.Memref
public import Idealize.ShloMosaic.Lib.MemrefSat
public import Idealize.ShloMosaic.Lib.Writes
public import Idealize.ShloMosaic.Lib.Scf

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

section Contents

variable {sig : RefSig} {κ : Kind} {Val : EltTy → Type} {sp : Space} {s : Shape} {e : EltTy}

/-- After a store to a part, the memref reads the stored values over the old contents. -/
theorem read_store (m : Memref sig κ sp s e) (r : Rect s) (f : m.view.ty.Contents Val) (w : r.shape.Idx → Val e) :
    m.view.read Val ((m.access r).write Val f w Finset.univ) = r.overlay (m.view.read Val f) w := by
  funext j
  by_cases hj : j ∈ r.set
  · obtain ⟨i, rfl⟩ := r.exists_idx_of_mem hj
    change m.view.read Val _ (r.emb i) = r.overlay _ w (r.emb i)
    rw [Rect.overlay_emb]
    exact View.read_slice_write_emb r f w (Finset.mem_univ i)
  · rw [Rect.overlay_of_not_mem _ _ _ hj]
    exact View.read_slice_write_of_not_mem r f w Finset.univ (by rwa [Rect.map_emb_univ])

/-- Between two memrefs seen through the same reshape, a copy hands the contents over. -/
theorem read_copy_reshape {sp' : Space} {κ' : Kind} {s' : Shape} (m : Memref sig κ sp s e) (m' : Memref sig κ' sp' s e)
    (h : s'.numel = s.numel) (f : m.view.ty.Contents Val) (f' : m'.view.ty.Contents Val) :
    m'.view.read Val ((m'.view.reshape s' h).write Val f' ((m.view.reshape s' h).read Val f) Finset.univ) = m.view.read Val f := by
  rw [View.write_reshape_univ, View.read_write_univ]
  funext x
  show m.view.read Val f (Shape.reshapeEquiv h ((Shape.reshapeEquiv h).symm x)) = _
  rw [Equiv.apply_symm_apply]

end Contents

section Steps

variable {nD : Nat} {τ : Topo} {sig : RefSig} {Ix : Type} [DecidableEq Ix]
variable {Val : EltTy → Type} {Name : Type} [DecidableEq Name]
variable {U : Type} [URA U] {Lvl : Type} {Λ : Labels}

local notation "𝕄" => MT nD τ sig Ix Val Name U Lvl

variable [Preorder Lvl] {defs : Defs nD τ sig Val Λ} (𝒱 : Variants) (c : Thread nD τ) (bd : Option 𝒱.V)
variable {Γ : PendingWaitsCtx sig Ix} (E : Set Name) {α : Type} {Q : α → sProp (MT nD τ sig Ix Val Name U Lvl)}
variable {cs : CoreSpace} {s : Shape} {e : EltTy}

/-- What `owns` says, for a proof to open. -/
theorem owns_elim {sp : Space} (m : Memref sig c.2.kind sp s e) (q : PosShare TreeShare) (X : s.Idx → Val e) :
    (owns c m q X : sProp 𝕄) ⊢ iprop(∃ f, ⌜m.view.read Val f = X⌝ ∗ (m.view.loc c ↦[m.view.set]{q} f)) := .rfl

/-- A load of a part of a memref held at `X` reads that part of `X`. -/
theorem ld {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    (owns c m q X : sProp 𝕄)
      ⊢ iprop((owns c m q X -∗ wp frame (wpE' defs 𝒱 c bd Γ) E (k fun i => X (r.emb i)) Q)
        -∗ wp frame (wpE' defs 𝒱 c bd Γ) E (.op (.load m r.toLoadRect hl) k) Q) := by
  iintro H Hk
  ihave H := (owns_elim c m q X) $$ H
  icases H with ⟨%f, %hf, H⟩
  have hs : m.view.setOn r.toLoadRect.set ⊆ m.view.set := Finset.map_subset_map.mpr (Finset.subset_univ _)
  iapply (wp_load 𝒱 c bd E (hl := hl) (S := m.view.set) (q := q) (f := f) hs) $$ H
  iintro H
  have hX : m.view.readAt Val r.toLoadRect f = fun i => X (r.emb i) := by subst hf; rfl
  rw [hX]
  iapply Hk
  rw [← hf]
  iapply (owns_intro c m q f); iexact H

/-- A load of all of a slice that is held. -/
theorem ld_slice {m : Memref sig c.2.kind cs s e} {r : Rect s} {hr : ∀ a, r.stride a = 1} {hl : m.view.LoadsAt r.toLoadRect}
    {k : (r.shape.Idx → Val e) → Prog (TpuEff nD τ sig Val Λ c.2) α} {q : PosShare TreeShare} {X : r.shape.Idx → Val e} :
    (owns c (m.slice r hr) q X : sProp 𝕄)
      ⊢ iprop((owns c (m.slice r hr) q X -∗ wp frame (wpE' defs 𝒱 c bd Γ) E (k X) Q)
        -∗ wp frame (wpE' defs 𝒱 c bd Γ) E (.op (.load m r.toLoadRect hl) k) Q) := by
  iintro H Hk
  ihave H := (owns_elim c (m.slice r hr) q X) $$ H
  icases H with ⟨%f, %hf, H⟩
  iapply (wp_load_rect 𝒱 c bd E (hl := hl) (S := (m.slice r hr).view.set) (q := q) (f := f) (Finset.Subset.refl _)) $$ H
  iintro H
  have hX : (m.access r).read Val f = X := hf
  rw [hX]
  iapply Hk
  rw [← hf]
  iapply (owns_intro c (m.slice r hr) q f); iexact H

/-- A store to a part of a memref held at `X` leaves it at `X` overlaid. -/
theorem st {m : Memref sig c.2.kind cs s e} {r : Rect s} {w : r.shape.Idx → Val e} {hx : (m.access r).Stores Finset.univ}
    {hm : Finset.univ = Finset.univ ∨ ∀ a, r.stride a = 1}
    {k : PUnit → Prog (TpuEff nD τ sig Val Λ c.2) α} {X : s.Idx → Val e} :
    (owns c m fullShare X : sProp 𝕄)
      ⊢ iprop((owns c m fullShare (r.overlay X w) -∗ wp frame (wpE' defs 𝒱 c bd Γ) E (k ⟨⟩) Q)
        -∗ wp frame (wpE' defs 𝒱 c bd Γ) E (.op (.store m r w Finset.univ hx hm) k) Q) := by
  iintro H Hk
  ihave H := (owns_elim c m fullShare X) $$ H
  icases H with ⟨%f, %hf, H⟩
  have hs : (m.access r).setOn Finset.univ ⊆ m.view.set := by rw [View.setOn_univ]; exact m.view.set_slice_subset r
  iapply (wp_store 𝒱 c bd E (hx := hx) (hm := hm) (S := m.view.set) (f := f) hs) $$ H
  iintro H
  iapply Hk
  have hX : m.view.read Val ((m.access r).write Val f w Finset.univ) = r.overlay X w := by rw [read_store, hf]
  rw [← hX]
  iapply (owns_intro c m fullShare ((m.access r).write Val f w Finset.univ)); iexact H

/-- A store to all of a slice that is held. -/
theorem st_slice {m : Memref sig c.2.kind cs s e} {r : Rect s} {hr : ∀ a, r.stride a = 1} {w : r.shape.Idx → Val e}
    {hx : (m.access r).Stores Finset.univ} {hm : Finset.univ = Finset.univ ∨ ∀ a, r.stride a = 1}
    {k : PUnit → Prog (TpuEff nD τ sig Val Λ c.2) α} {X : r.shape.Idx → Val e} :
    (owns c (m.slice r hr) fullShare X : sProp 𝕄)
      ⊢ iprop((owns c (m.slice r hr) fullShare w -∗ wp frame (wpE' defs 𝒱 c bd Γ) E (k ⟨⟩) Q)
        -∗ wp frame (wpE' defs 𝒱 c bd Γ) E (.op (.store m r w Finset.univ hx hm) k) Q) := by
  iintro H Hk
  ihave H := (owns_elim c (m.slice r hr) fullShare X) $$ H
  icases H with ⟨%f, %hf, H⟩
  have hs : (m.access r).setOn Finset.univ ⊆ (m.slice r hr).view.set := Finset.Subset.refl _
  iapply (wp_store 𝒱 c bd E (hx := hx) (hm := hm) (S := (m.slice r hr).view.set) (f := f) hs) $$ H
  iintro H
  iapply Hk
  have hX : (m.slice r hr).view.read Val ((m.access r).write Val f w Finset.univ) = w := View.read_write_univ _ _
  have hI := owns_intro (Ix := Ix) (Name := Name) (U := U) (Lvl := Lvl) (τ := τ) c (m.slice r hr) fullShare ((m.access r).write Val f w Finset.univ)
  rw [hX] at hI
  iapply hI; iexact H

end Steps

end Cert.Proof

end
-- ==== Proof.Protocol.lean ====
/- The protocol of the two rings: who waits on which semaphore, who pays it, how much, in what order, and what each
   payment hands over.

   The devices form a ring of eight. Direction `false` carries the upper halves of the rows to the right, direction
   `true` the lower halves to the left. For device `c` and direction `d` let `t = dst d c` be the device it sends to and
   `b = dst (!d) c` the one it receives from.

   * The barrier of `c` is paid once by each neighbour. The neighbour in direction `d` hands over the places in which it
     will receive from `c`: its slots 1 to 7 of `x` and its slot 1 of running sums.
   * `x` semaphores, hop `k` of 7: the departure semaphore of `c` gives back the lent share of slot `k`; the arrival
     semaphore of `c` gives slot `k + 1`, which now holds the half block that started `k + 1` devices back.
   * sum semaphores, hop `h` of 8: the departure semaphore of `c` gives back slot `h % 2`; the arrival semaphore of `c`
     gives slot `(h + 1) % 2`, which now holds the sum that `b` had at step `h`.
   * the credit of `c`, round `h` of 7, is paid by `t` when its own sum has left slot `h % 2`: it hands that slot over.

   What a device still has to pay is ordered by the time at which it pays. The level of a semaphore (for a round of it)
   is one more than the time at which it is paid, so that each wait is for something paid before all that the waiting
   device still has to pay. -/
module

public import proofs.«01_k».proof.Proof.Prog
public import proofs.«01_k».proof.Proof.Rules
public import Idealize.ShloMosaic.Lib.Pipeline.RegionTalk

@[expose] public section

noncomputable section

namespace Cert.Proof.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

/-! ## Contents -/

/-- What the devices compute from: their blocks of `x`, their weights, and their heads' keys and values. -/
structure Inp (F : FTy → Type) where
  x : Dev nD → Vec F S1024x1024 .bf16
  wq : Dev nD → Vec F S1024x1024 .bf16
  kk : Dev nD → Vec F S8x1024x128 .bf16
  vv : Dev nD → Vec F S8x1024x128 .bf16
  wo : Dev nD → Vec F S1024x1024 .bf16

/-- The half of the rows that travels in direction `d`. -/
def half {α : Type} (d : Bool) (X : S1024x1024.Idx → α) : S512x1024.Idx → α :=
  match d with
  | false => fun i => X (rcTop.emb i)
  | true => fun i => X (rcBot.emb i)

/-- The index of a row and a column. -/
def ix {n m : ℕ} (i : Fin n) (j : Fin m) : (⟨2, ![n, m]⟩ : Shape).Idx := fun a =>
  match a with
  | 0 => i
  | 1 => j

/-- Two halves put together. -/
def joinH {α : Type} (a b : S512x1024.Idx → α) : S1024x1024.Idx → α := fun i =>
  if h : (i 0).val < 512 then a (ix ⟨(i 0).val, h⟩ (i 1))
  else b (ix ⟨(i 0).val - 512, by have h1 : (i 0).val < 1024 := (i 0).isLt; omega⟩ (i 1))

/-- The eight heads' columns put together. -/
def joinC {α : Type} (f : Fin k0_t1_loop.trips → S1024x128.Idx → α) : S1024x1024.Idx → α := fun i =>
  f ⟨(i 1).val / 128, by have h1 : (i 1).val < 1024 := (i 1).isLt; change _ < 8; omega⟩
    (ix (i 0) ⟨(i 1).val % 128, Nat.mod_lt _ (by decide)⟩)

variable (I : Inp F)

/-- What slot `k` of direction `d` holds on device `c`. -/
def xval (d : Bool) : ℕ → Dev nD → Vec F S1x512x1024 .bf16
  | 0, c => vX (half d (I.x c))
  | k + 1, c => xval d k (dst (!d) c)

/-- The queries for the blocks in slot `h`. -/
def qval (h : ℕ) (c : Dev nD) : Vec F S1024x1024 .bf16 :=
  joinH (vQ (xval I false h c) (I.wq c)) (vQ (xval I true h c) (I.wq c))

/-- One head's context for them. -/
def hval (h : ℕ) (c : Dev nD) (t : Fin k0_t1_loop.trips) : Vec F S1024x128 .bf16 :=
  vHead (wSrc false c h) (wSrc true c h) (fun i => qval I h c ((rcCol t).emb i))
    (fun i => I.kk c ((rcHd t).emb i)) (fun i => I.vv c ((rcHd t).emb i))

/-- This device's term for the blocks in slot `h`. -/
def dval (h : ℕ) (c : Dev nD) : Vec F S1024x1024 .f32 :=
  vOut (joinC (hval I h c)) (I.wo c)

/-- The running sum of direction `d` at step `h`. -/
def aval (d : Bool) : ℕ → Dev nD → Vec F S1x512x1024 .bf16
  | 0, c => vFirst (half d (dval I 0 c))
  | h + 1, c => vAdd (aval d h (dst (!d) c)) (half d (dval I (h + 1) c))

/-- The result of device `c`. -/
def oval (c : Dev nD) : Vec F S1024x1024 .f32 :=
  joinH (vFin (aval I false 7 (dst true c))) (vFin (aval I true 7 (dst false c)))

/-! ## Semaphores -/

/-- A semaphore of the kernel's own: a credit, or departure or arrival (`p`) of `x` or of sums (`q`) in a direction. -/
abbrev Own : Type := Bool ⊕ (Bool × Bool × Bool × Fin 8)
/-- One of those, or the barrier. -/
abbrev Kd : Type := Option Own

instance : DecidableEq Own := inferInstance
instance : DecidableEq Kd := inferInstance
instance : DecidableEq (Dev nD × Kd) := fun a b => instDecidableEqProd a b

abbrev kBar : Kd := none
abbrev kCr (d : Bool) : Kd := some (.inl d)
abbrev kDm (q p d : Bool) (k : Fin 8) : Kd := some (.inr (q, p, d, k))

/-- A hop's number. -/
def f8 (k : ℕ) : Fin 8 := ⟨k % 8, Nat.mod_lt _ (by decide)⟩

abbrev sx (d : Bool) (k : ℕ) : Kd := kDm false false d (f8 k)
abbrev rx (d : Bool) (k : ℕ) : Kd := kDm false true d (f8 k)
abbrev sa (d : Bool) (h : ℕ) : Kd := kDm true false d (f8 h)
abbrev ra (d : Bool) (h : ℕ) : Kd := kDm true true d (f8 h)

/-- The array of semaphores. -/
def arr (q p d : Bool) : DmaSems sig S8 :=
  match q, p with
  | false, false => sX d
  | false, true => rX d
  | true, false => sA d
  | true, true => rA d

def ownSem : Own → SemLoc sig
  | .inl d => .reg (sCr d).sem
  | .inr (q, p, d, k) => .dma (at8 (arr q p d) k.val k.isLt)

def semOf : Kd → SemLoc sig
  | none => .reg (SemArray.scalar (sig.barrier 0 rfl) : Sems sig S_).sem
  | some o => ownSem o

/-- Which semaphore of the protocol a semaphore is. -/
def kindOf : SemLoc sig → Option Kd
  | .reg s => if s.val = 0 then some (kCr false) else if s.val = 1 then some (kCr true) else some kBar
  | .dma s => if s.val < 6 then none else
      some (kDm (decide (38 ≤ s.val)) (decide ((s.val - 6) / 8 % 2 = 1)) (decide ((s.val - 6) / 16 % 2 = 1))
        ⟨(s.val - 6) % 8, Nat.mod_lt _ (by decide)⟩)

theorem kindOf_semOf (k : Kd) : kindOf (semOf k) = some k := by
  rcases k with _ | (d | ⟨q, p, d, k⟩)
  · rfl
  · cases d <;> rfl
  · cases q <;> cases p <;> cases d <;> (fin_cases k <;> rfl)

theorem semOf_inj : Function.Injective semOf := fun a b h => by
  have := congrArg kindOf h
  rwa [kindOf_semOf, kindOf_semOf, Option.some.injEq] at this

/-- Semaphore `k` of device `c`. -/
abbrev cell (c : Dev nD) (k : Kd) : GSem nD τ sig := ((c : Thread nD τ), semOf k)

theorem cell_inj {c c' : Dev nD} {k k' : Kd} (h : cell c k = cell c' k') : c = c' ∧ k = k' := by
  have h1 : (cell c k).1.1 = (cell c' k').1.1 := congrArg (fun g : GSem nD τ sig => g.1.1) h
  have h2 : (cell c k).2 = (cell c' k').2 := congrArg (fun g : GSem nD τ sig => g.2) h
  exact ⟨h1, semOf_inj h2⟩

/-- The size of a transfer. -/
abbrev N : ℕ := (xSq false 0 (by decide)).view.dmaCredit
theorem N_pos : 0 < N := View.dmaCredit_pos _ (by decide)
theorem credit_x (d : Bool) (k : ℕ) (hk : k < 8) : (xSq d k hk).view.dmaCredit = N := by cases d <;> rfl
theorem credit_a (d : Bool) (k : ℕ) (hk : k < 2) : (aSq d k hk).view.dmaCredit = N := by cases d <;> rfl

/-! ## The ring -/

theorem dst_val_false (c : Dev nD) : (dst false c).val = (c.val + 1) % 8 := by revert c; decide
theorem dst_val_true (c : Dev nD) : (dst true c).val = (c.val + 7) % 8 := by revert c; decide
theorem dst_not_dst (d : Bool) (c : Dev nD) : dst (!d) (dst d c) = c := by revert d c; decide
theorem dst_dst_not (d : Bool) (c : Dev nD) : dst d (dst (!d) c) = c := by revert d c; decide

/-- One step around the ring, as a permutation of the devices. -/
def ring (d : Bool) : Dev nD ≃ Dev nD := ⟨dst d, dst (!d), dst_not_dst d, dst_dst_not d⟩

/-! ## Resources -/

/-- The ghost state of the pipeline beside that of the protocol. -/
abbrev UU : Type := UR sig nD τ × URounds (GSem nD τ sig) Bool

local notation "𝕄" => MT nD τ sig ℕ (Elt F) ℕ UU ℕ

abbrev EP : Emb (UR sig nD τ) (MT nD τ sig ℕ (Elt F) ℕ UU ℕ) := embL
abbrev ER : Emb (URounds (GSem nD τ sig) Bool) (MT nD τ sig ℕ (Elt F) ℕ UU ℕ) := embR

/-- Device `c` holds a memref at `X`. -/
abbrev own {sp : Space} {s : Shape} {e : EltTy} (c : Dev nD) (m : Memref sig .tc sp s e) (q : PosShare TreeShare) (X : s.Idx → Elt F e) : sProp 𝕄 :=
  owns (c : Thread nD τ) m q X
/-- Device `c` holds a memref, at some contents. -/
def owned {sp : Space} {s : Shape} {e : EltTy} (c : Dev nD) (m : Memref sig .tc sp s e) : sProp 𝕄 :=
  iprop(∃ X : s.Idx → Elt F e, own c m fullShare X)

instance owned_storable {sp : Space} {s : Shape} {e : EltTy} (c : Dev nD) (m : Memref sig .tc sp s e) :
    BI.Storable (upEmb : UEmb _ 𝕄) (owned (F := F) c m) := by unfold owned; infer_instance

/-- The places in which device `c` receives in direction `d`, and that the semaphores of their arrivals are ready. -/
def places (d : Bool) (c : Dev nD) : sProp 𝕄 :=
  iprop((bigSep (Finset.Ico 0 7) fun k => iprop(owned c (xSl d ((k + 1) % 8) (Nat.mod_lt _ (by decide))) ∗ reached ER (cell c (rx d k)) 0))
    ∗ owned c (aSl d 1 (by decide)) ∗ bigSep (Finset.Ico 0 8) fun h => reached ER (cell c (ra d h)) 0)

instance places_storable (d : Bool) (c : Dev nD) : BI.Storable (upEmb : UEmb _ 𝕄) (places (F := F) d c) := by
  unfold places; infer_instance

/-- What a payment hands over. -/
def pay (c : Dev nD) : Kd → ℕ → Bool → sProp 𝕄
  | none, _, d => places d (dst d c)
  | some (.inl d), r, _ => owned (dst d c) (aSl d (r % 2) (Nat.mod_lt _ (by decide)))
  | some (.inr (false, false, d, k)), _, _ => own c (xSl d k.val k.isLt) (PosShare.right fullShare) (xval I d k.val c)
  | some (.inr (false, true, d, k)), _, _ => own c (xSl d ((k.val + 1) % 8) (Nat.mod_lt _ (by decide))) fullShare (xval I d (k.val + 1) c)
  | some (.inr (true, false, d, k)), _, _ => owned c (aSl d (k.val % 2) (Nat.mod_lt _ (by decide)))
  | some (.inr (true, true, d, k)), _, _ =>
      iprop(own c (aSl d ((k.val + 1) % 2) (Nat.mod_lt _ (by decide))) fullShare (aval I d k.val (dst (!d) c))
        ∗ reached ER (cell (dst (!d) c) (kCr d)) k.val)

instance pay_storable (c : Dev nD) (k : Kd) (r : ℕ) (b : Bool) : BI.Storable (upEmb : UEmb _ 𝕄) (pay I c k r b) := by
  rcases k with _ | (d | ⟨q, p, d, k⟩)
  · unfold pay; infer_instance
  · unfold pay; infer_instance
  · cases q <;> cases p <;> (unfold pay; infer_instance)

/-- Which payments a round of a semaphore has. -/
def duts : Kd → ℕ → Finset Bool
  | none, r => if r = 0 then {false, true} else ∅
  | some (.inl d), r => if r < 7 then {false} else ∅
  | some (.inr (q, p, d, k)), r => if r = 0 ∧ (q = true ∨ k.val < 7) then {false} else ∅

/-- And of what amount. -/
def amt : Kd → ℕ
  | some (.inr _) => N
  | _ => 1

theorem amt_pos (k : Kd) : 0 < amt k := by
  rcases k with _ | (d | x)
  exacts [Nat.one_pos, Nat.one_pos, N_pos]

def Rd : Rounds.Schedule (GSem nD τ sig) Bool 𝕄 where
  duties g r := if g.1.2 = .tc then (match kindOf g.2 with | some k => duts k r | none => ∅) else ∅
  unitless _ := False
  amount g _ _ := match kindOf g.2 with | some k => amt k | none => 1
  payload g r d := match kindOf g.2 with | some k => pay I g.1.1 k r d | none => iprop(emp)
  amount_pos g _ _ _ := by
    cases kindOf g.2 with
    | none => exact Nat.one_pos
    | some k => exact amt_pos k

instance Rd_storable (g : GSem nD τ sig) (r : ℕ) (d : Bool) : BI.Storable (upEmb : UEmb _ 𝕄) ((Rd (F := F) I).payload g r d) := by
  show BI.Storable upEmb (match kindOf g.2 with | some k => pay I g.1.1 k r d | none => iprop(emp))
  cases kindOf g.2 <;> infer_instance

section Sched

variable (c : Dev nD) (k : Kd) (r : ℕ) (b : Bool)

theorem Rd_duties : (Rd (F := F) I).duties (cell c k) r = duts k r := by
  show (if (Proc.tc : Proc τ) = .tc then (match kindOf (semOf k) with | some k => duts k r | none => ∅) else ∅) = _
  rw [if_pos rfl, kindOf_semOf]
theorem Rd_amount : (Rd (F := F) I).amount (cell c k) r b = amt k := by
  show (match kindOf (semOf k) with | some k => amt k | none => 1) = _
  rw [kindOf_semOf]
theorem Rd_payload : (Rd (F := F) I).payload (cell c k) r b = pay I c k r b := by
  show (match kindOf (semOf k) with | some k => pay I c k r b | none => iprop(emp)) = _
  rw [kindOf_semOf]

theorem Rd_expect : (Rd (F := F) I).expect (cell c k) r = (duts k r).card * amt k := by
  unfold Schedule.expect Schedule.amountOf
  rw [Rd_duties, Finset.sum_congr rfl (fun d _ => Rd_amount I c k r d), Finset.sum_const, smul_eq_mul]

end Sched

/-! ## What a device owes, in the order in which it pays -/

/-- The payment at time `n`: the direction in which its device lies, the semaphore, and its round. -/
def item (n : ℕ) : Option (Bool × Kd × ℕ) :=
  if n = 0 then some (true, kBar, 0) else if n = 1 then some (false, kBar, 0)
  else if n < 4 then some (decide (n = 3), kDm false true (decide (n = 3)) 0, 0)
  else
    let h := (n - 4) / 6
    let j := (n - 4) % 6
    let d := decide (j % 2 = 1)
    if j < 2 then (if h < 6 then some (d, kDm false true d ⟨(h + 1) % 8, Nat.mod_lt _ (by decide)⟩, 0) else none)
    else if j < 4 then some (d, kDm true true d ⟨h % 8, Nat.mod_lt _ (by decide)⟩, 0)
    else if h < 7 then some (!d, kCr d, h) else none

/-- It as a debt. -/
def due (c : Dev nD) (n : ℕ) : CellTallies nD τ sig ℕ :=
  match item n with
  | none => 0
  | some (t, k, r) => tallyAt (cell (dst t c) k) r (amt k)

/-- What is owed from time `n` on. -/
def owe (c : Dev nD) (n : ℕ) : CellTallies nD τ sig ℕ := ∑ i ∈ Finset.Ico n 50, due c i

theorem owe_step (c : Dev nD) {n : ℕ} (hn : n < 50) : owe c n = owe c (n + 1) + due c n := by
  unfold owe; rw [Finset.sum_eq_sum_Ico_succ_bot hn, add_comm]
theorem owe_end (c : Dev nD) : owe c 50 = 0 := by unfold owe; rw [Finset.Ico_self, Finset.sum_empty]

/-- The level of a round of a semaphore. -/
def lev : Kd → ℕ → ℕ
  | none, _ => 1
  | some (.inl d), r => 9 + 6 * r + d.toNat
  | some (.inr (false, true, d, k)), _ => if k.val = 0 then 3 + d.toNat else 6 * k.val - 1 + d.toNat
  | some (.inr (true, true, d, k)), _ => 7 + 6 * k.val + d.toNat
  | some (.inr (_, false, _, _)), _ => 0

/-- The rounds a semaphore may have. -/
def L (g : GSem nD τ sig) : Finset ℕ := if g.1.2 = .tc then Finset.range 8 else ∅
/-- The levels, staging semaphores lowest. -/
def lv (g : GSem nD τ sig) (r : ℕ) : ℕ := match kindOf g.2 with | some k => lev k r | none => 0

theorem L_tc (c : Dev nD) (sm : SemLoc sig) : L ((c : Thread nD τ), sm) = Finset.range 8 := if_pos rfl
theorem L_of_ne (g : GSem nD τ sig) (h : g.1.2 ≠ .tc) : L g = ∅ := if_neg h
theorem lv_cell (c : Dev nD) (k : Kd) (r : ℕ) : lv (cell c k) r = lev k r := by
  unfold lv; rw [show (cell c k).2 = semOf k from rfl, kindOf_semOf]

/-- Every payment has a level, of one more than its time (but the barrier's, which are the first two). -/
theorem item_lev : ∀ n < 50, ∀ t k r, item n = some (t, k, r) → r < 8 ∧ lev k r = (if n < 2 then 1 else n + 1) := by
  intro n hn t k r h
  interval_cases n <;> (revert h; simp only [item]; norm_num; first | (rintro ⟨⟩; done) | (rintro rfl rfl rfl; decide))

end Cert.Proof.Ring

end
-- ==== Proof.Comm.lean ====
/- One step of the protocol at a time: a payment, a transfer, a wait.

   `ctx` is what every device knows all along: the invariants of all semaphores, the levels, and which first rounds are
   ready. `debt c n` says that device `c` still owes what comes from time `n` on. Each payment moves it one time on; each
   wait needs that what is waited for has a level of at most `n`. -/
module

public import proofs.«01_k».proof.Proof.Protocol
public import Idealize.SL.BI.BigOpNat

@[expose] public section

noncomputable section

namespace Cert.Proof.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F] (I : Inp F)

local notation "𝕄" => MT nD τ sig ℕ (Elt F) ℕ UU ℕ

abbrev 𝒱₀ : Variants := Variants.none

/-- Device `c` runs a program of the kernel and then has `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What every device knows throughout. -/
def ctx (K : GSem nD τ sig → ℕ) (c : Dev nD) : sProp 𝕄 :=
  iprop((bigSep Finset.univ fun p : Dev nD × Kd => cellInv ER (Rd I) (K (cell p.1 p.2)) (cell p.1 p.2)) ∗ levAts L lv
    ∗ (bigSep Finset.univ fun o : Own => reached ER (cell c (some o)) 0)
    ∗ bigSep Finset.univ fun d : Bool => reached ER (cell (dst d c) kBar) 0)

instance ctx_persistent (K : GSem nD τ sig → ℕ) (c : Dev nD) : BI.Persistent (ctx I K c) := by unfold ctx; infer_instance

/-- Device `c` owes what comes from time `n` on. -/
def debt (c : Dev nD) (n : ℕ) : sProp 𝕄 := iprop(∃ W, owes (c : Thread nD τ) (owe c n) W)

variable {I} {K : GSem nD τ sig → ℕ} {c : Dev nD}

theorem at_elem {J : Type} [Fintype J] [DecidableEq J] {Φ : J → sProp 𝕄} (j : J) : (bigSep Finset.univ Φ : sProp 𝕄) ⊢ Φ j :=
  bigSep_elim (Finset.mem_univ j)

theorem ctx_inv (c' : Dev nD) (k : Kd) : ctx I K c ⊢ cellInv ER (Rd I) (K (cell c' k)) (cell c' k) := by
  unfold ctx
  iintro ⟨H, -⟩
  iapply (at_elem (Φ := fun p : Dev nD × Kd => cellInv ER (Rd I) (K (cell p.1 p.2)) (cell p.1 p.2)) ((c', k) : Dev nD × Kd)); iexact H

theorem ctx_lev : ctx I K c ⊢ levAts L lv := by
  unfold ctx
  iintro ⟨-, H, -⟩; iexact H

theorem ctx_own (o : Own) : ctx I K c ⊢ reached ER (cell c (some o)) 0 := by
  unfold ctx
  iintro ⟨-, -, H, -⟩
  iapply (at_elem (Φ := fun o : Own => reached ER (cell c (some o)) 0) o); iexact H

theorem ctx_bar (d : Bool) : ctx I K c ⊢ reached ER (cell (dst d c) kBar) 0 := by
  unfold ctx
  iintro ⟨-, -, -, H⟩
  iapply (at_elem (Φ := fun d : Bool => reached ER (cell (dst d c) kBar) 0) d); iexact H

/-- What is still owed is of rounds that exist and of levels above the time. -/
theorem owe_pos {c : Dev nD} {n : ℕ} (hn : 2 ≤ n) {g : GSem nD τ sig} {i : ℕ} (h : 0 < owe c n g i) :
    i ∈ L g ∧ n < lv g i := by
  unfold owe at h
  rw [Finset.sum_apply, Finsupp.finset_sum_apply] at h
  obtain ⟨j, hj, hp⟩ := Finset.exists_ne_zero_of_sum_ne_zero (Nat.pos_iff_ne_zero.mp h)
  rw [Finset.mem_Ico] at hj
  unfold due at hp
  cases e : item j with
  | none => rw [e] at hp; exact absurd rfl hp
  | some x =>
    obtain ⟨t, k, r⟩ := x
    rw [e] at hp
    simp only [] at hp
    rw [tallyAt_apply] at hp
    obtain ⟨hr, hl⟩ := item_lev j hj.2 t k r e
    by_cases hg : g = cell (dst t c) k ∧ i = r
    · obtain ⟨rfl, rfl⟩ := hg
      rw [if_neg (by omega)] at hl
      rw [L_tc, lv_cell, hl]
      exact ⟨Finset.mem_range.mpr hr, by omega⟩
    · rw [if_neg hg] at hp; exact absurd rfl hp

theorem may (k : Kd) {r n : ℕ} (hr : r < 8) (hl : lev k r ≤ n) (hn : 2 ≤ n) :
    (levAts L lv : sProp 𝕄) ⊢ MayWait (c : Thread nD τ) (semOf k) r (owe c n) :=
  MayOwe.of_cut (L := L) (lev := lv) n
    (fun p hp => by rw [Finset.mem_singleton.mp hp, L_tc]; exact Finset.mem_range.mpr hr)
    (fun g i h => (owe_pos hn h).1)
    (fun p hp => by rw [Finset.mem_singleton.mp hp]; exact (lv_cell c k r).le.trans hl)
    (fun g i h => (owe_pos hn h).2)

/-- A payment by a signal. -/
theorem signal {k : Kd} {r n : ℕ} {t b : Bool} {s : Sem sig} (hs : semOf k = .reg s) (hn : n < 50)
    (hi : item n = some (t, k, r)) (hb : b ∈ duts k r) (ha : amt k = 1)
    {α : Type} {kont : PUnit → Prog (TpuEff nD τ sig (Elt F) Λ₀ .tc) α} {Q : α → sProp 𝕄} :
    iprop(ctx I K c ∗ debt c n ∗ dutyTok ER (cell (dst t c) k) r b ∗ pay I (dst t c) k r b ∗ reached ER (cell (dst t c) k) r
        ∗ (debt c (n + 1) -∗ run c (kont ⟨⟩) Q))
      ⊢ run c (.op (.semSignal (dst t c : Thread nD τ) s 1) kont) Q := by
  have hd : b ∈ (Rd I).duties (cell (dst t c) k) r := by rw [Rd_duties]; exact hb
  have hk : (Rd I).amount (cell (dst t c) k) r b = 1 := by rw [Rd_amount]; exact ha
  have hO : owe c n = owe c (n + 1) + tallyAt (cell (dst t c) k) r 1 := by
    rw [owe_step c hn]; unfold due; rw [hi]; simp only [ha]
  have hp := Rd_payload I (dst t c) k r b
  iintro ⟨#Hc, HO, Ht, Hp, #Hr, Hk⟩
  unfold debt
  icases HO with ⟨%W, HO⟩
  ihave #HI := (ctx_inv (dst t c) k) $$ Hc
  unfold cell at *
  rw [hs] at *
  iapply (Rounds.wp_signal 𝒱₀ ER (Rd I) (c : Thread nD τ) none (dst := (dst t c : Thread nD τ)) (sem := s) (r := r) (d := b)
    (κ := K ((dst t c : Thread nD τ), .reg s)) hd hk r (owe c (n + 1)) hO) $$ [HO Ht Hp]
  · isplitr; · iexact HI
    isplitl [HO]; · iexact HO
    isplitl [Ht]; · iexact Ht
    isplitl [Hp]
    · rw [hp]; iexact Hp
    iexact Hr
  iintro HO
  iapply Hk
  iexists W; iexact HO

/-- A wait for a whole round. -/
theorem await (k : Kd) {r n a : ℕ} {sm : SemLoc sig} (hs : sm = semOf k) (hr : r < 8) (hl : lev k r ≤ n) (hn : 2 ≤ n)
    (ha : a = (duts k r).card * amt k) {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ sm a Kt)
    {α : Type} {kont : PUnit → Prog (TpuEff nD τ sig (Elt F) Λ₀ .tc) α} {Q : α → sProp 𝕄} :
    iprop(ctx I K c ∗ cred (tallyAt (cell c k) r a) ∗ debt c n ∗ atPos ER (cell c k) r ∅ 0
        ∗ (debt c n ∗ atPos ER (cell c k) (r + 1) ∅ 0 ∗ reached ER (cell c k) (r + 1) ∗ (bigSep (duts k r) fun b => pay I c k r b)
          -∗ run c (kont ⟨⟩) Q))
      ⊢ run c (.op w kont) Q := by
  subst hs
  have hR : bigSep ((Rd I).duties (cell c k) r \ ∅) (fun b => (Rd I).payload (cell c k) r b)
      = bigSep (duts k r) fun b => pay I c k r b := by
    rw [Finset.sdiff_empty, Rd_duties]; exact bigSep_congr fun b _ => Rd_payload I c k r b
  iintro ⟨#Hc, Hcr, HO, Hat, Hk⟩
  unfold debt
  icases HO with ⟨%W, HO⟩
  ihave #HI := (ctx_inv c k) $$ Hc
  ihave #HL := ctx_lev $$ Hc
  iapply (Rounds.wp_wait_rest_token 𝒱₀ ER (Rd I) (c : Thread nD τ) none (κ := K (cell c k)) (sm := semOf k) (k' := a)
    hw (Set.mem_univ _) r (O := owe c n) (W := W) (R := r) (m := 0) (T := ∅)
    (by rw [Nat.zero_add, ha]; exact (Rd_expect I c k r).symm)) $$ [Hcr HO Hat]
  · isplitr; · iexact HI
    isplitl [Hcr]; · iexact Hcr
    isplitl [HO]; · iexact HO
    isplitr; · iapply (may k hr hl hn); iexact HL
    iexact Hat
  iintro ⟨HO, Hat, Hre, Hp⟩
  iapply Hk
  isplitl [HO]; · iexists _; iexact HO
  isplitl [Hat]; · iexact Hat
  isplitl [Hre]; · iexact Hre
  rw [← hR]; iexact Hp

/-- A slot seen as a matrix. -/
abbrev sq (m : Memref sig .tc .vmem S1x512x1024 .bf16) : Memref sig .tc .vmem S512x1024 .bf16 :=
  m.squeeze S512x1024 squeezes_S1x512x1024_S512x1024

theorem sq_set (m : Memref sig .tc .vmem S1x512x1024 .bf16) : (sq m).view.set = m.view.set := View.set_reshape _ _

/-- A transfer of a slot to a slot of a neighbour, both seen as matrices. -/
theorem send {o : Own} {k : Kd} {n : ℕ} {t : Bool} {sS sem : SemLoc sig} (hs : sS = semOf (some o)) (hr : sem = semOf k)
    (hn : n < 50) (hi : item n = some (t, k, 0)) (hds : false ∈ duts (some o) 0) (hdr : false ∈ duts k 0)
    (has : amt (some o) = N) (har : amt k = N)
    (m m' : Memref sig .tc .vmem S1x512x1024 .bf16)
    (hN : (sq m').view.amount sem = N) {hsc}
    {hsrc : (sq m).view.WordExact}
    {hdst : (sq m').view.WordExact}
    {hsem : DmaTarget.Typed .vmem sem (.remote (Dev.tc (dst t c)) (sq m') sS hsc)}
    (q : PosShare TreeShare) (X : Vec F S1x512x1024 .bf16) (G : sProp 𝕄)
    (hp1 : own c m q X ⊢ pay I c (some o) 0 false) (hp2 : iprop(own (dst t c) m' fullShare X ∗ G) ⊢ pay I (dst t c) k 0 false)
    {α : Type} {kont : PUnit → Prog (TpuEff nD τ sig (Elt F) Λ₀ .tc) α} {Q : α → sProp 𝕄} :
    iprop(ctx I K c ∗ own c m q X ∗ owned (dst t c) m' ∗ G ∗ debt c n
        ∗ dutyTok ER (cell c (some o)) 0 false ∗ dutyTok ER (cell (dst t c) k) 0 false ∗ reached ER (cell (dst t c) k) 0
        ∗ (cred (tallyAt (cell c (some o)) 0 N) ∗ debt c (n + 1) -∗ run c (kont ⟨⟩) Q))
      ⊢ run c (.op (.enqueueDma (sq m)
          (.remote (Dev.tc (dst t c)) (sq m') sS hsc) sem hsrc hdst hsem) kont) Q := by
  subst hs hr
  have hO : owe c n = owe c (n + 1) + tallyAt (cell (dst t c) k) 0 N := by
    rw [owe_step c hn]; unfold due; rw [hi]; simp only [har]
  iintro ⟨#Hc, Hm, Hm', HG, HO, Hts, Htr, #Hr, Hk⟩
  unfold debt owned
  icases HO with ⟨%W, HO⟩
  icases Hm' with ⟨%Y, Hm'⟩
  ihave #HIs := (ctx_inv c (some o)) $$ Hc
  ihave #HIr := (ctx_inv (dst t c) k) $$ Hc
  ihave #Hrs := (ctx_own o) $$ Hc
  ihave Hm := (owns_elim (c : Thread nD τ) m q X) $$ Hm
  icases Hm with ⟨%f, %hf, Hm⟩
  ihave Hm' := (owns_elim (dst t c : Thread nD τ) m' fullShare Y) $$ Hm'
  icases Hm' with ⟨%f', %hf', Hm'⟩
  have h1 : ((sq m).view.loc (c : Thread nD τ)
      ↦[(sq m).view.set]{q} f : sProp 𝕄) ⊢ own c m q X := by
    rw [sq_set, ← hf]
    exact owns_intro (c : Thread nD τ) m q f
  have h2 : ((sq m').view.loc (dst t c : Thread nD τ)
      ↦[(sq m').view.set]{fullShare}
        ((sq m').view.write (Elt F) f'
          ((sq m).view.read (Elt F) f) Finset.univ) : sProp 𝕄) ⊢ own (dst t c) m' fullShare X := by
    have hX : m'.view.read (Elt F) ((sq m').view.write (Elt F) f'
          ((sq m).view.read (Elt F) f) Finset.univ) = X := by
      rw [← hf]; exact read_copy_reshape m m' _ f f'
    have hI := owns_intro (Ix := ℕ) (Name := ℕ) (U := UU) (Lvl := ℕ) (τ := τ) (dst t c : Thread nD τ) m' fullShare
      ((sq m').view.write (Elt F) f'
          ((sq m).view.read (Elt F) f) Finset.univ)
    rw [hX] at hI
    rw [sq_set]
    exact hI
  have h1' : ((m.view.loc (c : Thread nD τ)) ↦[m.view.set]{q} f : sProp 𝕄) ⊢ ((sq m).view.loc (c : Thread nD τ)
      ↦[(sq m).view.set]{q} f) := by
    rw [sq_set]
  have h2' : ((m'.view.loc (dst t c : Thread nD τ)) ↦[m'.view.set]{fullShare} f' : sProp 𝕄) ⊢ ((sq m').view.loc (dst t c : Thread nD τ)
      ↦[(sq m').view.set]{fullShare} f') := by
    rw [sq_set]
  iapply (Rounds.wp_send_pointsTo_with 𝒱₀ ER (Rd I) (c : Thread nD τ) none (c' := (dst t c : Thread nD τ))
      (src := sq m) (dst := sq m')
      (sS := semOf (some o)) (sem := semOf k) (q := q) (fs := f) (fd := f') (κ₁ := K (cell c (some o))) (κ₂ := K (cell (dst t c) k))
      (r₁ := 0) (r₂ := 0) (d₁ := false) (d₂ := false) (F := G)
      (by rw [Rd_duties]; exact hds) (by rw [Rd_duties]; exact hdr)
      0 0 N hN ((Rd_amount I c (some o) 0 false).trans has) ((Rd_amount I (dst t c) k 0 false).trans har) (owe c (n + 1)) hO (W := W)
      (h1.trans (hp1.trans (Entails.of_eq (Rd_payload I c (some o) 0 false).symm)))
      ((sep_mono_left h2).trans (hp2.trans (Entails.of_eq (Rd_payload I (dst t c) k 0 false).symm)))) $$ [Hm Hm' HG HO Hts Htr]
  · isplitr; · iexact HIs
    isplitr; · iexact HIr
    isplitl [Hm]; · iapply h1'; iexact Hm
    isplitl [Hm' HG]
    · isplitl [Hm']; · iapply h2'; iexact Hm'
      iexact HG
    isplitl [HO]; · iexact HO
    isplitl [Hts]; · iexact Hts
    isplitr; · iexact Hrs
    isplitl [Htr]; · iexact Htr
    iexact Hr
  iintro ⟨Hcr, HO⟩
  iapply Hk
  isplitl [Hcr]; · iexact Hcr
  iexists W; iexact HO

end Cert.Proof.Ring

end
-- ==== Proof.Local.lean ====
/- The pieces of the body that only compute: on this device's buffers, with no semaphore. -/
module

public import proofs.«01_k».proof.Proof.Comm

@[expose] public section

noncomputable section

namespace Cert.Proof.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F] (I : Inp F)

local notation "𝕄" => MT nD τ sig ℕ (Elt F) ℕ UU ℕ

/-! ## Parts of a matrix -/

section Parts

variable {α : Type}

theorem ix_ext {n m : ℕ} {i j : (⟨2, ![n, m]⟩ : Shape).Idx} (h0 : (i 0).val = (j 0).val) (h1 : (i 1).val = (j 1).val) : i = j := by
  funext a
  fin_cases a
  · exact Fin.ext h0
  · exact Fin.ext h1

theorem all_emb (i : S1024x1024.Idx) : rcAll.emb i = i :=
  ix_ext (by rw [Rect.emb_apply]; show 0 + 1 * (i 0).val = _; omega) (by rw [Rect.emb_apply]; show 0 + 1 * (i 1).val = _; omega)

theorem load_all (X : S1024x1024.Idx → α) : (fun i => X (rcAll.emb i)) = X := funext fun i => congrArg X (all_emb i)

theorem store_all (X w : S1024x1024.Idx → α) : rcAll.overlay X w = w := by
  funext i
  have h := Rect.overlay_emb rcAll X w i
  rwa [all_emb] at h

/-- The rectangle of a half. -/
theorem half_false (X : S1024x1024.Idx → α) : (fun i => X (rcTop.emb i)) = half false X := rfl
theorem half_true (X : S1024x1024.Idx → α) : (fun i => X (rcBot.emb i)) = half true X := rfl

theorem store_halves (X : S1024x1024.Idx → α) (a b : S512x1024.Idx → α) : rcBot.overlay (rcTop.overlay X a) b = joinH a b := by
  funext i
  have hi : (i 0).val < 1024 := (i 0).isLt
  unfold joinH
  by_cases h : (i 0).val < 512
  · rw [dif_pos h, Rect.overlay_of_not_mem]
    · have e : i = rcTop.emb (ix ⟨(i 0).val, h⟩ (i 1)) :=
        ix_ext (by rw [Rect.emb_apply]; show _ = 0 + 1 * (i 0).val; omega) (by rw [Rect.emb_apply]; show _ = 0 + 1 * (i 1).val; omega)
      conv_lhs => rw [e]
      exact Rect.overlay_emb rcTop X a _
    · intro hm
      obtain ⟨j, hj⟩ := rcBot.exists_idx_of_mem hm
      have := congrArg (fun x : S1024x1024.Idx => (x 0).val) hj
      change 512 + 1 * (j 0).val = (i 0).val at this
      omega
  · rw [dif_neg h]
    have e : i = rcBot.emb (ix ⟨(i 0).val - 512, by omega⟩ (i 1)) :=
      ix_ext (by rw [Rect.emb_apply]; show _ = 512 + 1 * ((i 0).val - 512); omega) (by rw [Rect.emb_apply]; show _ = 0 + 1 * (i 1).val; omega)
    conv_lhs => rw [e]
    exact Rect.overlay_emb rcBot _ b _

theorem off1_eq : ∀ t : Fin k0_t1_loop.trips, k0_off1 t 0 = 0 ∧ k0_off1 t 1 = 128 * t.val := by decide
theorem off2_eq : ∀ t : Fin k0_t1_loop.trips, k0_off2 t 0 = t.val ∧ k0_off2 t 1 = 0 ∧ k0_off2 t 2 = 0 := by decide

/-- The columns of the heads before `t` hold these heads' values. -/
def upTo (f : Fin k0_t1_loop.trips → S1024x128.Idx → α) (t : ℕ) (X : S1024x1024.Idx → α) : Prop :=
  ∀ i : S1024x1024.Idx, (i 1).val < 128 * t → X i = joinC f i

theorem upTo_step (f : Fin k0_t1_loop.trips → S1024x128.Idx → α) (t : Fin k0_t1_loop.trips) (X : S1024x1024.Idx → α)
    (h : upTo f t.val X) : upTo f (t.val + 1) ((rcCol t).overlay X (f t)) := by
  intro i hi
  have h0 := (off1_eq t).1
  have h1 := (off1_eq t).2
  by_cases hc : (i 1).val < 128 * t.val
  · rw [Rect.overlay_of_not_mem]
    · exact h i hc
    · intro hm
      obtain ⟨j, hj⟩ := (rcCol t).exists_idx_of_mem hm
      have := congrArg (fun x : S1024x1024.Idx => (x 1).val) hj
      change k0_off1 t 1 + 1 * (j 1).val = (i 1).val at this
      omega
  · have e : i = (rcCol t).emb (ix (i 0) ⟨(i 1).val % 128, Nat.mod_lt _ (by decide)⟩) :=
      ix_ext (by rw [Rect.emb_apply]; show _ = k0_off1 t 0 + 1 * (i 0).val; omega)
        (by rw [Rect.emb_apply]; show _ = k0_off1 t 1 + 1 * ((i 1).val % 128); omega)
    conv_lhs => rw [e]
    rw [Rect.overlay_emb]
    unfold joinC
    congr 1
    exact Fin.ext (show t.val = (i 1).val / 128 by omega)

theorem upTo_all (f : Fin k0_t1_loop.trips → S1024x128.Idx → α) (X : S1024x1024.Idx → α)
    (h : upTo f 8 X) : X = joinC f :=
  funext fun i => h i (by have := (i 1).isLt; change _ < 1024 at this; omega)

end Parts

/-! ## The pieces -/

variable (c : Dev nD)

/-- A piece after another. -/
theorem seq {α β : Type} {p : Prog (TpuEff nD τ sig (Elt F) Λ₀ .tc) α} {k : α → Prog (TpuEff nD τ sig (Elt F) Λ₀ .tc) β} {Q : β → sProp 𝕄} :
    run c p (fun x => run c (k x) Q) ⊢ run c (p >>= k) Q := by
  unfold run; rw [wp_bind]

theorem done {α : Type} {x : α} {Q : α → sProp 𝕄} : Q x ⊢ run c (.ret x) Q := by
  unfold run; rw [wp_ret]; iintro H; imodintro; iexact H

/-- The own half block goes to slot 0. -/
theorem init (d : Bool) {X : Vec F S1024x1024 .bf16} {Q : PUnit → sProp 𝕄} :
    iprop(own c gX fullShare X ∗ owned c (xSl d 0 (by decide))
      ∗ (own c gX fullShare X ∗ own c (xSl d 0 (by decide)) fullShare (vX (half d X)) -∗ Q ⟨⟩)) ⊢ run c (pInit (F := F) d) Q := by
  unfold owned
  iintro ⟨HX, ⟨%Y, HY⟩, Hk⟩
  cases d <;>
  · simp only [pInit, Prog.lift, Prog.bind_op, Prog.bind_ret]
    iapply (ld 𝒱₀ (c : Thread nD τ) none Set.univ) $$ HX
    iintro HX
    iapply (ld_slice 𝒱₀ (c : Thread nD τ) none Set.univ) $$ HY
    iintro HY
    iapply (st_slice 𝒱₀ (c : Thread nD τ) none Set.univ) $$ HY
    iintro HY
    iapply (done c)
    iapply Hk
    isplitl [HX]; · iexact HX
    iexact HY

/-- The queries of both halves. -/
theorem queries (q : PosShare TreeShare) (k : ℕ) (hk : k < 8) {xf xt : Vec F S1x512x1024 .bf16} {w : Vec F S1024x1024 .bf16} {Q : PUnit → sProp 𝕄} :
    iprop(own c (xSl false k hk) q xf ∗ own c (xSl true k hk) q xt ∗ own c gWq fullShare w ∗ owned c gQ
      ∗ (own c (xSl false k hk) q xf ∗ own c (xSl true k hk) q xt ∗ own c gWq fullShare w ∗ own c gQ fullShare (joinH (vQ xf w) (vQ xt w)) -∗ Q ⟨⟩))
      ⊢ run c (pQ (F := F) false k hk >>= fun _ => pQ true k hk) Q := by
  unfold owned
  iintro ⟨Hf, Ht, HW, ⟨%Y, HY⟩, Hk⟩
  simp only [pQ, Prog.lift, Prog.bind_op, Prog.bind_ret]
  iapply (ld_slice 𝒱₀ (c : Thread nD τ) none Set.univ) $$ Hf
  iintro Hf
  iapply (ld 𝒱₀ (c : Thread nD τ) none Set.univ) $$ HW
  iintro HW
  iapply (ld 𝒱₀ (c : Thread nD τ) none Set.univ) $$ HY
  iintro HY
  iapply (st 𝒱₀ (c : Thread nD τ) none Set.univ) $$ HY
  iintro HY
  iapply (ld_slice 𝒱₀ (c : Thread nD τ) none Set.univ) $$ Ht
  iintro Ht
  iapply (ld 𝒱₀ (c : Thread nD τ) none Set.univ) $$ HW
  iintro HW
  iapply (ld 𝒱₀ (c : Thread nD τ) none Set.univ) $$ HY
  iintro HY
  iapply (st 𝒱₀ (c : Thread nD τ) none Set.univ) $$ HY
  iintro HY
  iapply (done c)
  iapply Hk
  isplitl [Hf]; · iexact Hf
  isplitl [Ht]; · iexact Ht
  isplitl [HW]; · iexact HW
  rw [store_halves, load_all]
  iexact HY

/-- One head's context. -/
theorem head (jR jL : BitVec 32) (t : Fin k0_t1_loop.trips) {q : Vec F S1024x1024 .bf16} {kk vv : Vec F S8x1024x128 .bf16} {X : Vec F S1024x1024 .bf16}
    {Q : PUnit → sProp 𝕄} :
    iprop(own c gQ fullShare q ∗ own c gK fullShare kk ∗ own c gV fullShare vv ∗ own c gCtx fullShare X
      ∗ (own c gQ fullShare q ∗ own c gK fullShare kk ∗ own c gV fullShare vv
          ∗ own c gCtx fullShare ((rcCol t).overlay X (vHead jR jL (fun i => q ((rcCol t).emb i)) (fun i => kk ((rcHd t).emb i)) (fun i => vv ((rcHd t).emb i)))) -∗ Q ⟨⟩))
      ⊢ run c (pHead (F := F) jR jL t) Q := by
  iintro ⟨Hq, HK, HV, HX, Hk⟩
  simp only [pHead, Prog.lift, Prog.bind_op, Prog.bind_ret, Prog.pure_eq_ret]
  iapply (ld 𝒱₀ (c : Thread nD τ) none Set.univ) $$ Hq
  iintro Hq
  iapply (ld 𝒱₀ (c : Thread nD τ) none Set.univ) $$ HK
  iintro HK
  iapply (ld 𝒱₀ (c : Thread nD τ) none Set.univ) $$ HV
  iintro HV
  iapply (ld 𝒱₀ (c : Thread nD τ) none Set.univ) $$ HX
  iintro HX
  iapply (st 𝒱₀ (c : Thread nD τ) none Set.univ) $$ HX
  iintro HX
  iapply (done c)
  iapply Hk
  isplitl [Hq]; · iexact Hq
  isplitl [HK]; · iexact HK
  isplitl [HV]; · iexact HV
  iexact HX

/-- What is held after `n` of the heads. -/
def heldTo (jR jL : BitVec 32) (q : Vec F S1024x1024 .bf16) (kk vv : Vec F S8x1024x128 .bf16) (n : ℕ) : sProp 𝕄 :=
  iprop(own c gQ fullShare q ∗ own c gK fullShare kk ∗ own c gV fullShare vv
    ∗ ∃ X, ⌜upTo (fun t => vHead jR jL (fun i => q ((rcCol t).emb i)) (fun i => kk ((rcHd t).emb i)) (fun i => vv ((rcHd t).emb i))) n X⌝ ∗ own c gCtx fullShare X)

/-- All heads' contexts. -/
theorem heads (jR jL : BitVec 32) {q : Vec F S1024x1024 .bf16} {kk vv : Vec F S8x1024x128 .bf16} {Q : PUnit → sProp 𝕄} :
    iprop(own c gQ fullShare q ∗ own c gK fullShare kk ∗ own c gV fullShare vv ∗ owned c gCtx
      ∗ (own c gQ fullShare q ∗ own c gK fullShare kk ∗ own c gV fullShare vv
          ∗ own c gCtx fullShare (joinC fun t => vHead jR jL (fun i => q ((rcCol t).emb i)) (fun i => kk ((rcHd t).emb i)) (fun i => vv ((rcHd t).emb i))) -∗ Q ⟨⟩))
      ⊢ run c (Scf.Loop.for k0_t1_loop k0_t1_ok ⟨⟩ fun t _ => pHead (F := F) jR jL t) Q := by
  have h := Scf.wp_for frame (wpE (defs₀ (F := F)) 𝒱₀ (c : Thread nD τ) none) Set.univ k0_t1_loop.lb k0_t1_loop.ub k0_t1_loop.st k0_t1_ok PUnit.unit
    (fun t _ => pHead (F := F) jR jL t) (fun n _ => heldTo c jR jL q kk vv n) (Q := Q) ?_
  · unfold owned
    unfold heldTo at h
    iintro ⟨Hq, HK, HV, ⟨%X, HX⟩, Hk⟩
    iapply h
    isplitl [Hq HK HV HX]
    · isplitl [Hq]; · iexact Hq
      isplitl [HK]; · iexact HK
      isplitl [HV]; · iexact HV
      iexists X
      isplitr; · ipureintro; intro i hi; omega
      iexact HX
    · iintro %_ ⟨Hq, HK, HV, ⟨%X, %hX, HX⟩⟩
      iapply Hk
      isplitl [Hq]; · iexact Hq
      isplitl [HK]; · iexact HK
      isplitl [HV]; · iexact HV
      rw [upTo_all _ X hX]; iexact HX
  · intro t _
    unfold heldTo
    iintro ⟨Hq, HK, HV, ⟨%X, %hX, HX⟩⟩
    iapply (head c jR jL t)
    isplitl [Hq]; · iexact Hq
    isplitl [HK]; · iexact HK
    isplitl [HV]; · iexact HV
    isplitl [HX]; · iexact HX
    iintro ⟨Hq, HK, HV, HX⟩
    isplitl [Hq]; · iexact Hq
    isplitl [HK]; · iexact HK
    isplitl [HV]; · iexact HV
    iexists _
    isplitr; · ipureintro; exact upTo_step _ t X hX
    iexact HX

/-- What stays as it is all along: the weights, the keys and the values. -/
def consts : sProp 𝕄 :=
  iprop(own c gWq fullShare (I.wq c) ∗ own c gK fullShare (I.kk c) ∗ own c gV fullShare (I.vv c) ∗ own c gWo fullShare (I.wo c))

/-- The scratch that every step of the ring writes anew. -/
def scratch : sProp 𝕄 := iprop(owned (F := F) c gQ ∗ owned c gCtx)

variable {I}

/-- This device's term for the blocks in slot `k`. -/
theorem part (q : PosShare TreeShare) (k : ℕ) (hk : k < 8) {Q : PUnit → sProp 𝕄} :
    iprop(own c (xSl false k hk) q (xval I false k c) ∗ own c (xSl true k hk) q (xval I true k c) ∗ consts I c ∗ scratch c ∗ owned c gD
      ∗ (own c (xSl false k hk) q (xval I false k c) ∗ own c (xSl true k hk) q (xval I true k c) ∗ consts I c ∗ scratch c
          ∗ own c gD fullShare (dval I k c) -∗ Q ⟨⟩))
      ⊢ run c (pPart (F := F) c k hk) Q := by
  have e : pPart (F := F) c k hk = (pQ (F := F) false k hk >>= fun _ => pQ true k hk) >>= fun _ =>
      (Scf.Loop.for k0_t1_loop k0_t1_ok ⟨⟩ fun t _ => pHead (F := F) (wSrc false c k) (wSrc true c k) t) >>= fun _ => (do
        let v : Vec F S1024x1024 .bf16 ← Prog.lift (.load gCtx rcAll.toLoadRect (View.loadsAt_vmem h_S1024x1024))
        let w : Vec F S1024x1024 .bf16 ← Prog.lift (.load gWo rcAll.toLoadRect (View.loadsAt_vmem h_S1024x1024))
        let _ : Vec F S1024x1024 .f32 ← Prog.lift (.load gD rcAll.toLoadRect (View.loadsAt_vmem h_S1024x1024))
        Prog.lift (.store gD rcAll (vOut v w) Finset.univ (View.stores_vmem_bits_univ h_S1024x1024 rfl) (.inl rfl)) : PK F) := by
    rw [bind_assoc]; rfl
  rw [e]
  unfold consts scratch
  iintro ⟨Hf, Ht, ⟨HWq, HK, HV, HWo⟩, ⟨HQ, HC⟩, HD, Hk⟩
  iapply (seq c)
  iapply (queries c q k hk)
  isplitl [Hf]; · iexact Hf
  isplitl [Ht]; · iexact Ht
  isplitl [HWq]; · iexact HWq
  isplitl [HQ]; · iexact HQ
  iintro ⟨Hf, Ht, HWq, HQ⟩
  iapply (seq c)
  iapply (heads c)
  isplitl [HQ]; · iexact HQ
  isplitl [HK]; · iexact HK
  isplitl [HV]; · iexact HV
  isplitl [HC]; · iexact HC
  iintro ⟨HQ, HK, HV, HC⟩
  unfold owned
  icases HD with ⟨%D, HD⟩
  simp only [Prog.lift, Prog.bind_op, Prog.bind_ret]
  iapply (ld 𝒱₀ (c : Thread nD τ) none Set.univ) $$ HC
  iintro HC
  iapply (ld 𝒱₀ (c : Thread nD τ) none Set.univ) $$ HWo
  iintro HWo
  iapply (ld 𝒱₀ (c : Thread nD τ) none Set.univ) $$ HD
  iintro HD
  iapply (st 𝒱₀ (c : Thread nD τ) none Set.univ) $$ HD
  iintro HD
  iapply (done c)
  iapply Hk
  isplitl [Hf]; · iexact Hf
  isplitl [Ht]; · iexact Ht
  isplitl [HWq HK HV HWo]
  · isplitl [HWq]; · iexact HWq
    isplitl [HK]; · iexact HK
    isplitl [HV]; · iexact HV
    iexact HWo
  isplitl [HQ HC]
  · isplitl [HQ]; · iexists _; iexact HQ
    iexists _; iexact HC
  rw [store_all, load_all, load_all]
  iexact HD

/-- Loading a half of the product. -/
theorem loadD (d : Bool) {D : Vec F S1024x1024 .f32} {Q : Vec F S512x1024 .f32 → sProp 𝕄} :
    iprop(own c gD fullShare D ∗ (own c gD fullShare D -∗ Q (half d D))) ⊢ run c (pD (F := F) d) Q := by
  iintro ⟨HD, Hk⟩
  cases d <;>
  · simp only [pD, Prog.lift]
    iapply (ld 𝒱₀ (c : Thread nD τ) none Set.univ) $$ HD
    iintro HD
    iapply (done c)
    first | rw [half_false] | rw [half_true]
    iapply Hk
    iexact HD

/-- The running sum of a direction starts. -/
theorem first (d : Bool) {D : Vec F S1024x1024 .f32} {Q : PUnit → sProp 𝕄} :
    iprop(own c gD fullShare D ∗ owned c (aSl d 0 (by decide))
      ∗ (own c gD fullShare D ∗ own c (aSl d 0 (by decide)) fullShare (vFirst (half d D)) -∗ Q ⟨⟩)) ⊢ run c (pFirst (F := F) d) Q := by
  unfold owned pFirst
  iintro ⟨HD, ⟨%Y, HY⟩, Hk⟩
  iapply (seq c)
  iapply (loadD c d)
  isplitl [HD]; · iexact HD
  iintro HD
  simp only [Prog.lift, Prog.bind_op, Prog.bind_ret]
  iapply (ld_slice 𝒱₀ (c : Thread nD τ) none Set.univ) $$ HY
  iintro HY
  iapply (st_slice 𝒱₀ (c : Thread nD τ) none Set.univ) $$ HY
  iintro HY
  iapply (done c)
  iapply Hk
  isplitl [HD]; · iexact HD
  iexact HY

/-- A term is added to it. -/
theorem add (d : Bool) (k : ℕ) (hk : k < 2) {D : Vec F S1024x1024 .f32} {A : Vec F S1x512x1024 .bf16} {Q : PUnit → sProp 𝕄} :
    iprop(own c gD fullShare D ∗ own c (aSl d k hk) fullShare A
      ∗ (own c gD fullShare D ∗ own c (aSl d k hk) fullShare (vAdd A (half d D)) -∗ Q ⟨⟩)) ⊢ run c (pAdd (F := F) d k hk) Q := by
  unfold pAdd
  iintro ⟨HD, HY, Hk⟩
  simp only [Prog.lift, Prog.bind_op, Prog.bind_ret]
  iapply (ld_slice 𝒱₀ (c : Thread nD τ) none Set.univ) $$ HY
  iintro HY
  iapply (seq c)
  iapply (loadD c d)
  isplitl [HD]; · iexact HD
  iintro HD
  iapply (ld_slice 𝒱₀ (c : Thread nD τ) none Set.univ) $$ HY
  iintro HY
  iapply (st_slice 𝒱₀ (c : Thread nD τ) none Set.univ) $$ HY
  iintro HY
  iapply (done c)
  iapply Hk
  isplitl [HD]; · iexact HD
  iexact HY

/-- The finished sums are stored in the result. -/
theorem fin {A B : Vec F S1x512x1024 .bf16} {Q : PUnit → sProp 𝕄} :
    iprop(own c (aSl false 0 (by decide)) fullShare A ∗ own c (aSl true 0 (by decide)) fullShare B ∗ owned c gOut
      ∗ (own c (aSl false 0 (by decide)) fullShare A ∗ own c (aSl true 0 (by decide)) fullShare B
        ∗ own c gOut fullShare (joinH (vFin A) (vFin B)) -∗ Q ⟨⟩)) ⊢ run c (pFin (F := F) false >>= fun _ => pFin true) Q := by
  unfold owned
  iintro ⟨HA, HB, ⟨%Y, HY⟩, Hk⟩
  simp only [pFin, Prog.lift, Prog.bind_op, Prog.bind_ret]
  iapply (ld_slice 𝒱₀ (c : Thread nD τ) none Set.univ) $$ HA
  iintro HA
  iapply (ld 𝒱₀ (c : Thread nD τ) none Set.univ) $$ HY
  iintro HY
  iapply (st 𝒱₀ (c : Thread nD τ) none Set.univ) $$ HY
  iintro HY
  iapply (ld_slice 𝒱₀ (c : Thread nD τ) none Set.univ) $$ HB
  iintro HB
  iapply (ld 𝒱₀ (c : Thread nD τ) none Set.univ) $$ HY
  iintro HY
  iapply (st 𝒱₀ (c : Thread nD τ) none Set.univ) $$ HY
  iintro HY
  iapply (done c)
  iapply Hk
  isplitl [HA]; · iexact HA
  isplitl [HB]; · iexact HB
  rw [store_halves]
  iexact HY

end Cert.Proof.Ring

end
-- ==== Proof.Stages.lean ====
/- The reference's result in named stages: the block mask, the scores, their exponentials, the weights, the context and
   the output. -/
module

public import proofs.«01_k».proof.Proof.Gen.ReferenceIdeal.Run
public import Idealize.ShloMosaic.Lib.Pointwise

@[expose] public section

noncomputable section

namespace Cert.Proof.Ref

open Idealize.ShloMosaic Idealize.ShloMosaic.TcCoe
open Cert.ReferenceIdeal Cert.ReferenceIdeal.Gen

/-! ## The mask -/

/-- The block of each query row: a floor division by 64. -/
def qb1 : IVec S8192 32 :=
  select
    (andi
      (cmpi .ne (signi (iotaInDim S8192 32 0)) (broadcastInDim S8192 ![] bcast_S_S8192 (signi (constantI S_ 32 64#32))))
      (cmpi .ne (Host.remsi (iotaInDim S8192 32 0) (broadcastInDim S8192 ![] bcast_S_S8192 (constantI S_ 32 64#32)))
        (broadcastInDim S8192 ![] bcast_S_S8192 (constantI S_ 32 0#32))))
    (subi (Host.divsi (iotaInDim S8192 32 0) (broadcastInDim S8192 ![] bcast_S_S8192 (constantI S_ 32 64#32)))
      (broadcastInDim S8192 ![] bcast_S_S8192 (constantI S_ 32 1#32)))
    (Host.divsi (iotaInDim S8192 32 0) (broadcastInDim S8192 ![] bcast_S_S8192 (constantI S_ 32 64#32)))

/-- The block of each key row. -/
def kb1 : IVec S1024 32 :=
  select
    (andi
      (cmpi .ne (signi (iotaInDim S1024 32 0)) (broadcastInDim S1024 ![] bcast_S_S1024 (signi (constantI S_ 32 64#32))))
      (cmpi .ne (Host.remsi (iotaInDim S1024 32 0) (broadcastInDim S1024 ![] bcast_S_S1024 (constantI S_ 32 64#32)))
        (broadcastInDim S1024 ![] bcast_S_S1024 (constantI S_ 32 0#32))))
    (subi (Host.divsi (iotaInDim S1024 32 0) (broadcastInDim S1024 ![] bcast_S_S1024 (constantI S_ 32 64#32)))
      (broadcastInDim S1024 ![] bcast_S_S1024 (constantI S_ 32 1#32)))
    (Host.divsi (iotaInDim S1024 32 0) (broadcastInDim S1024 ![] bcast_S_S1024 (constantI S_ 32 64#32)))

def qb2 : IVec S8192x1 32 := broadcastInDim S8192x1 ![0] bcast_S8192_S8192x1_0 qb1
def kb2 : IVec S1x1024 32 := broadcastInDim S1x1024 ![1] bcast_S1024_S1x1024_1 kb1
def qbF : IVec S8192x1024 32 := broadcastInDim S8192x1024 ![0, 1] bcast_S8192x1_S8192x1024_0_1 qb2
def kbF : IVec S8192x1024 32 := broadcastInDim S8192x1024 ![0, 1] bcast_S1x1024_S8192x1024_0_1 kb2

def three : IVec S_ 32 :=
  select (cmpi .eq (constantI S_ 32 3#32) (constantI S_ 32 0#32)) (constantI S_ 32 1#32) (constantI S_ 32 3#32)

def bc (x : IVec S_ 32) : IVec S8192x1024 32 := broadcastInDim S8192x1024 ![] bcast_S_S8192x1024 x

def rem0 : IVec S8192x1024 32 := Host.remsi (addi qbF kbF) (bc three)

/-- The sum of the two blocks modulo 3. -/
def rem3 : IVec S8192x1024 32 :=
  select
    (andi
      (cmpi .ne (cmpi .slt rem0 (bc (constantI S_ 32 0#32)))
        (broadcastInDim S8192x1024 ![] bcast_S_S8192x1024 (cmpi .slt three (constantI S_ 32 0#32))))
      (cmpi .ne rem0 (bc (constantI S_ 32 0#32))))
    (addi rem0 (bc three)) rem0

/-- The mask: which keys a query reads. -/
def msk : IVec S8192x1024 1 :=
  ori
    (ori (cmpi .eq qbF kbF)
      (broadcastInDim S8192x1024 ![0, 1] bcast_S1x1024_S8192x1024_0_1
        (cmpi .eq kb2 (broadcastInDim S1x1024 ![] bcast_S_S1x1024 (constantI S_ 32 0#32)))))
    (cmpi .eq rem3 (bc (constantI S_ 32 0#32)))

/-- Whether a query reads any key. -/
def keepRow : IVec S8192 1 := Host.reduce IntOp.ori msk (constantI S_ 1 0#1) reducesTo_S8192x1024_S8192_d1 h_S_

/-! ## The attention -/

variable (x : FVec Ideal S1x8192x1024 .f32) (wq : FVec Ideal S1024x8192 .f32) (k v : FVec Ideal S1x1024x64x128 .f32)
  (wo : FVec Ideal S8192x1024 .f32)

def qry : FVec Ideal S1x8192x64x128 .f32 :=
  shapeCast _ (Host.dotGeneral (F := Ideal) dot_S1x8192x1024_S1024x8192_S1x8192x8192_2_0_01_1_n_n none x wq) shapeCasts_S1x8192x8192_S1x8192x64x128

def score : FVec Ideal S1x64x8192x1024 .f32 :=
  mulf (Host.dotGeneral dot_S1x8192x64x128_S1x1024x64x128_S1x64x8192x1024_3_3_1_1_02_02 none (qry x wq) k)
    (broadcastInDim S1x64x8192x1024 ![] bcast_S_S1x64x8192x1024 (constant S_ .f32 0x3DB504F3#32))

def sel : FVec Ideal S1x64x8192x1024 .f32 :=
  select
    (broadcastInDim S1x64x8192x1024 ![0, 1, 2, 3] bcast_S1x1x8192x1024_S1x64x8192x1024_0_1_2_3
      (broadcastInDim S1x1x8192x1024 ![2, 3] bcast_S8192x1024_S1x1x8192x1024_2_3 msk))
    (score x wq k)
    (broadcastInDim S1x64x8192x1024 ![] bcast_S_S1x64x8192x1024 (constant S_ .f32 0xFF800000#32))

def mx : FVec Ideal S1x64x8192 .f32 :=
  Host.reduce FloatOps.maximumf (sel x wq k) (constant S_ .f32 0xFF800000#32) reducesTo_S1x64x8192x1024_S1x64x8192_d3 h_S_

def expo : FVec Ideal S1x64x8192x1024 .f32 :=
  Host.exp (subf (sel x wq k)
    (broadcastInDim S1x64x8192x1024 ![0, 1, 2, 3] bcast_S1x64x8192x1_S1x64x8192x1024_0_1_2_3
      (broadcastInDim S1x64x8192x1 ![0, 1, 2] bcast_S1x64x8192_S1x64x8192x1_0_1_2 (mx x wq k))))

def total : FVec Ideal S1x64x8192x1 .f32 :=
  select
    (broadcastInDim S1x64x8192x1 ![0, 1, 2, 3] bcast_S1x1x8192x1_S1x64x8192x1_0_1_2_3
      (broadcastInDim S1x1x8192x1 ![2] bcast_S8192_S1x1x8192x1_2 keepRow))
    (broadcastInDim S1x64x8192x1 ![0, 1, 2] bcast_S1x64x8192_S1x64x8192x1_0_1_2
      (Host.reduceAdd (expo x wq k) (constant S_ .f32 0x00000000#32) reducesTo_S1x64x8192x1024_S1x64x8192_d3 h_S_))
    (broadcastInDim S1x64x8192x1 ![] bcast_S_S1x64x8192x1 (constant S_ .f32 0x3F800000#32))

def weight : FVec Ideal S1x64x8192x1024 .f32 :=
  select
    (broadcastInDim S1x64x8192x1024 ![0, 1, 2, 3] bcast_S1x1x8192x1_S1x64x8192x1024_0_1_2_3
      (broadcastInDim S1x1x8192x1 ![2] bcast_S8192_S1x1x8192x1_2 keepRow))
    (Host.divf (expo x wq k)
      (broadcastInDim S1x64x8192x1024 ![0, 1, 2, 3] bcast_S1x64x8192x1_S1x64x8192x1024_0_1_2_3 (total x wq k)))
    (broadcastInDim S1x64x8192x1024 ![] bcast_S_S1x64x8192x1024 (constant S_ .f32 0x00000000#32))

def ctx : FVec Ideal S1x8192x8192 .f32 :=
  shapeCast _
    (transpose S1x8192x64x128 [0, 3, 1, 2]
      (Host.dotGeneral (F := Ideal) dot_S1x1024x64x128_S1x64x8192x1024_S1x64x128x8192_1_3_3_2_02_01 none v (weight x wq k))
      transposes_S1x64x128x8192_S1x8192x64x128_0_3_1_2)
    shapeCasts_S1x8192x64x128_S1x8192x8192

/-- The output. -/
def out : FVec Ideal S1x8192x1024 .f32 :=
  Host.dotGeneral dot_S1x8192x8192_S8192x1024_S1x8192x1024_2_0_01_1_n_n none (ctx x wq k v) wo

/-- The run's result is that output. -/
theorem res_eq (m : (ℓ : Loc nD τ sig) → Buf (Elt Ideal) ℓ) (c : Dev nD) :
    Value.res_main_v44 (F := Ideal) m c
      = out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  unfold Value.res_main_v44
  rfl

end Cert.Proof.Ref
-- ==== Proof.Softmax.lean ====
/- A row of softmax weights does not change when a constant is taken from its scores, and a score of −∞ is a score that
   is left out. -/
module

public import Idealize.ShloMosaic.Lib.Pointwise

@[expose] public section

noncomputable section

namespace Cert.Proof

open Idealize.ShloMosaic

/-- The scores with −∞ added where a key is not read. -/
def shut {n : ℕ} (s : Fin n → EReal) (p : Fin n → Bool) (j : Fin n) : EReal := s j + (if p j then 0 else ⊥)

/-- The weight of key `j`: its exponential over the sum of the exponentials. -/
def smw {n : ℕ} (s : Fin n → EReal) (p : Fin n → Bool) (j : Fin n) : EReal :=
  Ideal.div (Ideal.exp (shut s p j)) (∑ i : Fin n, Ideal.exp (shut s p i))

theorem coe_sum' {n : ℕ} (f : Fin n → ℝ) : ((∑ i, f i : ℝ) : EReal) = ∑ i, (f i : EReal) := by
  classical
  have : ∀ t : Finset (Fin n), ((∑ i ∈ t, f i : ℝ) : EReal) = ∑ i ∈ t, (f i : EReal) := fun t => by
    induction t using Finset.induction_on with
    | empty => simp
    | insert a t ha ih => rw [Finset.sum_insert ha, Finset.sum_insert ha, EReal.coe_add, ih]
  exact this _

theorem smw_shift {n : ℕ} (s : Fin n → EReal) (hs : ∀ j, s j ≠ ⊤ ∧ s j ≠ ⊥) (p : Fin n → Bool) (j0 : Fin n)
    (h0 : p j0 = true) (j : Fin n) :
    Ideal.div
      (Ideal.exp ((if p j then s j else ⊥) - Finset.univ.fold max ⊥ fun i => if p i then s i else ⊥))
      (∑ i, Ideal.exp ((if p i then s i else ⊥) - Finset.univ.fold max ⊥ fun i => if p i then s i else ⊥))
    = smw s p j := by
  obtain ⟨r, hr⟩ : ∃ r : Fin n → ℝ, ∀ j, s j = (r j : EReal) :=
    ⟨fun j => (s j).toReal, fun j => (EReal.coe_toReal (hs j).1 (hs j).2).symm⟩
  obtain rfl : s = fun j => (r j : EReal) := funext hr
  obtain ⟨μ, hμ⟩ : ∃ μ : ℝ, (Finset.univ.fold max ⊥ fun i => if p i then (r i : EReal) else ⊥) = (μ : EReal) := by
    refine ⟨_, (EReal.coe_toReal ?_ ?_).symm⟩
    · refine ne_of_lt ((Finset.fold_max_lt _).2 ⟨bot_lt_top, fun i _ => ?_⟩)
      split
      · exact EReal.coe_lt_top _
      · exact bot_lt_top
    · refine ne_of_gt ((Finset.lt_fold_max _).2 (Or.inr ⟨j0, Finset.mem_univ _, ?_⟩))
      rw [if_pos h0]
      exact EReal.bot_lt_coe _
  rw [hμ]
  have hA : ∀ i, Ideal.exp ((if p i then (r i : EReal) else ⊥) - (μ : EReal))
      = ((Real.exp (-μ) * (if p i then Real.exp (r i) else 0) : ℝ) : EReal) := fun i => by
    by_cases h : p i
    · rw [if_pos h, if_pos h, ← EReal.coe_sub, Ideal.exp_coe, ← Real.exp_add]
      congr 2
      ring
    · rw [if_neg h, if_neg h, mul_zero, EReal.coe_zero, EReal.bot_sub, Ideal.exp_bot]
  have hB : ∀ i, Ideal.exp (shut (fun j => (r j : EReal)) p i) = (((if p i then Real.exp (r i) else 0) : ℝ) : EReal) :=
    fun i => by
      unfold shut
      by_cases h : p i
      · rw [if_pos h, if_pos h, add_zero, Ideal.exp_coe]
      · rw [if_neg h, if_neg h, EReal.coe_zero, EReal.add_bot, Ideal.exp_bot]
  have hpos : 0 < ∑ i, (if p i then Real.exp (r i) else 0) := by
    refine Finset.sum_pos' (fun i _ => ?_) ⟨j0, Finset.mem_univ _, ?_⟩
    · split
      · exact (Real.exp_pos _).le
      · exact le_refl _
    · rw [if_pos h0]
      exact Real.exp_pos _
  have he : Real.exp (-μ) ≠ 0 := (Real.exp_pos _).ne'
  unfold smw
  simp only [hA, hB]
  rw [← coe_sum', ← coe_sum', ← Finset.mul_sum, Ideal.div_coe (mul_ne_zero he hpos.ne'), Ideal.div_coe hpos.ne',
    ← EReal.coe_mul, ← EReal.coe_mul]
  congr 1
  field_simp

end Cert.Proof
-- ==== Proof.RefValue.lean ====
/- The reference's output, element by element. -/
module

public import proofs.«01_k».proof.Proof.Stages
public import proofs.«01_k».proof.Proof.Softmax

@[expose] public section

noncomputable section

namespace Cert.Proof

open Idealize.ShloMosaic Idealize.ShloMosaic.TcCoe

/-- Whether the queries of block `q` read the keys of block `k`. -/
def keepB (q k : ℕ) : Bool := decide (q = k) || decide (k = 0) || decide ((q + k) % 3 = 0)

/-- The scale of the scores. -/
def scl : EReal := Ideal.ofBits FTy.f32 0x3DB504F3#32

end Cert.Proof

namespace Cert.Proof.Ref

open Idealize.ShloMosaic Idealize.ShloMosaic.TcCoe
open Cert.ReferenceIdeal Cert.ReferenceIdeal.Gen

/-! ## The mask -/

theorem qb1_apply (i : Fin 8192) : qb1 (ix1 i) = BitVec.ofNat 32 (i.val / 64) := by
  pointwise [qb1]
  revert i
  decide +kernel
theorem kb1_apply (i : Fin 1024) : kb1 (ix1 i) = BitVec.ofNat 32 (i.val / 64) := by
  pointwise [kb1]
  revert i
  decide +kernel
theorem qbF_apply (i : Fin 8192) (j : Fin 1024) : qbF (ix2 i j) = qb1 (ix1 i) := by
  pointwise [qbF, qb2]
theorem kb2_apply (j : Fin 1024) : kb2 (ix2 0 j) = kb1 (ix1 j) := by
  pointwise [kb2]
theorem kbF_apply (i : Fin 8192) (j : Fin 1024) : kbF (ix2 i j) = kb1 (ix1 j) := by
  pointwise [kbF, kb2]
theorem three_apply : three ix0 = 3#32 := by
  pointwise [three]
  decide
theorem rem0_apply (i : Fin 8192) (j : Fin 1024) :
    rem0 (ix2 i j) = IntOp.remsi ArithUnit.host (IntOp.addi (qbF (ix2 i j)) (kbF (ix2 i j))) (three ix0) := by
  pointwise [rem0, bc]
theorem rem3_apply (i : Fin 8192) (j : Fin 1024) :
    rem3 (ix2 i j) = Scalar.select
      (IntOp.andi
        (IntOp.cmpi CmpIPredicate.ne (IntOp.cmpi CmpIPredicate.slt (rem0 (ix2 i j)) 0#32)
          (IntOp.cmpi CmpIPredicate.slt (three ix0) 0#32))
        (IntOp.cmpi CmpIPredicate.ne (rem0 (ix2 i j)) 0#32))
      (IntOp.addi (rem0 (ix2 i j)) (three ix0)) (rem0 (ix2 i j)) := by
  pointwise [rem3, bc]
theorem msk_words (i : Fin 8192) (j : Fin 1024) :
    msk (ix2 i j) = IntOp.ori
      (IntOp.ori (IntOp.cmpi CmpIPredicate.eq (qbF (ix2 i j)) (kbF (ix2 i j)))
        (IntOp.cmpi CmpIPredicate.eq (kb2 (ix2 0 j)) 0#32))
      (IntOp.cmpi CmpIPredicate.eq (rem3 (ix2 i j)) 0#32) := by
  pointwise [msk, bc]

theorem mask_words : ∀ (q : Fin 128) (k : Fin 16),
    IntOp.ori
      (IntOp.ori (IntOp.cmpi CmpIPredicate.eq (BitVec.ofNat 32 q.val) (BitVec.ofNat 32 k.val))
        (IntOp.cmpi CmpIPredicate.eq (BitVec.ofNat 32 k.val) 0#32))
      (IntOp.cmpi CmpIPredicate.eq
        (Scalar.select
          (IntOp.andi
            (IntOp.cmpi CmpIPredicate.ne
              (IntOp.cmpi CmpIPredicate.slt
                (IntOp.remsi ArithUnit.host (IntOp.addi (BitVec.ofNat 32 q.val) (BitVec.ofNat 32 k.val)) 3#32) 0#32)
              (IntOp.cmpi CmpIPredicate.slt 3#32 0#32))
            (IntOp.cmpi CmpIPredicate.ne
              (IntOp.remsi ArithUnit.host (IntOp.addi (BitVec.ofNat 32 q.val) (BitVec.ofNat 32 k.val)) 3#32) 0#32))
          (IntOp.addi (IntOp.remsi ArithUnit.host (IntOp.addi (BitVec.ofNat 32 q.val) (BitVec.ofNat 32 k.val)) 3#32) 3#32)
          (IntOp.remsi ArithUnit.host (IntOp.addi (BitVec.ofNat 32 q.val) (BitVec.ofNat 32 k.val)) 3#32))
        0#32)
    = BitVec.ofBool (keepB q.val k.val) := by
  decide +kernel

theorem msk_apply (i : Fin 8192) (j : Fin 1024) :
    msk (ix2 i j) = BitVec.ofBool (keepB (i.val / 64) (j.val / 64)) := by
  rw [msk_words, rem3_apply, rem0_apply, qbF_apply, kbF_apply, kb2_apply, three_apply, qb1_apply, kb1_apply]
  exact mask_words ⟨i.val / 64, by omega⟩ ⟨j.val / 64, by omega⟩

theorem keepRow_apply (i : Fin 8192) : keepRow (ix1 i) = 1#1 := by
  have h : keepRow (ix1 i) = Finset.fold IntOp.ori (0#1) (fun j : Fin 1024 => msk (ix2 i j)) Finset.univ := by
    pointwise [keepRow]
  rw [h, ← Finset.insert_erase (Finset.mem_univ (0 : Fin 1024)), Finset.fold_insert (Finset.notMem_erase _ _), msk_apply]
  generalize Finset.fold IntOp.ori (0#1) (fun j : Fin 1024 => msk (ix2 i j)) (Finset.univ.erase 0) = b
  have h0 : keepB (i.val / 64) ((0 : Fin 1024).val / 64) = true := by simp [keepB]
  rw [h0]
  revert b
  decide

/-! ## The attention -/

variable (x : FVec Ideal S1x8192x1024 .f32) (wq : FVec Ideal S1024x8192 .f32) (k v : FVec Ideal S1x1024x64x128 .f32)
  (wo : FVec Ideal S8192x1024 .f32)

/-- The score of query row `i` and key row `j` in head `h`. -/
def scr (i : Fin 8192) (h : Fin 64) (j : Fin 1024) : EReal :=
  (∑ a : Fin 128, (∑ b : Fin 1024, x (ix3 0 i b) * wq (ix2 b ⟨h.val * 128 + a.val, by omega⟩)) * k (ix4 0 j h a)) * scl

theorem sel_apply (i : Fin 8192) (h : Fin 64) (j : Fin 1024) :
    sel x wq k (ix4 0 h i j) = if keepB (i.val / 64) (j.val / 64) then scr x wq k i h j else ⊥ := by
  have e : sel x wq k (ix4 0 h i j) = Scalar.select (msk (ix2 i j)) (scr x wq k i h j) (Ideal.ofBits FTy.f32 0xFF800000#32) := by
    pointwise [sel, score, qry, scr, scl]
  have hb : Ideal.ofBits FTy.f32 0xFF800000#32 = ⊥ := by simp [Ideal.ofBits, Ideal.ieee]
  rw [e, msk_apply, hb]
  cases keepB (i.val / 64) (j.val / 64) <;> rfl

theorem expo_apply (i : Fin 8192) (h : Fin 64) (j : Fin 1024) :
    expo x wq k (ix4 0 h i j) = Ideal.exp (sel x wq k (ix4 0 h i j)
      - Finset.fold max ⊥ (fun j' : Fin 1024 => sel x wq k (ix4 0 h i j')) Finset.univ) := by
  have hb : Ideal.ofBits FTy.f32 0xFF800000#32 = ⊥ := by simp [Ideal.ofBits, Ideal.ieee]
  rw [← hb]
  pointwise [expo, mx]

theorem total_apply (i : Fin 8192) (h : Fin 64) :
    total x wq k (ix4 0 h i 0) = Scalar.select (keepRow (ix1 i)) (∑ j : Fin 1024, expo x wq k (ix4 0 h i j)) 1 := by
  pointwise [total]

theorem weight_of (kr : IVec S8192 1) (E : FVec Ideal S1x64x8192x1024 .f32) (T : FVec Ideal S1x64x8192x1 .f32)
    (i : Fin 8192) (h : Fin 64) (j : Fin 1024) :
    select
      (broadcastInDim S1x64x8192x1024 ![0, 1, 2, 3] bcast_S1x1x8192x1_S1x64x8192x1024_0_1_2_3
        (broadcastInDim S1x1x8192x1 ![2] bcast_S8192_S1x1x8192x1_2 kr))
      (Host.divf E
        (broadcastInDim S1x64x8192x1024 ![0, 1, 2, 3] bcast_S1x64x8192x1_S1x64x8192x1024_0_1_2_3 T))
      (broadcastInDim S1x64x8192x1024 ![] bcast_S_S1x64x8192x1024 (constant S_ .f32 0x00000000#32)) (ix4 0 h i j)
    = Scalar.select (kr (ix1 i)) (Ideal.div (E (ix4 0 h i j)) (T (ix4 0 h i 0))) 0 := by
  pointwise

theorem weight_apply (i : Fin 8192) (h : Fin 64) (hs : ∀ j, scr x wq k i h j ≠ ⊤ ∧ scr x wq k i h j ≠ ⊥) (j : Fin 1024) :
    weight x wq k (ix4 0 h i j) = smw (scr x wq k i h) (fun j => keepB (i.val / 64) (j.val / 64)) j := by
  refine (weight_of keepRow (expo x wq k) (total x wq k) i h j).trans ?_
  rw [total_apply, keepRow_apply]
  change Ideal.div (expo x wq k (ix4 0 h i j)) (∑ j : Fin 1024, expo x wq k (ix4 0 h i j)) = _
  simp only [expo_apply, sel_apply]
  exact smw_shift (scr x wq k i h) hs (fun j => keepB (i.val / 64) (j.val / 64)) 0 (by simp [keepB]) j

theorem ctx_apply (i : Fin 8192) (e : Fin 8192) :
    ctx x wq k v (ix3 0 i e) = ∑ j : Fin 1024, v (ix4 0 j ⟨e.val / 128, by omega⟩ ⟨e.val % 128, by omega⟩)
      * weight x wq k (ix4 0 ⟨e.val / 128, by omega⟩ i j) := by
  pointwise [ctx]

theorem out_apply (i : Fin 8192) (n : Fin 1024) :
    out x wq k v wo (ix3 0 i n) = ∑ e : Fin 8192, ctx x wq k v (ix3 0 i e) * wo (ix2 e n) := by
  pointwise [out]

end Cert.Proof.Ref
-- ==== Proof.KerValue.lean ====
/- The kernel's result over the extended reals, element by element: every device's term for a row, and their sum around
   the ring. -/
module

public import proofs.«01_k».proof.Proof.Local
public import proofs.«01_k».proof.Proof.RefValue

@[expose] public section

noncomputable section

namespace Cert.Proof.Ring

open Idealize.ShloMosaic Idealize.ShloMosaic.TcCoe
open Cert.KernelIdeal Cert.KernelIdeal.Gen

/-! ## The steps of the kernel -/

theorem vX_apply (X : FVec Ideal S512x1024 .bf16) (r : Fin 512) (b : Fin 1024) :
    vX (F := Ideal) X (ix3 0 r b) = X (ix2 r b) := by
  pointwise [vX, k0_pay8]
theorem vQ_apply (X : FVec Ideal S1x512x1024 .bf16) (W : FVec Ideal S1024x1024 .bf16) (r : Fin 512) (n : Fin 1024) :
    vQ (F := Ideal) X W (ix2 r n) = ∑ b : Fin 1024, X (ix3 0 r b) * W (ix2 b n) := by
  pointwise [vQ, k0_pay13]
theorem vFirst_apply (X : FVec Ideal S512x1024 .f32) (r : Fin 512) (b : Fin 1024) :
    vFirst (F := Ideal) X (ix3 0 r b) = X (ix2 r b) := by
  pointwise [vFirst, k0_pay17]
theorem vAdd_apply (A : FVec Ideal S1x512x1024 .bf16) (X : FVec Ideal S512x1024 .f32) (r : Fin 512) (b : Fin 1024) :
    vAdd (F := Ideal) A X (ix3 0 r b) = A (ix3 0 r b) + X (ix2 r b) := by
  pointwise [vAdd, k0_pay24]
theorem vFin_apply (A : FVec Ideal S1x512x1024 .bf16) (r : Fin 512) (b : Fin 1024) :
    vFin (F := Ideal) A (ix2 r b) = A (ix3 0 r b) := by
  pointwise [vFin, k0_pay1]
theorem vOut_apply (X : FVec Ideal S1024x1024 .bf16) (W : FVec Ideal S1024x1024 .bf16) (r : Fin 1024) (n : Fin 1024) :
    vOut (F := Ideal) X W (ix2 r n) = ∑ b : Fin 1024, X (ix2 r b) * W (ix2 b n) := by
  pointwise [vOut, k0_pay22, k0_pay23]

theorem rowBlock_apply (r n : Fin 1024) : k0_pay5 k0_pay3 k0_pay4 (ix2 r n) = BitVec.ofNat 32 (r.val / 64) := by
  pointwise [k0_pay3, k0_pay4, k0_pay5]
  revert r
  decide +kernel
theorem keyBlock_apply (r n : Fin 1024) : k0_pay6 (ix2 r n) = BitVec.ofNat 32 (n.val / 64) := by
  pointwise [k0_pay6]
  revert n
  decide +kernel
theorem isTop_apply (r n : Fin 1024) : k0_pay7 (ix2 r n) = BitVec.ofBool (decide (r.val < 512)) := by
  pointwise [k0_pay7]
  revert r
  decide +kernel

/-- The mask's bit from a row's block within its device, the first block of that device, and the key's block. -/
def maskBit (q e k : BitVec 32) : BitVec 1 :=
  IntOp.ori
    (IntOp.ori (IntOp.cmpi CmpIPredicate.eq (IntOp.addi q e) k) (IntOp.cmpi CmpIPredicate.eq k 0#32))
    (IntOp.cmpi CmpIPredicate.eq (IntOp.remsi ArithUnit.vector (IntOp.addi (IntOp.addi q e) k) 3#32) 0#32)

theorem maskBit_eq : ∀ (q : Fin 16) (e : Fin 8) (k : Fin 16),
    maskBit (BitVec.ofNat 32 q.val) (Scalar.muli (BitVec.ofNat 32 e.val) 16#32) (BitVec.ofNat 32 k.val)
      = BitVec.ofBool (keepB (16 * e.val + q.val) k.val) := by
  decide +kernel

theorem pay21_apply (v37 v62 : IVec S1024x1024 32) (v65 : IVec S1024x1024 1) (jR jL : BitVec 32)
    (q : FVec Ideal S1024x128 .bf16) (k v : FVec Ideal S1x1024x128 .bf16) (r : Fin 1024) (a : Fin 128) :
    k0_pay21 (F := Ideal) v37 v62 v65 jR jL q k v (ix2 r a)
      = ∑ j : Fin 1024,
          Ideal.div
            (Ideal.exp ((∑ b : Fin 128, q (ix2 r b) * k (ix3 0 j b)) * scl
              + Scalar.select (maskBit (v37 (ix2 r j))
                  (Scalar.select (v65 (ix2 r j)) (Scalar.muli jR 16#32) (Scalar.muli jL 16#32)) (v62 (ix2 r j)))
                  0 (Named.named (F := Ideal) κ "mask" (φ := .f32) 0xCE6E6B28#32)))
            (∑ j : Fin 1024, Ideal.exp ((∑ b : Fin 128, q (ix2 r b) * k (ix3 0 j b)) * scl
              + Scalar.select (maskBit (v37 (ix2 r j))
                  (Scalar.select (v65 (ix2 r j)) (Scalar.muli jR 16#32) (Scalar.muli jL 16#32)) (v62 (ix2 r j)))
                  0 (Named.named (F := Ideal) κ "mask" (φ := .f32) 0xCE6E6B28#32)))
          * v (ix3 0 j a) := by
  pointwise [k0_pay21, maskBit, scl]

theorem named_mask : Named.named (F := Ideal) κ "mask" (φ := .f32) 0xCE6E6B28#32 = ⊥ := rfl

theorem sel_bool (b : Bool) : Scalar.select (BitVec.ofBool b) (0 : EReal) ⊥ = if b then 0 else ⊥ := by
  cases b <;> rfl

theorem vHead_apply (e₁ e₂ : Fin 8) (q : FVec Ideal S1024x128 .bf16) (k v : FVec Ideal S1x1024x128 .bf16)
    (r : Fin 1024) (a : Fin 128) :
    vHead (F := Ideal) (BitVec.ofNat 32 e₁.val) (BitVec.ofNat 32 e₂.val) q k v (ix2 r a)
      = ∑ j : Fin 1024,
          smw (fun j : Fin 1024 => (∑ b : Fin 128, q (ix2 r b) * k (ix3 0 j b)) * scl)
            (fun j => keepB (16 * (if r.val < 512 then e₁ else e₂).val + r.val / 64) (j.val / 64)) j
          * v (ix3 0 j a) := by
  have hm : ∀ j : Fin 1024, Scalar.select (maskBit (k0_pay5 k0_pay3 k0_pay4 (ix2 r j))
      (Scalar.select (k0_pay7 (ix2 r j)) (Scalar.muli (BitVec.ofNat 32 e₁.val) 16#32)
        (Scalar.muli (BitVec.ofNat 32 e₂.val) 16#32)) (k0_pay6 (ix2 r j)))
      (0 : EReal) (Named.named (F := Ideal) κ "mask" (φ := .f32) 0xCE6E6B28#32)
      = if keepB (16 * (if r.val < 512 then e₁ else e₂).val + r.val / 64) (j.val / 64) then 0 else ⊥ := fun j => by
    rw [named_mask, rowBlock_apply, keyBlock_apply, isTop_apply, ← sel_bool]
    congr 1
    have hs : Scalar.select (BitVec.ofBool (decide (r.val < 512))) (Scalar.muli (BitVec.ofNat 32 e₁.val) 16#32)
        (Scalar.muli (BitVec.ofNat 32 e₂.val) 16#32)
        = Scalar.muli (BitVec.ofNat 32 (if r.val < 512 then e₁ else e₂).val) 16#32 := by
      by_cases h : r.val < 512
      · rw [if_pos h, decide_eq_true h]; rfl
      · rw [if_neg h, decide_eq_false h]; rfl
    rw [hs]
    exact maskBit_eq ⟨r.val / 64, by omega⟩ _ ⟨j.val / 64, by omega⟩
  refine (pay21_apply _ _ _ _ _ q k v r a).trans ?_
  simp only [hm]
  rfl

/-! ## One device's term -/

theorem ix_eq {n m : ℕ} (i : Fin n) (j : Fin m) : ix i j = ix2 i j := by
  funext a
  fin_cases a <;> rfl

theorem joinH_top {α : Type} (a b : S512x1024.Idx → α) (r n : Fin 1024) (hr : r.val < 512) :
    joinH a b (ix2 r n) = a (ix2 ⟨r.val, hr⟩ n) :=
  (dif_pos hr).trans (congrArg a (ix_eq _ _))
theorem joinH_bot {α : Type} (a b : S512x1024.Idx → α) (r n : Fin 1024) (hr : ¬ r.val < 512) :
    joinH a b (ix2 r n) = b (ix2 ⟨r.val - 512, by omega⟩ n) :=
  (dif_neg hr).trans (congrArg b (ix_eq _ _))
theorem joinC_apply {α : Type} (f : Fin k0_t1_loop.trips → S1024x128.Idx → α) (r m : Fin 1024) :
    joinC f (ix2 r m) = f ⟨m.val / 128, by change _ < 8; omega⟩ (ix2 r ⟨m.val % 128, by omega⟩) :=
  congrArg (f _) (ix_eq _ _)

/-- The device whose block travels in direction `d` and is here after `k` hops. -/
def org (d : Bool) : ℕ → Dev nD → Dev nD
  | 0, c => c
  | k + 1, c => org d k (dst (!d) c)

theorem org_succ (d : Bool) (k : ℕ) (c : Dev nD) : org d (k + 1) c = org d k (dst (!d) c) := rfl

theorem org_add (d : Bool) (k l : ℕ) (c : Dev nD) : org d k (org d l c) = org d (l + k) c := by
  induction l generalizing c with
  | zero => rw [Nat.zero_add]; rfl
  | succ l ih => rw [Nat.add_right_comm]; exact ih _

theorem wSrc_eq : ∀ (d : Bool) (c : Dev nD) (h : Fin 8), wSrc d c h.val = BitVec.ofNat 32 (org d h.val c).val := by decide

variable (I : Inp Ideal)

/-- The score of row `r` of device `e` and key row `j` in head `t` of device `c`. -/
def scD (c e : Dev nD) (r : Fin 1024) (t : Fin 8) (j : Fin 1024) : EReal :=
  (∑ a : Fin 128, (∑ b : Fin 1024, I.x e (ix2 r b) * I.wq c (ix2 b ⟨128 * t.val + a.val, by omega⟩)) * I.kk c (ix3 t j a)) * scl

/-- The context of row `r` of device `e` in device `c`'s heads. -/
def ctD (c e : Dev nD) (r : Fin 1024) (m : Fin 1024) : EReal :=
  ∑ j : Fin 1024, smw (scD I c e r ⟨m.val / 128, by omega⟩) (fun j => keepB (16 * e.val + r.val / 64) (j.val / 64)) j
    * I.vv c (ix3 ⟨m.val / 128, by omega⟩ j ⟨m.val % 128, by omega⟩)

/-- Device `c`'s term for row `r` of device `e`. -/
def tmD (c e : Dev nD) (r n : Fin 1024) : EReal := ∑ m : Fin 1024, ctD I c e r m * I.wo c (ix2 m n)

theorem xval_org (d : Bool) (k : ℕ) (c : Dev nD) : xval I d k c = vX (half d (I.x (org d k c))) := by
  induction k generalizing c with
  | zero => rfl
  | succ k ih => exact ih _

/-- The device that row `r` of slot `h` comes from. -/
def src (h : ℕ) (c : Dev nD) (r : Fin 1024) : Dev nD := if r.val < 512 then org false h c else org true h c

theorem half_false_apply {α : Type} (X : S1024x1024.Idx → α) (r : Fin 512) (b : Fin 1024) :
    half false X (ix2 r b) = X (ix2 ⟨r.val, by omega⟩ b) :=
  congrArg X (ix_ext (by rw [Rect.emb_apply]; show 0 + 1 * r.val = r.val; omega)
    (by rw [Rect.emb_apply]; show 0 + 1 * b.val = b.val; omega))
theorem half_true_apply {α : Type} (X : S1024x1024.Idx → α) (r : Fin 512) (b : Fin 1024) :
    half true X (ix2 r b) = X (ix2 ⟨r.val + 512, by omega⟩ b) :=
  congrArg X (ix_ext (by rw [Rect.emb_apply]; show 512 + 1 * r.val = r.val + 512; omega)
    (by rw [Rect.emb_apply]; show 0 + 1 * b.val = b.val; omega))

theorem qval_apply (h : ℕ) (c : Dev nD) (r n : Fin 1024) :
    qval I h c (ix2 r n) = ∑ b : Fin 1024, I.x (src h c r) (ix2 r b) * I.wq c (ix2 b n) := by
  unfold qval src
  by_cases hr : r.val < 512
  · rw [joinH_top _ _ r n hr, if_pos hr, vQ_apply]
    refine Finset.sum_congr rfl fun b _ => ?_
    rw [xval_org, vX_apply, half_false_apply]
  · rw [joinH_bot _ _ r n hr, if_neg hr, vQ_apply]
    refine Finset.sum_congr rfl fun b _ => ?_
    rw [xval_org, vX_apply, half_true_apply]
    have e : (⟨r.val - 512 + 512, by omega⟩ : Fin 1024) = r := Fin.ext (by show r.val - 512 + 512 = r.val; omega)
    rw [e]

theorem hval_apply (h : Fin 8) (c : Dev nD) (t : Fin k0_t1_loop.trips) (r : Fin 1024) (a : Fin 128) :
    hval I h.val c t (ix2 r a)
      = ∑ j : Fin 1024, smw (scD I c (src h.val c r) r ⟨t.val, t.isLt⟩)
          (fun j => keepB (16 * (src h.val c r).val + r.val / 64) (j.val / 64)) j * I.vv c (ix3 ⟨t.val, t.isLt⟩ j a) := by
  have ht : t.val < 8 := t.isLt
  have hq : ∀ b : Fin 128, qval I h.val c ((rcCol t).emb (ix2 r b)) = qval I h.val c (ix2 r ⟨128 * t.val + b.val, by omega⟩) :=
    fun b => congrArg _ (ix_ext (by rw [Rect.emb_apply]; show k0_off1 t 0 + 1 * r.val = r.val; rw [(off1_eq t).1]; omega)
      (by rw [Rect.emb_apply]; show k0_off1 t 1 + 1 * b.val = 128 * t.val + b.val; rw [(off1_eq t).2]; omega))
  have hk : ∀ (j : Fin 1024) (b : Fin 128), (rcHd t).emb (ix3 0 j b) = (ix3 ⟨t.val, t.isLt⟩ j b : S8x1024x128.Idx) := fun j b => by
    funext x
    refine Fin.ext ?_
    rw [Rect.emb_apply]
    fin_cases x
    · show k0_off2 t 0 + 1 * 0 = t.val; rw [(off2_eq t).1]; omega
    · show k0_off2 t 1 + 1 * j.val = j.val; rw [(off2_eq t).2.1]; omega
    · show k0_off2 t 2 + 1 * b.val = b.val; rw [(off2_eq t).2.2]; omega
  have hsrc : (if r.val < 512 then org false h.val c else org true h.val c) = src h.val c r := rfl
  unfold hval
  rw [wSrc_eq, wSrc_eq]
  refine (vHead_apply (org false h.val c) (org true h.val c) _ _ _ r a).trans ?_
  rw [hsrc]
  simp only [hq, hk, qval_apply]
  rfl

theorem dval_apply (h : Fin 8) (c : Dev nD) (r n : Fin 1024) :
    dval I h.val c (ix2 r n) = tmD I c (src h.val c r) r n := by
  unfold dval tmD
  rw [vOut_apply]
  refine Finset.sum_congr rfl fun m _ => ?_
  congr 1
  rw [joinC_apply]
  exact hval_apply I h c _ r _

/-! ## The sum around the ring -/

/-- Row `r` of the half that travels in direction `d`. -/
def hrow (d : Bool) (r : Fin 512) : Fin 1024 :=
  match d with
  | false => ⟨r.val, by omega⟩
  | true => ⟨r.val + 512, by omega⟩

theorem half_apply {α : Type} (d : Bool) (X : S1024x1024.Idx → α) (r : Fin 512) (b : Fin 1024) :
    half d X (ix2 r b) = X (ix2 (hrow d r) b) := by
  cases d
  · exact half_false_apply X r b
  · exact half_true_apply X r b

theorem src_hrow (d : Bool) (h : ℕ) (c : Dev nD) (r : Fin 512) : src h c (hrow d r) = org d h c := by
  unfold src
  cases d
  · exact if_pos r.isLt
  · exact if_neg (by show ¬ r.val + 512 < 512; omega)

theorem aval_apply (d : Bool) (h : ℕ) (hh : h < 8) (c : Dev nD) (r : Fin 512) (n : Fin 1024) :
    aval I d h c (ix3 0 r n)
      = ∑ k ∈ Finset.range (h + 1), tmD I (org d (h - k) c) (org d h c) (hrow d r) n := by
  induction h generalizing c with
  | zero =>
    have e : aval I d 0 c (ix3 0 r n) = dval I 0 c (ix2 (hrow d r) n) :=
      (vFirst_apply (half d (dval I 0 c)) r n).trans (half_apply d _ r n)
    rw [Finset.sum_range_one, e, dval_apply I ⟨0, hh⟩ c _ n, src_hrow]
    rfl
  | succ h ih =>
    have e : aval I d (h + 1) c (ix3 0 r n)
        = aval I d h (dst (!d) c) (ix3 0 r n) + dval I (h + 1) c (ix2 (hrow d r) n) :=
      (vAdd_apply (aval I d h (dst (!d) c)) (half d (dval I (h + 1) c)) r n).trans
        (congrArg _ (half_apply d _ r n))
    have hs : ∀ k ∈ Finset.range (h + 1), tmD I (org d (h - k) (dst (!d) c)) (org d h (dst (!d) c)) (hrow d r) n
        = tmD I (org d (h + 1 - k) c) (org d (h + 1) c) (hrow d r) n := fun k hk => by
      have hk' : k < h + 1 := Finset.mem_range.1 hk
      have e : h + 1 - k = (h - k) + 1 := by omega
      rw [e, org_succ, org_succ]
    rw [Finset.sum_range_succ, e, ih (by omega), Finset.sum_congr rfl hs]
    refine congrArg _ ?_
    · rw [dval_apply I ⟨h + 1, hh⟩ c _ n, src_hrow, Nat.sub_self]
      rfl

theorem org_seven : ∀ (d : Bool) (c : Dev nD), org d 7 (dst (!d) c) = c := by decide
theorem org_inj : ∀ (d : Bool) (c : Dev nD) (k l : Fin 8), org d (7 - k.val) c = org d (7 - l.val) c → k = l := by decide

theorem org_bij (d : Bool) (c : Dev nD) : Function.Bijective fun k : Fin 8 => org d (7 - k.val) c :=
  (Fintype.bijective_iff_injective_and_card _).2 ⟨fun k l h => org_inj d c k l h, rfl⟩

theorem aval_seven (d : Bool) (c : Dev nD) (r : Fin 512) (n : Fin 1024) :
    aval I d 7 (dst (!d) c) (ix3 0 r n) = ∑ e : Dev nD, tmD I e c (hrow d r) n := by
  rw [aval_apply I d 7 (by decide), org_seven, Finset.sum_range]
  exact (org_bij d (dst (!d) c)).sum_comp fun e => tmD I e c (hrow d r) n

/-- The result of device `c`: the sum of all the devices' terms for its rows. -/
theorem oval_apply (c : Dev nD) (r n : Fin 1024) : oval I c (ix2 r n) = ∑ e : Dev nD, tmD I e c r n := by
  unfold oval
  by_cases hr : r.val < 512
  · rw [joinH_top _ _ r n hr, vFin_apply]
    exact aval_seven I false c ⟨r.val, hr⟩ n
  · rw [joinH_bot _ _ r n hr, vFin_apply]
    refine (aval_seven I true c ⟨r.val - 512, by omega⟩ n).trans ?_
    have e : hrow true ⟨r.val - 512, by omega⟩ = r := Fin.ext (by show r.val - 512 + 512 = r.val; omega)
    rw [e]

end Cert.Proof.Ring
-- ==== Proof.Finite.lean ====
/- What the precondition says: every element of the rows, the query weights and the keys is a real number. Then every
   score is one. -/
module

public import proofs.«01_k».proof.Defs
public import proofs.«01_k».proof.Proof.RefValue
public import Idealize.ShloMosaic.Lib.ReduceAll

@[expose] public section

noncomputable section

namespace Cert.Proof

open Idealize.ShloMosaic Idealize.ShloMosaic.TcCoe

/-- Neither infinity. -/
def Real' (v : EReal) : Prop := v ≠ ⊤ ∧ v ≠ ⊥

theorem Real'.coe {v : EReal} (h : Real' v) : ((v.toReal : ℝ) : EReal) = v := EReal.coe_toReal h.1 h.2

theorem real'_coe (r : ℝ) : Real' (r : EReal) := ⟨EReal.coe_ne_top r, EReal.coe_ne_bot r⟩

theorem Real'.mul {v w : EReal} (h : Real' v) (h' : Real' w) : Real' (v * w) := by
  rw [← h.coe, ← h'.coe, ← EReal.coe_mul]
  exact real'_coe _

theorem Real'.sum {ι : Type*} (s : Finset ι) {f : ι → EReal} (h : ∀ i ∈ s, Real' (f i)) : Real' (∑ i ∈ s, f i) := by
  refine Finset.sum_induction f Real' (fun v w hv hw => ?_) (real'_coe 0) h
  rw [← hv.coe, ← hw.coe, ← EReal.coe_add]
  exact real'_coe _

theorem real'_scl : Real' scl := by
  have : scl = (((scl : EReal).toReal : ℝ) : EReal) := by
    unfold scl
    simp [Ideal.ofBits, Ideal.ieee, -EReal.coe_mul]
  rw [this]
  exact real'_coe _

/-- The comparison "the absolute value lies below +∞", read back. -/
theorem real'_of_bit (v : EReal) (h : Ideal.cmp .olt (max v (-v)) (Ideal.ofBits .f32 0x7F800000#32) = 1#1) : Real' v := by
  have htop : Ideal.ofBits .f32 0x7F800000#32 = ⊤ := by simp [Ideal.ofBits, Ideal.ieee]
  rw [htop] at h
  have hlt : max v (-v) < ⊤ := by
    by_contra hn
    simp [Ideal.cmp, hn] at h
  refine ⟨fun e => ?_, fun e => ?_⟩ <;> subst e <;> simp at hlt

instance preFacts : Cert.Pre_finite_KernelIdeal.Facts where
  bcast_S_S1x1024x1024 := by decide
  reducesTo_S1x1024x1024_S_d0_1_2 := by decide
  h_S_ := by decide
  bcast_S_S1024x1024 := by decide
  reducesTo_S1024x1024_S_d0_1 := by decide
  bcast_S_S1x1024x64x128 := by decide
  reducesTo_S1x1024x64x128_S_d0_1_2_3 := by decide

instance preFactsRef : Cert.Pre_finite_ReferenceIdeal.Facts where
  bcast_S_S1x8192x1024 := by decide
  reducesTo_S1x8192x1024_S_d0_1_2 := by decide
  h_S_ := by decide
  bcast_S_S1024x8192 := by decide
  reducesTo_S1024x8192_S_d0_1 := by decide
  bcast_S_S1x1024x64x128 := by decide
  reducesTo_S1x1024x64x128_S_d0_1_2_3 := by decide

section
open Cert.Pre_finite_KernelIdeal

instance : Subsingleton (Shape.Idx S_) := ⟨fun a b => funext fun k => k.elim0⟩

theorem real_of_pre (x : FVec Ideal S1x1024x1024 .f32) (wq : FVec Ideal S1024x1024 .f32) (k v : FVec Ideal S1x1024x64x128 .f32)
    (wo : FVec Ideal S1024x1024 .f32) (h : fn (F := Ideal) x wq k v wo = fun _ => 1#1) :
    (∀ i, Real' (x i)) ∧ (∀ i, Real' (wq i)) ∧ ∀ i, Real' (k i) := by
  have h0 := congrFun h (Shape.Idx.first Facts.h_S_)
  obtain ⟨h1, hk⟩ := IntOp.andi_eq_one.1 h0
  obtain ⟨hx, hw⟩ := IntOp.andi_eq_one.1 h1
  exact ⟨fun i => real'_of_bit _ (Host.reduce_andi_all _ _ _ _ _ hx i), fun i => real'_of_bit _ (Host.reduce_andi_all _ _ _ _ _ hw i),
    fun i => real'_of_bit _ (Host.reduce_andi_all _ _ _ _ _ hk i)⟩

end

end Cert.Proof

end
-- ==== Proof.Match.lean ====
/- The sum of the devices' terms is the reference's value: the reference's sum over all 8192 columns of the context falls into
   eight blocks of 1024, one for each device. -/
module

public import proofs.«01_k».proof.Proof.KerValue
public import proofs.«01_k».proof.Proof.Finite

@[expose] public section

noncomputable section

namespace Cert.Proof.Ring

open Idealize.ShloMosaic Idealize.ShloMosaic.TcCoe
open Cert.KernelIdeal

/-- Element `m` of block `e` of eight blocks of 1024. -/
def blk (e : Dev nD) (m : Fin 1024) : Fin 8192 := ⟨1024 * e.val + m.val, by have : e.val < 8 := e.isLt; omega⟩

/-- Head `t` of the heads of device `e`. -/
def hd (e : Dev nD) (t : Fin 8) : Fin 64 := ⟨8 * e.val + t.val, by have : e.val < 8 := e.isLt; omega⟩

theorem sum_blk (f : Fin 8192 → EReal) : ∑ i, f i = ∑ e : Dev nD, ∑ m : Fin 1024, f (blk e m) := by
  rw [← Fintype.sum_prod_type' (f := fun (e : Dev nD) (m : Fin 1024) => f (blk e m))]
  refine (Fintype.sum_bijective (fun p : Dev nD × Fin 1024 => blk p.1 p.2) ⟨fun p q h => ?_, fun i => ?_⟩ _ _ fun _ => rfl).symm
  · have h' : 1024 * p.1.val + p.2.val = 1024 * q.1.val + q.2.val := congrArg Fin.val h
    have h1 := p.2.isLt
    have h2 := q.2.isLt
    exact Prod.ext (Fin.ext (by omega)) (Fin.ext (by omega))
  · exact ⟨(⟨i.val / 1024, by have := i.isLt; show _ < 8; omega⟩, ⟨i.val % 1024, by omega⟩), Fin.ext (by
      show 1024 * (i.val / 1024) + i.val % 1024 = i.val; omega)⟩

variable (I : Inp Ideal) (x : FVec Ideal Cert.ReferenceIdeal.S1x8192x1024 .f32) (wq : FVec Ideal Cert.ReferenceIdeal.S1024x8192 .f32)
  (k v : FVec Ideal Cert.ReferenceIdeal.S1x1024x64x128 .f32) (wo : FVec Ideal Cert.ReferenceIdeal.S8192x1024 .f32)

/-- The devices' inputs are their parts of these arrays. -/
structure Parts : Prop where
  hx : ∀ (e : Dev nD) (r b : Fin 1024), I.x e (ix2 r b) = x (ix3 0 (blk e r) b)
  hwq : ∀ (e : Dev nD) (b m : Fin 1024), I.wq e (ix2 b m) = wq (ix2 b (blk e m))
  hk : ∀ (e : Dev nD) (t : Fin 8) (j : Fin 1024) (a : Fin 128), I.kk e (ix3 t j a) = k (ix4 0 j (hd e t) a)
  hv : ∀ (e : Dev nD) (t : Fin 8) (j : Fin 1024) (a : Fin 128), I.vv e (ix3 t j a) = v (ix4 0 j (hd e t) a)
  hwo : ∀ (e : Dev nD) (m n : Fin 1024), I.wo e (ix2 m n) = wo (ix2 (blk e m) n)
  fx : ∀ (i : Fin 8192) (b : Fin 1024), Real' (x (ix3 0 i b))
  fwq : ∀ (b : Fin 1024) (i : Fin 8192), Real' (wq (ix2 b i))
  fk : ∀ (j : Fin 1024) (h : Fin 64) (a : Fin 128), Real' (k (ix4 0 j h a))

variable {I x wq k v wo} (P : Parts I x wq k v wo)
include P

theorem scr_real (i : Fin 8192) (h : Fin 64) (j : Fin 1024) : Real' (Ref.scr x wq k i h j) :=
  (Real'.sum _ fun a _ => (Real'.sum _ fun b _ => (P.fx i b).mul (P.fwq b _)).mul (P.fk j h a)).mul real'_scl

theorem scD_eq (c e : Dev nD) (r : Fin 1024) (t : Fin 8) (j : Fin 1024) :
    scD I c e r t j = Ref.scr x wq k (blk e r) (hd c t) j := by
  unfold scD Ref.scr
  refine congrArg (· * scl) (Finset.sum_congr rfl fun a _ => ?_)
  rw [P.hk]
  refine congrArg (· * _) (Finset.sum_congr rfl fun b _ => ?_)
  rw [P.hx, P.hwq]
  refine congrArg (fun z => _ * wq (ix2 b z)) (Fin.ext ?_)
  show 1024 * c.val + (128 * t.val + a.val) = (8 * c.val + t.val) * 128 + a.val
  omega

theorem ctD_eq (c e : Dev nD) (r m : Fin 1024) : ctD I c e r m = Ref.ctx x wq k v (ix3 0 (blk e r) (blk c m)) := by
  have e1 : (⟨(blk c m).val / 128, by have := (blk c m).isLt; omega⟩ : Fin 64) = hd c ⟨m.val / 128, by omega⟩ :=
    Fin.ext (by show (1024 * c.val + m.val) / 128 = 8 * c.val + m.val / 128; omega)
  have e2 : (⟨(blk c m).val % 128, by omega⟩ : Fin 128) = ⟨m.val % 128, by omega⟩ :=
    Fin.ext (by show (1024 * c.val + m.val) % 128 = m.val % 128; omega)
  have e3 : (blk e r).val / 64 = 16 * e.val + r.val / 64 := by show (1024 * e.val + r.val) / 64 = _; omega
  rw [Ref.ctx_apply, e1, e2]
  unfold ctD
  refine Finset.sum_congr rfl fun j _ => ?_
  rw [Ref.weight_apply x wq k _ _ (scr_real P _ _), e3, P.hv, mul_comm]
  refine congrArg (fun s => _ * smw s _ j) (funext fun j' => ?_)
  exact scD_eq P c e r _ j'

theorem oval_eq (c : Dev nD) (r n : Fin 1024) :
    oval I c (ix2 r n) = Ref.out x wq k v wo (ix3 0 (blk c r) n) := by
  rw [oval_apply, Ref.out_apply, sum_blk]
  refine Finset.sum_congr rfl fun e _ => ?_
  unfold tmD
  refine Finset.sum_congr rfl fun m _ => ?_
  rw [ctD_eq P, P.hwo]

end Cert.Proof.Ring

end
-- ==== Proof.Ring.lean ====
/- The pieces of the body that talk, and the ring's steps.

   What a device holds is kept by direction and by hop: `xState d r s` after `r` arrivals and `s` departures of half
   blocks of `x`, `aState d h t` after `h` steps of the running sums and `t` credits taken. -/
module

public import proofs.«01_k».proof.Proof.Local

@[expose] public section

noncomputable section

namespace Cert.Proof.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F] (I : Inp F)

local notation "𝕄" => MT nD τ sig ℕ (Elt F) ℕ UU ℕ

/-! ## Shares -/

section Shares

variable {sp : Space} {s : Shape} {e : EltTy} (c : Dev nD) (m : Memref sig .tc sp s e) (X Y : s.Idx → Elt F e)

theorem own_split : (own c m fullShare X : sProp 𝕄)
    ⊢ iprop(own c m (PosShare.left fullShare) X ∗ own c m (PosShare.right fullShare) X) := by
  iintro H
  ihave H := (owns_elim (c : Thread nD τ) m fullShare X) $$ H
  icases H with ⟨%f, %hf, H⟩
  ihave H := (pointsTo_share (PosShare.mem_left_op_right fullShare)).1 $$ H
  icases H with ⟨Hl, Hr⟩
  subst hf
  isplitl [Hl]
  · iapply (owns_intro (c : Thread nD τ) m (PosShare.left fullShare) f); iexact Hl
  · iapply (owns_intro (c : Thread nD τ) m (PosShare.right fullShare) f); iexact Hr

theorem own_join : iprop(own c m (PosShare.left fullShare) X ∗ own c m (PosShare.right fullShare) Y)
    ⊢ (own c m fullShare X : sProp 𝕄) := by
  iintro ⟨H, H'⟩
  ihave H := (owns_elim (c : Thread nD τ) m (PosShare.left fullShare) X) $$ H
  icases H with ⟨%f, %hf, H⟩
  ihave H' := (owns_elim (c : Thread nD τ) m (PosShare.right fullShare) Y) $$ H'
  icases H' with ⟨%g, %hg, H'⟩
  icombine H H' gives %ha
  have hc : ((m.view.loc (c : Thread nD τ)) ↦[m.view.set]{PosShare.right fullShare} g : sProp 𝕄)
      = ((m.view.loc (c : Thread nD τ)) ↦[m.view.set]{PosShare.right fullShare} f) :=
    pointsTo_congr fun i hi => ((ha i (Finset.mem_inter.mpr ⟨hi, hi⟩)).1).symm
  ihave H' := (Entails.of_eq hc) $$ H'
  subst hf
  iapply (owns_intro (c : Thread nD τ) m fullShare f)
  iapply (pointsTo_share (PosShare.mem_left_op_right fullShare)).2
  isplitl [H]; · iexact H
  iexact H'

theorem own_owned : (own c m fullShare X : sProp 𝕄) ⊢ owned c m := by
  unfold owned; iintro H; iexists X; iexact H

end Shares

/-! ## Names for what is handed over -/

theorem f8_eq {k : ℕ} (hk : k < 8) : f8 k = ⟨k, hk⟩ := Fin.ext (Nat.mod_eq_of_lt hk)

theorem xSl_congr (d : Bool) {a b : ℕ} (h : a = b) (ha : a < 8) (hb : b < 8) : xSl d a ha = xSl d b hb := by subst h; rfl
theorem aSl_congr (d : Bool) {a b : ℕ} (h : a = b) (ha : a < 2) (hb : b < 2) : aSl d a ha = aSl d b hb := by subst h; rfl

theorem pay_sx (c : Dev nD) (d : Bool) (k : ℕ) (hk : k < 8) (r : ℕ) (b : Bool) :
    pay I c (sx d k) r b = own c (xSl d k hk) (PosShare.right fullShare) (xval I d k c) := by
  unfold sx; rw [f8_eq hk]; rfl
theorem pay_rx (c : Dev nD) (d : Bool) (k : ℕ) (hk : k < 7) (r : ℕ) (b : Bool) :
    pay I c (rx d k) r b = own c (xSl d (k + 1) (by omega)) fullShare (xval I d (k + 1) c) := by
  unfold rx; rw [f8_eq (by omega)]
  show own c (xSl d ((k + 1) % 8) _) fullShare (xval I d (k + 1) c) = _
  rw [xSl_congr d (Nat.mod_eq_of_lt (by omega : k + 1 < 8)) _ (by omega)]
theorem pay_sa (c : Dev nD) (d : Bool) (h : ℕ) (hh : h < 8) (r : ℕ) (b : Bool) :
    pay I c (sa d h) r b = owned c (aSl d (h % 2) (Nat.mod_lt _ (by decide))) := by
  unfold sa; rw [f8_eq hh]; rfl
theorem pay_ra (c : Dev nD) (d : Bool) (h : ℕ) (hh : h < 8) (r : ℕ) (b : Bool) :
    pay I c (ra d h) r b = iprop(own c (aSl d ((h + 1) % 2) (Nat.mod_lt _ (by decide))) fullShare (aval I d h (dst (!d) c))
        ∗ reached ER (cell (dst (!d) c) (kCr d)) h) := by
  unfold ra; rw [f8_eq hh]; rfl

theorem pay_cr (c : Dev nD) (d : Bool) (h : ℕ) (b : Bool) :
    pay I c (kCr d) h b = owned (dst d c) (aSl d (h % 2) (Nat.mod_lt _ (by decide))) := rfl

theorem semOf_sx (d : Bool) (k : ℕ) (hk : k < 8) : semOf (sx d k) = .dma (at8 (sX d) k hk) := by unfold sx; rw [f8_eq hk]; cases d <;> rfl
theorem semOf_rx (d : Bool) (k : ℕ) (hk : k < 8) : semOf (rx d k) = .dma (at8 (rX d) k hk) := by unfold rx; rw [f8_eq hk]; cases d <;> rfl
theorem semOf_sa (d : Bool) (k : ℕ) (hk : k < 8) : semOf (sa d k) = .dma (at8 (sA d) k hk) := by unfold sa; rw [f8_eq hk]; cases d <;> rfl
theorem semOf_ra (d : Bool) (k : ℕ) (hk : k < 8) : semOf (ra d k) = .dma (at8 (rA d) k hk) := by unfold ra; rw [f8_eq hk]; cases d <;> rfl

theorem duts_x (p d : Bool) (k : ℕ) (hk : k < 7) : duts (kDm false p d (f8 k)) 0 = {false} := by
  unfold duts; rw [f8_eq (by omega)]; exact if_pos ⟨rfl, .inr hk⟩
theorem duts_a (p d : Bool) (k : ℕ) : duts (kDm true p d (f8 k)) 0 = {false} := by
  unfold duts; exact if_pos ⟨rfl, .inl rfl⟩
theorem duts_cr (d : Bool) (r : ℕ) (hr : r < 7) : duts (kCr d) r = {false} := if_pos hr

theorem false_mem {D : Finset Bool} (h : D = {false}) : false ∈ D := by rw [h]; exact Finset.mem_singleton_self _

/-- Nothing is owed at the times between steps that have fewer payments. -/
theorem owe_skip (c : Dev nD) {n : ℕ} (hn : n < 50) (h : item n = none) : owe c n = owe c (n + 1) := by
  rw [owe_step c hn]; unfold due; rw [h]; exact add_zero _

theorem debt_skip (c : Dev nD) {n : ℕ} (hn : n < 50) (h : item n = none) : (debt c n : sProp 𝕄) = debt c (n + 1) := by
  unfold debt; rw [owe_skip c hn h]

/-! ## Items -/

theorem item_x (h : ℕ) (hh : h < 6) (d : Bool) : item (6 * h + 4 + d.toNat) = some (d, rx d (h + 1), 0) := by
  interval_cases h <;> cases d <;> rfl
theorem item_a (h : ℕ) (hh : h < 8) (d : Bool) : item (6 * h + 6 + d.toNat) = some (d, ra d h, 0) := by
  interval_cases h <;> cases d <;> rfl
theorem item_cr (h : ℕ) (hh : h < 7) (d : Bool) : item (6 * h + 8 + d.toNat) = some (!d, kCr d, h) := by
  interval_cases h <;> cases d <;> rfl

/-! ## Bundles -/

variable (c : Dev nD) (d : Bool)

/-- The right to send hop `k`: its two payments, and the place at the neighbour. -/
def toSend (k : ℕ) : sProp 𝕄 :=
  iprop(dutyTok ER (cell c (sx d k)) 0 false ∗ dutyTok ER (cell (dst d c) (rx d k)) 0 false)
def place (k : ℕ) : sProp 𝕄 :=
  iprop(owned (dst d c) (xSl d ((k + 1) % 8) (Nat.mod_lt _ (by decide))) ∗ reached ER (cell (dst d c) (rx d k)) 0)
/-- The right to receive hop `k`. -/
def toRecv (k : ℕ) : sProp 𝕄 := iprop(atPos ER (cell c (rx d k)) 0 ∅ 0 ∗ cred (tallyAt (cell c (rx d k)) 0 N))
/-- Hop `k` on its way: the share of the slot that stays, and the right to wait for the departure. -/
def away (k : ℕ) : sProp 𝕄 :=
  iprop(own c (xSl d (k % 8) (Nat.mod_lt _ (by decide))) (PosShare.left fullShare) (xval I d k c) ∗ cred (tallyAt (cell c (sx d k)) 0 N))

/-- After `r` arrivals and `s` departures of `x` in direction `d`. -/
def xState (r s : ℕ) : sProp 𝕄 :=
  iprop((bigSep (Finset.Ico s 7) fun k => toSend c d k) ∗ (bigSep (Finset.Ico s 7) fun k => place c d k)
    ∗ (bigSep (Finset.Ico r 7) fun k => toRecv c d k) ∗ (bigSep (Finset.Ico 0 s) fun k => away I c d k)
    ∗ (bigSep (Finset.Ico 0 r) fun k => atPos ER (cell c (rx d k)) 1 ∅ 0))

/-- The right to a step of the running sums: its payments, its waits. -/
def toSum (h : ℕ) : sProp 𝕄 :=
  iprop(dutyTok ER (cell c (sa d h)) 0 false ∗ dutyTok ER (cell (dst d c) (ra d h)) 0 false ∗ reached ER (cell (dst d c) (ra d h)) 0
    ∗ atPos ER (cell c (sa d h)) 0 ∅ 0 ∗ atPos ER (cell c (ra d h)) 0 ∅ 0 ∗ cred (tallyAt (cell c (ra d h)) 0 N))
def summed (h : ℕ) : sProp 𝕄 := iprop(atPos ER (cell c (sa d h)) 1 ∅ 0 ∗ atPos ER (cell c (ra d h)) 1 ∅ 0)
/-- The right to give the credit of step `h`, and to take it. -/
def toGive (h : ℕ) : sProp 𝕄 := dutyTok ER (cell (dst (!d) c) (kCr d)) h false
def toTake (h : ℕ) : sProp 𝕄 := cred (tallyAt (cell c (kCr d)) h 1)

/-- After `h` steps of the running sums in direction `d`, `t` credits being taken. -/
def aState (h t : ℕ) : sProp 𝕄 :=
  iprop((bigSep (Finset.Ico h 8) fun k => toSum c d k) ∗ (bigSep (Finset.Ico h 7) fun k => toGive c d k)
    ∗ (bigSep (Finset.Ico t 7) fun k => toTake c d k) ∗ atPos ER (cell c (kCr d)) t ∅ 0 ∗ reached ER (cell c (kCr d)) t
    ∗ (bigSep (Finset.Ico 0 h) fun k => summed c d k))

variable {I} {K : GSem nD τ sig → ℕ}

/-! ## Pieces -/

/-- Hop `k` departs. -/
theorem sendX (k : ℕ) (hk : k < 7) {n : ℕ} (hn : n < 50) (hi : item n = some (d, rx d k, 0)) {Q : PUnit → sProp 𝕄} :
    iprop(ctx I K c ∗ own c (xSl d k (by omega)) fullShare (xval I d k c) ∗ xState I c d k k ∗ debt c n
        ∗ (xState I c d k (k + 1) ∗ debt c (n + 1) -∗ Q ⟨⟩))
      ⊢ run c (pSendX (F := F) c d k hk) Q := by
  have h8 : k < 8 := by omega
  have h18 : k + 1 < 8 := by omega
  unfold xState
  rw [bigSep_Ico_succ_bot hk (fun k => toSend (F := F) c d k), bigSep_Ico_succ_bot hk (fun k => place (F := F) c d k),
    bigSep_Ico_succ_top (Nat.zero_le k) (fun k => away I c d k)]
  unfold toSend place away
  rw [xSl_congr d (Nat.mod_eq_of_lt h18) _ h18, xSl_congr d (Nat.mod_eq_of_lt h8) _ h8]
  iintro ⟨#Hc, Hx, ⟨⟨⟨Ht1, Ht2⟩, Hts⟩, ⟨⟨Hp, #Hr⟩, Hps⟩, Hrs, Has, Hds⟩, HO, Hk⟩
  ihave Hx := (own_split c (xSl d k h8) (xval I d k c)) $$ Hx
  icases Hx with ⟨Hl, Hx⟩
  simp only [pSendX, Prog.lift]
  iapply (send (I := I) (K := K) (o := .inr (false, false, d, f8 k)) (k := rx d k) (n := n) (t := d) (semOf_sx d k h8).symm (semOf_rx d k h8).symm hn hi
    (false_mem (duts_x false d k hk)) (false_mem (duts_x true d k hk)) rfl rfl (xSl d k h8) (xSl d (k + 1) h18)
    (credit_x d (k + 1) h18) (PosShare.right fullShare) (xval I d k c) iprop(emp)
    (Entails.of_eq (pay_sx I c d k h8 0 false).symm)
    (by
      rw [pay_rx I (dst d c) d k hk]
      show iprop(own (dst d c) (xSl d (k + 1) h18) fullShare (xval I d k c) ∗ emp) ⊢ own (dst d c) (xSl d (k + 1) h18) fullShare (xval I d k (dst (!d) (dst d c)))
      rw [dst_not_dst]
      iintro ⟨H, -⟩; iexact H))
  isplitr; · iexact Hc
  isplitl [Hx]; · iexact Hx
  isplitl [Hp]; · iexact Hp
  isplitr; · iempintro
  isplitl [HO]; · iexact HO
  isplitl [Ht1]; · iexact Ht1
  isplitl [Ht2]; · iexact Ht2
  isplitr; · iexact Hr
  iintro ⟨Hcr, HO⟩
  iapply (done c)
  iapply Hk
  isplitr [HO]
  · isplitl [Hts]; · iexact Hts
    isplitl [Hps]; · iexact Hps
    isplitl [Hrs]; · iexact Hrs
    isplitr [Hds]
    · isplitl [Hl Hcr]
      · isplitl [Hl]; · iexact Hl
        iexact Hcr
      iexact Has
    iexact Hds
  iexact HO

/-- Hop `k` arrives. -/
theorem recvX (k s : ℕ) (hk : k < 7) {n : ℕ} (hn : 2 ≤ n) (hl : lev (rx d k) 0 ≤ n) {Q : PUnit → sProp 𝕄} :
    iprop(ctx I K c ∗ xState I c d k s ∗ debt c n
        ∗ (own c (xSl d (k + 1) (by omega)) fullShare (xval I d (k + 1) c) ∗ xState I c d (k + 1) s ∗ debt c n -∗ Q ⟨⟩))
      ⊢ run c (pRecvX (F := F) d k hk) Q := by
  have h8 : k < 8 := by omega
  have h18 : k + 1 < 8 := by omega
  unfold xState
  rw [bigSep_Ico_succ_bot hk (fun k => toRecv (F := F) c d k),
    bigSep_Ico_succ_top (Nat.zero_le k) (fun k => (atPos ER (cell c (rx d k)) 1 ∅ 0 : sProp 𝕄))]
  unfold toRecv
  iintro ⟨#Hc, ⟨Hts, Hps, ⟨⟨Hat, Hcr⟩, Hrs⟩, Has, Hds⟩, HO, Hk⟩
  simp only [pRecvX, Prog.lift]
  iapply (await (I := I) (K := K) (c := c) (rx d k) (r := 0) (n := n) (a := (xSq d (k + 1) h18).view.dmaCredit) (semOf_rx d k h8).symm (by decide) hl hn
    (by rw [duts_x true d k hk, credit_x, Finset.card_singleton, Nat.one_mul]; rfl)
    (wpE_waitDma2_eq 𝒱₀ (c : Thread nD τ) none Set.univ))
  rw [duts_x true d k hk, bigSep_singleton, pay_rx I c d k hk, credit_x]
  isplitr; · iexact Hc
  isplitl [Hcr]; · iexact Hcr
  isplitl [HO]; · iexact HO
  isplitl [Hat]; · iexact Hat
  iintro ⟨HO, Hat, -, Hp⟩
  iapply (done c)
  iapply Hk
  isplitl [Hp]; · iexact Hp
  isplitr [HO]
  · isplitl [Hts]; · iexact Hts
    isplitl [Hps]; · iexact Hps
    isplitl [Hrs]; · iexact Hrs
    isplitl [Has]; · iexact Has
    isplitl [Hat]; · iexact Hat
    iexact Hds
  iexact HO

/-- A running sum departs. -/
def flying (h : ℕ) : sProp 𝕄 :=
  iprop(cred (tallyAt (cell c (sa d h)) 0 N) ∗ atPos ER (cell c (sa d h)) 0 ∅ 0 ∗ atPos ER (cell c (ra d h)) 0 ∅ 0
    ∗ cred (tallyAt (cell c (ra d h)) 0 N))

theorem sendA (h : ℕ) (hh : h < 8) {n : ℕ} (hn : n < 50) (hi : item n = some (d, ra d h, 0)) {Q : PUnit → sProp 𝕄} :
    iprop(ctx I K c ∗ own c (aSl d (h % 2) (by omega)) fullShare (aval I d h c) ∗ owned (dst d c) (aSl d ((h + 1) % 2) (by omega))
        ∗ toSum c d h ∗ reached ER (cell c (kCr d)) h ∗ debt c n
        ∗ (flying c d h ∗ debt c (n + 1) -∗ Q ⟨⟩))
      ⊢ run c (pSendA (F := F) c d h hh) Q := by
  have m0 : h % 2 < 2 := by omega
  have m1 : (h + 1) % 2 < 2 := by omega
  unfold toSum flying
  iintro ⟨#Hc, Hx, Hp, ⟨Ht1, Ht2, #Hr, Ha1, Ha2, Hcr⟩, #Hrc, HO, Hk⟩
  simp only [pSendA, Prog.lift]
  iapply (send (I := I) (K := K) (o := .inr (true, false, d, f8 h)) (k := ra d h) (n := n) (t := d) (semOf_sa d h hh).symm (semOf_ra d h hh).symm hn hi
    (false_mem (duts_a false d h)) (false_mem (duts_a true d h)) rfl rfl (aSl d (h % 2) m0) (aSl d ((h + 1) % 2) m1)
    (credit_a d ((h + 1) % 2) m1) fullShare (aval I d h c) (reached ER (cell c (kCr d)) h)
    (by rw [pay_sa I c d h hh]; exact own_owned c _ _)
    (by rw [pay_ra I (dst d c) d h hh, dst_not_dst]))
  isplitr; · iexact Hc
  isplitl [Hx]; · iexact Hx
  isplitl [Hp]; · iexact Hp
  isplitr; · iexact Hrc
  isplitl [HO]; · iexact HO
  isplitl [Ht1]; · iexact Ht1
  isplitl [Ht2]; · iexact Ht2
  isplitr; · iexact Hr
  iintro ⟨Hcs, HO⟩
  iapply (done c)
  iapply Hk
  isplitr [HO]
  · isplitl [Hcs]; · iexact Hcs
    isplitl [Ha1]; · iexact Ha1
    isplitl [Ha2]; · iexact Ha2
    iexact Hcr
  iexact HO

/-- The own running sum has left, the neighbour's has arrived. -/
theorem waitA (h : ℕ) (hh : h < 8) {n : ℕ} (hn : 2 ≤ n) (hl : lev (ra d h) 0 ≤ n) {Q : PUnit → sProp 𝕄} :
    iprop(ctx I K c ∗ flying c d h ∗ debt c n
        ∗ (owned c (aSl d (h % 2) (by omega)) ∗ own c (aSl d ((h + 1) % 2) (by omega)) fullShare (aval I d h (dst (!d) c))
            ∗ reached ER (cell (dst (!d) c) (kCr d)) h ∗ summed c d h ∗ debt c n -∗ Q ⟨⟩))
      ⊢ run c (pWaitA (F := F) d h hh) Q := by
  have m0 : h % 2 < 2 := by omega
  have m1 : (h + 1) % 2 < 2 := by omega
  unfold flying summed
  iintro ⟨#Hc, ⟨Hcs, Ha1, Ha2, Hcr⟩, HO, Hk⟩
  simp only [pWaitA, Prog.lift, Prog.bind_op, Prog.bind_ret]
  iapply (await (I := I) (K := K) (c := c) (sa d h) (r := 0) (n := n) (a := (aSq d (h % 2) m0).view.dmaCredit) (semOf_sa d h hh).symm (by decide)
    (Nat.zero_le _) hn
    (by rw [duts_a false d h, credit_a, Finset.card_singleton, Nat.one_mul]; rfl)
    (wpE_waitDma2_eq 𝒱₀ (c : Thread nD τ) none Set.univ))
  rw [duts_a false d h, bigSep_singleton, pay_sa I c d h hh, credit_a]
  isplitr; · iexact Hc
  isplitl [Hcs]; · iexact Hcs
  isplitl [HO]; · iexact HO
  isplitl [Ha1]; · iexact Ha1
  iintro ⟨HO, Ha1, -, Hp1⟩
  iapply (await (I := I) (K := K) (c := c) (ra d h) (r := 0) (n := n) (a := (aSq d ((h + 1) % 2) m1).view.dmaCredit) (semOf_ra d h hh).symm (by decide)
    hl hn
    (by rw [duts_a true d h, credit_a, Finset.card_singleton, Nat.one_mul]; rfl)
    (wpE_waitDma2_eq 𝒱₀ (c : Thread nD τ) none Set.univ))
  rw [duts_a true d h, bigSep_singleton, pay_ra I c d h hh, credit_a]
  isplitr; · iexact Hc
  isplitl [Hcr]; · iexact Hcr
  isplitl [HO]; · iexact HO
  isplitl [Ha2]; · iexact Ha2
  iintro ⟨HO, Ha2, -, Hp2, Hr2⟩
  iapply (done c)
  iapply Hk
  isplitl [Hp1]; · iexact Hp1
  isplitl [Hp2]; · iexact Hp2
  isplitl [Hr2]; · iexact Hr2
  isplitl [Ha1 Ha2]
  · isplitl [Ha1]; · iexact Ha1
    iexact Ha2
  iexact HO

/-- Credit `r` of a direction is taken: the neighbour's slot comes with it. -/
theorem takeOne (h r : ℕ) (hr : r < 7) {n : ℕ} (hn : 2 ≤ n) (hl : lev (kCr d) r ≤ n)
    {α : Type} {kont : PUnit → Prog (TpuEff nD τ sig (Elt F) Λ₀ .tc) α} {Q : α → sProp 𝕄} :
    iprop(ctx I K c ∗ aState c d h r ∗ debt c n
        ∗ (aState c d h (r + 1) ∗ owned (dst d c) (aSl d (r % 2) (by omega)) ∗ debt c n -∗ run c (kont ⟨⟩) Q))
      ⊢ run c (.op (.semWait (sCr d).sem 1) kont) Q := by
  unfold aState
  rw [bigSep_Ico_succ_bot hr (fun k => toTake (F := F) c d k)]
  unfold toTake
  iintro ⟨#Hc, ⟨Hs, Hg, ⟨Ht, Hts⟩, Hat, -, Hd⟩, HO, Hk⟩
  iapply (await (I := I) (K := K) (c := c) (kCr d) (r := r) (n := n) (a := 1) (sm := .reg (sCr d).sem) rfl (by omega) hl hn
    (by rw [duts_cr d r hr]; rfl)
    (wpE_semWait_eq 𝒱₀ (c : Thread nD τ) none Set.univ))
  rw [duts_cr d r hr, bigSep_singleton]
  isplitr; · iexact Hc
  isplitl [Ht]; · iexact Ht
  isplitl [HO]; · iexact HO
  isplitl [Hat]; · iexact Hat
  iintro ⟨HO, Hat, Hre, Hp⟩
  iapply Hk
  isplitr [HO Hp]
  · isplitl [Hs]; · iexact Hs
    isplitl [Hg]; · iexact Hg
    isplitl [Hts]; · iexact Hts
    isplitl [Hat]; · iexact Hat
    isplitl [Hre]; · iexact Hre
    iexact Hd
  isplitl [Hp]
  · iapply (Entails.of_eq (pay_cr I c d r false)); iexact Hp
  iexact HO

/-- Both credits. -/
theorem takeCr (h r : ℕ) (hr : r < 7) {n : ℕ} (hn : 2 ≤ n) (hl : 10 + 6 * r ≤ n) {Q : PUnit → sProp 𝕄} :
    iprop(ctx I K c ∗ aState c false h r ∗ aState c true h r ∗ debt c n
        ∗ (aState c false h (r + 1) ∗ aState c true h (r + 1) ∗ owned (dst false c) (aSl false (r % 2) (by omega))
            ∗ owned (dst true c) (aSl true (r % 2) (by omega)) ∗ debt c n -∗ Q ⟨⟩))
      ⊢ run c (pTakeCr (F := F)) Q := by
  iintro ⟨#Hc, H1, H2, HO, Hk⟩
  simp only [pTakeCr, semWaitWord, Prog.bind_op, Prog.bind_ret]
  iapply (takeOne c false h r hr hn (by show 9 + 6 * r + 0 ≤ n; omega))
  isplitr; · iexact Hc
  isplitl [H1]; · iexact H1
  isplitl [HO]; · iexact HO
  iintro ⟨H1, Hp1, HO⟩
  iapply (takeOne c true h r hr hn (by show 9 + 6 * r + 1 ≤ n; omega))
  isplitr; · iexact Hc
  isplitl [H2]; · iexact H2
  isplitl [HO]; · iexact HO
  iintro ⟨H2, Hp2, HO⟩
  iapply (done c)
  iapply Hk
  isplitl [H1]; · iexact H1
  isplitl [H2]; · iexact H2
  isplitl [Hp1]; · iexact Hp1
  isplitl [Hp2]; · iexact Hp2
  iexact HO

/-- The credit of step `h` of a direction is given: the own slot goes with it. -/
theorem giveOne (h : ℕ) (hh : h < 7) {n : ℕ} (hn : n < 50) (hi : item n = some (!d, kCr d, h))
    {α : Type} {kont : PUnit → Prog (TpuEff nD τ sig (Elt F) Λ₀ .tc) α} {Q : α → sProp 𝕄} :
    iprop(ctx I K c ∗ owned c (aSl d (h % 2) (by omega)) ∗ toGive c d h ∗ reached ER (cell (dst (!d) c) (kCr d)) h ∗ debt c n
        ∗ (debt c (n + 1) -∗ run c (kont ⟨⟩) Q))
      ⊢ run c (.op (.semSignal (dst (!d) c : Thread nD τ) (sCr d).sem 1) kont) Q := by
  unfold toGive
  iintro ⟨#Hc, Ho, Ht, #Hr, HO, Hk⟩
  iapply (signal (I := I) (K := K) (c := c) (k := kCr d) (r := h) (n := n) (t := !d) (b := false) (s := (sCr d).sem) rfl hn hi
    (false_mem (duts_cr d h hh)) rfl)
  isplitr; · iexact Hc
  isplitl [HO]; · iexact HO
  isplitl [Ht]; · iexact Ht
  isplitl [Ho]
  · rw [pay_cr, dst_dst_not]; iexact Ho
  isplitr; · iexact Hr
  iexact Hk

end Cert.Proof.Ring

end
-- ==== Proof.Steps.lean ====
/- The steps of the ring, each from what a device holds before it to what it holds after it. -/
module

public import proofs.«01_k».proof.Proof.Ring

@[expose] public section

noncomputable section

namespace Cert.Proof.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F] (I : Inp F) (c : Dev nD)

local notation "𝕄" => MT nD τ sig ℕ (Elt F) ℕ UU ℕ

/-- The running sum of a direction, and the place for it at the neighbour. -/
def sums (d : Bool) (h : ℕ) : sProp 𝕄 := own c (aSl d (h % 2) (Nat.mod_lt _ (by decide))) fullShare (aval I d h c)
def room (d : Bool) (h : ℕ) : sProp 𝕄 := owned (F := F) (dst d c) (aSl d ((h + 1) % 2) (Nat.mod_lt _ (by decide)))

/-- The buffers that only this device uses. -/
def locals : sProp 𝕄 := iprop(consts I c ∗ scratch c ∗ owned (F := F) c gD)

/-- What a device holds before step `h`, `t` credits being taken. -/
def state (h t : ℕ) : sProp 𝕄 :=
  iprop(xState I c false h (h + 1) ∗ xState I c true h (h + 1) ∗ aState c false h t ∗ aState c true h t
    ∗ sums I c false h ∗ sums I c true h ∗ locals I c ∗ debt c (6 * h + 4))

variable {I} {K : GSem nD τ sig → ℕ}

theorem lev_rx (d : Bool) (h : ℕ) (hh : h < 8) : lev (rx d h) 0 ≤ 6 * h + 4 := by
  interval_cases h <;> cases d <;> decide
theorem lev_ra (d : Bool) (h : ℕ) (hh : h < 8) : lev (ra d h) 0 ≤ 6 * h + 8 := by
  interval_cases h <;> cases d <;> decide

/-- The arrivals of a step and the departures they allow. -/
theorem stepX (h : ℕ) (hh : h < 6) {Q : PUnit → sProp 𝕄} :
    iprop(ctx I K c ∗ xState I c false h (h + 1) ∗ xState I c true h (h + 1) ∗ debt c (6 * h + 4)
        ∗ (xState I c false (h + 1) (h + 2) ∗ xState I c true (h + 1) (h + 2) ∗ debt c (6 * h + 6) -∗ Q ⟨⟩))
      ⊢ run c (pX (F := F) c h hh) Q := by
  unfold pX
  iintro ⟨#Hc, H1, H2, HO, Hk⟩
  iapply (seq c)
  iapply (recvX c false h (h + 1) _ (by omega) (lev_rx false h (by omega)))
  isplitr; · iexact Hc
  isplitl [H1]; · iexact H1
  isplitl [HO]; · iexact HO
  iintro ⟨Hx1, H1, HO⟩
  iapply (seq c)
  iapply (recvX c true h (h + 1) _ (by omega) (lev_rx true h (by omega)))
  isplitr; · iexact Hc
  isplitl [H2]; · iexact H2
  isplitl [HO]; · iexact HO
  iintro ⟨Hx2, H2, HO⟩
  iapply (seq c)
  iapply (sendX c false (h + 1) _ (n := 6 * h + 4) (by omega) (item_x h hh false))
  isplitr; · iexact Hc
  isplitl [Hx1]; · iexact Hx1
  isplitl [H1]; · iexact H1
  isplitl [HO]; · iexact HO
  iintro ⟨H1, HO⟩
  iapply (sendX c true (h + 1) _ (n := 6 * h + 5) (by omega) (item_x h hh true))
  isplitr; · iexact Hc
  isplitl [Hx2]; · iexact Hx2
  isplitl [H2]; · iexact H2
  isplitl [HO]; · iexact HO
  iintro ⟨H2, HO⟩
  iapply Hk
  isplitl [H1]; · iexact H1
  isplitl [H2]; · iexact H2
  iexact HO

/-- A share of the slot that was sent last can be borrowed. -/
theorem xState_slot (d : Bool) (r k : ℕ) (hk : k < 8) :
    xState I c d r (k + 1) ⊢ iprop(own c (xSl d k hk) (PosShare.left fullShare) (xval I d k c)
      ∗ (own c (xSl d k hk) (PosShare.left fullShare) (xval I d k c) -∗ xState I c d r (k + 1))) := by
  unfold xState
  rw [bigSep_Ico_succ_top (Nat.zero_le k) (fun k => away I c d k)]
  unfold away
  rw [xSl_congr d (Nat.mod_eq_of_lt hk) _ hk]
  iintro ⟨H1, H2, H3, ⟨⟨Hx, Hc⟩, H4⟩, H5⟩
  isplitl [Hx]; · iexact Hx
  iintro Hx
  isplitl [H1]; · iexact H1
  isplitl [H2]; · iexact H2
  isplitl [H3]; · iexact H3
  isplitr [H5]
  · isplitr [H4]
    · isplitl [Hx]; · iexact Hx
      iexact Hc
    iexact H4
  iexact H5

/-- What a step of the running sums takes from what is held. -/
theorem aState_step (d : Bool) (h t : ℕ) (hh : h < 7) :
    aState (F := F) c d h t ⊢ iprop(toSum c d h ∗ toGive c d h ∗ reached ER (cell c (kCr d)) t ∗ (summed c d h -∗ aState c d (h + 1) t)) := by
  unfold aState
  rw [bigSep_Ico_succ_bot (by omega : h < 8) (fun k => toSum (F := F) c d k), bigSep_Ico_succ_bot hh (fun k => toGive (F := F) c d k),
    bigSep_Ico_succ_top (Nat.zero_le h) (fun k => summed (F := F) c d k)]
  iintro ⟨⟨H1, H1s⟩, ⟨H2, H2s⟩, H3, H4, #H5, H6⟩
  isplitl [H1]; · iexact H1
  isplitl [H2]; · iexact H2
  isplitr; · iexact H5
  iintro Hs
  isplitl [H1s]; · iexact H1s
  isplitl [H2s]; · iexact H2s
  isplitl [H3]; · iexact H3
  isplitl [H4]; · iexact H4
  isplitr; · iexact H5
  isplitl [Hs]; · iexact Hs
  iexact H6

/-- A step of the running sums. -/
theorem stepA (h : ℕ) (hh : h < 7) (q : PosShare TreeShare) {Q : PUnit → sProp 𝕄} :
    iprop(ctx I K c ∗ aState c false h h ∗ aState c true h h ∗ sums I c false h ∗ sums I c true h
        ∗ room c false h ∗ room c true h
        ∗ own c (xSl false (h + 1) (by omega)) q (xval I false (h + 1) c) ∗ own c (xSl true (h + 1) (by omega)) q (xval I true (h + 1) c)
        ∗ locals I c ∗ debt c (6 * h + 6)
        ∗ (aState c false (h + 1) h ∗ aState c true (h + 1) h ∗ sums I c false (h + 1) ∗ sums I c true (h + 1)
            ∗ own c (xSl false (h + 1) (by omega)) q (xval I false (h + 1) c) ∗ own c (xSl true (h + 1) (by omega)) q (xval I true (h + 1) c)
            ∗ locals I c ∗ debt c (6 * (h + 1) + 4) -∗ Q ⟨⟩))
      ⊢ run c (pA (F := F) c h hh) Q := by
  unfold pA sums room locals
  iintro ⟨#Hc, HA1, HA2, Hs1, Hs2, Hr1, Hr2, Hx1, Hx2, ⟨Hcon, Hscr, HD⟩, HO, Hk⟩
  ihave HA1 := (aState_step c false h h hh) $$ HA1
  icases HA1 with ⟨Ht1, Hg1, #Hre1, HA1⟩
  ihave HA2 := (aState_step c true h h hh) $$ HA2
  icases HA2 with ⟨Ht2, Hg2, #Hre2, HA2⟩
  iapply (seq c)
  iapply (sendA c false h _ (n := 6 * h + 6) (by omega) (item_a h (by omega) false))
  isplitr; · iexact Hc
  isplitl [Hs1]; · iexact Hs1
  isplitl [Hr1]; · iexact Hr1
  isplitl [Ht1]; · iexact Ht1
  isplitr; · iexact Hre1
  isplitl [HO]; · iexact HO
  iintro ⟨Hf1, HO⟩
  iapply (seq c)
  iapply (sendA c true h _ (n := 6 * h + 7) (by omega) (item_a h (by omega) true))
  isplitr; · iexact Hc
  isplitl [Hs2]; · iexact Hs2
  isplitl [Hr2]; · iexact Hr2
  isplitl [Ht2]; · iexact Ht2
  isplitr; · iexact Hre2
  isplitl [HO]; · iexact HO
  iintro ⟨Hf2, HO⟩
  iapply (seq c)
  iapply (part c q (h + 1) _)
  isplitl [Hx1]; · iexact Hx1
  isplitl [Hx2]; · iexact Hx2
  isplitl [Hcon]; · iexact Hcon
  isplitl [Hscr]; · iexact Hscr
  isplitl [HD]; · iexact HD
  iintro ⟨Hx1, Hx2, Hcon, Hscr, HD⟩
  iapply (seq c)
  iapply (waitA c false h _ (by omega) (lev_ra false h (by omega)))
  isplitr; · iexact Hc
  isplitl [Hf1]; · iexact Hf1
  isplitl [HO]; · iexact HO
  iintro ⟨Ho1, Hn1, #Hq1, Hsu1, HO⟩
  iapply (seq c)
  iapply (waitA c true h _ (by omega) (lev_ra true h (by omega)))
  isplitr; · iexact Hc
  isplitl [Hf2]; · iexact Hf2
  isplitl [HO]; · iexact HO
  iintro ⟨Ho2, Hn2, #Hq2, Hsu2, HO⟩
  iapply (seq c)
  simp only [pGiveCr, semSignalWord, Prog.bind_op, Prog.bind_ret]
  iapply (giveOne c false h hh (n := 6 * h + 8) (by omega) (item_cr h hh false))
  isplitr; · iexact Hc
  isplitl [Ho1]; · iexact Ho1
  isplitl [Hg1]; · iexact Hg1
  isplitr; · iexact Hq1
  isplitl [HO]; · iexact HO
  iintro HO
  iapply (giveOne c true h hh (n := 6 * h + 9) (by omega) (item_cr h hh true))
  isplitr; · iexact Hc
  isplitl [Ho2]; · iexact Ho2
  isplitl [Hg2]; · iexact Hg2
  isplitr; · iexact Hq2
  isplitl [HO]; · iexact HO
  iintro HO
  iapply (done c)
  iapply (seq c)
  iapply (add c false ((h + 1) % 2) _)
  isplitl [HD]; · iexact HD
  isplitl [Hn1]; · iexact Hn1
  iintro ⟨HD, Hn1⟩
  iapply (add c true ((h + 1) % 2) _)
  isplitl [HD]; · iexact HD
  isplitl [Hn2]; · iexact Hn2
  iintro ⟨HD, Hn2⟩
  iapply Hk
  isplitl [HA1 Hsu1]; · iapply HA1; iexact Hsu1
  isplitl [HA2 Hsu2]; · iapply HA2; iexact Hsu2
  isplitl [Hn1]; · iexact Hn1
  isplitl [Hn2]; · iexact Hn2
  isplitl [Hx1]; · iexact Hx1
  isplitl [Hx2]; · iexact Hx2
  isplitr [HO]
  · isplitl [Hcon]; · iexact Hcon
    isplitl [Hscr]; · iexact Hscr
    iapply (own_owned c gD); iexact HD
  iexact HO

/-- The place that comes with a credit is the one the next sum goes to. -/
theorem room_of (d : Bool) (r : ℕ) : owned (F := F) (dst d c) (aSl d (r % 2) (Nat.mod_lt _ (by decide))) ⊢ room c d (r + 1) := by
  unfold room
  rw [aSl_congr d (show (r + 1 + 1) % 2 = r % 2 by omega) _ (Nat.mod_lt _ (by decide))]

/-- The first step of the ring. -/
theorem round0 {rest : PK F} {Q : PUnit → sProp 𝕄} :
    iprop(ctx I K c ∗ state I c 0 0 ∗ room c false 0 ∗ room c true 0 ∗ (state I c 1 0 -∗ run c rest Q))
      ⊢ run c (pX (F := F) c 0 (by omega) >>= fun _ => pA c 0 (by omega) >>= fun _ => rest) Q := by
  unfold state
  iintro ⟨#Hc, ⟨HX1, HX2, HA1, HA2, Hs1, Hs2, Hl, HO⟩, Hr1, Hr2, Hk⟩
  iapply (seq c)
  iapply (stepX c 0 _)
  isplitr; · iexact Hc
  isplitl [HX1]; · iexact HX1
  isplitl [HX2]; · iexact HX2
  isplitl [HO]; · iexact HO
  iintro ⟨HX1, HX2, HO⟩
  ihave HX1 := (xState_slot c false 1 1 (by omega)) $$ HX1
  icases HX1 with ⟨Hx1, HX1⟩
  ihave HX2 := (xState_slot c true 1 1 (by omega)) $$ HX2
  icases HX2 with ⟨Hx2, HX2⟩
  iapply (seq c)
  iapply (stepA c 0 _ (PosShare.left fullShare))
  isplitr; · iexact Hc
  isplitl [HA1]; · iexact HA1
  isplitl [HA2]; · iexact HA2
  isplitl [Hs1]; · iexact Hs1
  isplitl [Hs2]; · iexact Hs2
  isplitl [Hr1]; · iexact Hr1
  isplitl [Hr2]; · iexact Hr2
  isplitl [Hx1]; · iexact Hx1
  isplitl [Hx2]; · iexact Hx2
  isplitl [Hl]; · iexact Hl
  isplitl [HO]; · iexact HO
  iintro ⟨HA1, HA2, Hs1, Hs2, Hx1, Hx2, Hl, HO⟩
  iapply Hk
  isplitl [HX1 Hx1]; · iapply HX1; iexact Hx1
  isplitl [HX2 Hx2]; · iapply HX2; iexact Hx2
  isplitl [HA1]; · iexact HA1
  isplitl [HA2]; · iexact HA2
  isplitl [Hs1]; · iexact Hs1
  isplitl [Hs2]; · iexact Hs2
  isplitl [Hl]; · iexact Hl
  iexact HO

/-- A later step of the ring. -/
theorem round (r : ℕ) (hr : r < 5) {rest : PK F} {Q : PUnit → sProp 𝕄} :
    iprop(ctx I K c ∗ state I c (r + 1) r ∗ (state I c (r + 2) (r + 1) -∗ run c rest Q))
      ⊢ run c (pX (F := F) c (r + 1) (by omega) >>= fun _ => pTakeCr >>= fun _ => pA c (r + 1) (by omega) >>= fun _ => rest) Q := by
  unfold state
  iintro ⟨#Hc, ⟨HX1, HX2, HA1, HA2, Hs1, Hs2, Hl, HO⟩, Hk⟩
  iapply (seq c)
  iapply (stepX c (r + 1) _)
  isplitr; · iexact Hc
  isplitl [HX1]; · iexact HX1
  isplitl [HX2]; · iexact HX2
  isplitl [HO]; · iexact HO
  iintro ⟨HX1, HX2, HO⟩
  ihave HX1 := (xState_slot c false (r + 2) (r + 2) (by omega)) $$ HX1
  icases HX1 with ⟨Hx1, HX1⟩
  ihave HX2 := (xState_slot c true (r + 2) (r + 2) (by omega)) $$ HX2
  icases HX2 with ⟨Hx2, HX2⟩
  iapply (seq c)
  iapply (takeCr c (r + 1) r (by omega) (n := 6 * (r + 1) + 6) (by omega) (by omega))
  isplitr; · iexact Hc
  isplitl [HA1]; · iexact HA1
  isplitl [HA2]; · iexact HA2
  isplitl [HO]; · iexact HO
  iintro ⟨HA1, HA2, Hr1, Hr2, HO⟩
  iapply (seq c)
  iapply (stepA c (r + 1) _ (PosShare.left fullShare))
  isplitr; · iexact Hc
  isplitl [HA1]; · iexact HA1
  isplitl [HA2]; · iexact HA2
  isplitl [Hs1]; · iexact Hs1
  isplitl [Hs2]; · iexact Hs2
  isplitl [Hr1]; · iapply (room_of c false r); iexact Hr1
  isplitl [Hr2]; · iapply (room_of c true r); iexact Hr2
  isplitl [Hx1]; · iexact Hx1
  isplitl [Hx2]; · iexact Hx2
  isplitl [Hl]; · iexact Hl
  isplitl [HO]; · iexact HO
  iintro ⟨HA1, HA2, Hs1, Hs2, Hx1, Hx2, Hl, HO⟩
  iapply Hk
  isplitl [HX1 Hx1]; · iapply HX1; iexact Hx1
  isplitl [HX2 Hx2]; · iapply HX2; iexact Hx2
  isplitl [HA1]; · iexact HA1
  isplitl [HA2]; · iexact HA2
  isplitl [Hs1]; · iexact Hs1
  isplitl [Hs2]; · iexact Hs2
  isplitl [Hl]; · iexact Hl
  iexact HO

/-- What is held when all blocks have been met. -/
def late : sProp 𝕄 :=
  iprop(xState I c false 7 7 ∗ xState I c true 7 7 ∗ owned (F := F) c (xSl false 7 (by decide)) ∗ owned (F := F) c (xSl true 7 (by decide))
    ∗ locals I c)

/-- The last step with a term to add: nothing is sent on. -/
theorem round6 {rest : PK F} {Q : PUnit → sProp 𝕄} :
    iprop(ctx I K c ∗ state I c 6 5
        ∗ (late (I := I) c ∗ aState c false 7 6 ∗ aState c true 7 6 ∗ sums I c false 7 ∗ sums I c true 7 ∗ debt c 46 -∗ run c rest Q))
      ⊢ run c (pRecvX (F := F) false 6 (by omega) >>= fun _ => pRecvX true 6 (by omega) >>= fun _ => pTakeCr >>= fun _ =>
          pA c 6 (by omega) >>= fun _ => rest) Q := by
  unfold state late
  iintro ⟨#Hc, ⟨HX1, HX2, HA1, HA2, Hs1, Hs2, Hl, HO⟩, Hk⟩
  iapply (seq c)
  iapply (recvX c false 6 7 _ (n := 40) (by omega) (lev_rx false 6 (by omega)))
  isplitr; · iexact Hc
  isplitl [HX1]; · iexact HX1
  isplitl [HO]; · iexact HO
  iintro ⟨Hx1, HX1, HO⟩
  iapply (seq c)
  iapply (recvX c true 6 7 _ (n := 40) (by omega) (lev_rx true 6 (by omega)))
  isplitr; · iexact Hc
  isplitl [HX2]; · iexact HX2
  isplitl [HO]; · iexact HO
  iintro ⟨Hx2, HX2, HO⟩
  have e : (debt c 40 : sProp 𝕄) = debt c 42 := (debt_skip c (by omega) rfl).trans (debt_skip c (by omega) rfl)
  ihave HO := (Entails.of_eq e) $$ HO
  iapply (seq c)
  iapply (takeCr c 6 5 (by omega) (n := 42) (by omega) (by omega))
  isplitr; · iexact Hc
  isplitl [HA1]; · iexact HA1
  isplitl [HA2]; · iexact HA2
  isplitl [HO]; · iexact HO
  iintro ⟨HA1, HA2, Hr1, Hr2, HO⟩
  iapply (seq c)
  iapply (stepA c 6 _ fullShare)
  isplitr; · iexact Hc
  isplitl [HA1]; · iexact HA1
  isplitl [HA2]; · iexact HA2
  isplitl [Hs1]; · iexact Hs1
  isplitl [Hs2]; · iexact Hs2
  isplitl [Hr1]; · iapply (room_of c false 5); iexact Hr1
  isplitl [Hr2]; · iapply (room_of c true 5); iexact Hr2
  isplitl [Hx1]; · iexact Hx1
  isplitl [Hx2]; · iexact Hx2
  isplitl [Hl]; · iexact Hl
  isplitl [HO]; · iexact HO
  iintro ⟨HA1, HA2, Hs1, Hs2, Hx1, Hx2, Hl, HO⟩
  iapply Hk
  isplitl [HX1 HX2 Hx1 Hx2 Hl]
  · isplitl [HX1]; · iexact HX1
    isplitl [HX2]; · iexact HX2
    isplitl [Hx1]; · iapply (own_owned c); iexact Hx1
    isplitl [Hx2]; · iapply (own_owned c); iexact Hx2
    iexact Hl
  isplitl [HA1]; · iexact HA1
  isplitl [HA2]; · iexact HA2
  isplitl [Hs1]; · iexact Hs1
  isplitl [Hs2]; · iexact Hs2
  iexact HO

theorem aState_last (d : Bool) (t : ℕ) :
    aState (F := F) c d 7 t ⊢ iprop(toSum c d 7 ∗ reached ER (cell c (kCr d)) t ∗ (summed c d 7 -∗ aState c d 8 t)) := by
  unfold aState
  rw [bigSep_Ico_succ_bot (by omega : 7 < 8) (fun k => toSum (F := F) c d k),
    Finset.Ico_eq_empty_of_le (by omega : 7 ≤ 8), Finset.Ico_self 7, bigSep_empty,
    bigSep_Ico_succ_top (Nat.zero_le 7) (fun k => summed (F := F) c d k)]
  iintro ⟨⟨H1, H1s⟩, -, H3, H4, #H5, H6⟩
  isplitl [H1]; · iexact H1
  isplitr; · iexact H5
  iintro Hs
  isplitl [H1s]; · iexact H1s
  isplitr; · iempintro
  isplitl [H3]; · iexact H3
  isplitl [H4]; · iexact H4
  isplitr; · iexact H5
  isplitl [Hs]; · iexact Hs
  iexact H6

/-- The last transfer of the sums. -/
theorem tail {Q : PUnit → sProp 𝕄} :
    iprop(ctx I K c ∗ aState c false 7 6 ∗ aState c true 7 6 ∗ sums I c false 7 ∗ sums I c true 7 ∗ debt c 46
        ∗ (aState c false 8 7 ∗ aState c true 8 7
            ∗ own c (aSl false 0 (by decide)) fullShare (aval I false 7 (dst true c)) ∗ owned c (aSl false 1 (by decide))
            ∗ own c (aSl true 0 (by decide)) fullShare (aval I true 7 (dst false c)) ∗ owned c (aSl true 1 (by decide))
            ∗ debt c 50 -∗ Q ⟨⟩))
      ⊢ run c (pTail (F := F) c) Q := by
  unfold pTail sums
  iintro ⟨#Hc, HA1, HA2, Hs1, Hs2, HO, Hk⟩
  iapply (seq c)
  iapply (takeCr c 7 6 (by omega) (n := 46) (by omega) (by omega))
  isplitr; · iexact Hc
  isplitl [HA1]; · iexact HA1
  isplitl [HA2]; · iexact HA2
  isplitl [HO]; · iexact HO
  iintro ⟨HA1, HA2, Hr1, Hr2, HO⟩
  have e : (debt c 46 : sProp 𝕄) = debt c 48 := (debt_skip c (by omega) rfl).trans (debt_skip c (by omega) rfl)
  ihave HO := (Entails.of_eq e) $$ HO
  ihave HA1 := (aState_last c false 7) $$ HA1
  icases HA1 with ⟨Ht1, #Hre1, HA1⟩
  ihave HA2 := (aState_last c true 7) $$ HA2
  icases HA2 with ⟨Ht2, #Hre2, HA2⟩
  iapply (seq c)
  iapply (sendA c false 7 _ (n := 48) (by omega) rfl)
  isplitr; · iexact Hc
  isplitl [Hs1]; · iexact Hs1
  isplitl [Hr1]; · iexact Hr1
  isplitl [Ht1]; · iexact Ht1
  isplitr; · iexact Hre1
  isplitl [HO]; · iexact HO
  iintro ⟨Hf1, HO⟩
  iapply (seq c)
  iapply (sendA c true 7 _ (n := 49) (by omega) rfl)
  isplitr; · iexact Hc
  isplitl [Hs2]; · iexact Hs2
  isplitl [Hr2]; · iexact Hr2
  isplitl [Ht2]; · iexact Ht2
  isplitr; · iexact Hre2
  isplitl [HO]; · iexact HO
  iintro ⟨Hf2, HO⟩
  iapply (seq c)
  iapply (waitA c false 7 _ (n := 50) (by omega) (lev_ra false 7 (by omega)))
  isplitr; · iexact Hc
  isplitl [Hf1]; · iexact Hf1
  isplitl [HO]; · iexact HO
  iintro ⟨Ho1, Hn1, -, Hsu1, HO⟩
  iapply (waitA c true 7 _ (n := 50) (by omega) (lev_ra true 7 (by omega)))
  isplitr; · iexact Hc
  isplitl [Hf2]; · iexact Hf2
  isplitl [HO]; · iexact HO
  iintro ⟨Ho2, Hn2, -, Hsu2, HO⟩
  iapply Hk
  isplitl [HA1 Hsu1]; · iapply HA1; iexact Hsu1
  isplitl [HA2 Hsu2]; · iapply HA2; iexact Hsu2
  isplitl [Hn1]; · iexact Hn1
  isplitl [Ho1]; · iexact Ho1
  isplitl [Hn2]; · iexact Hn2
  isplitl [Ho2]; · iexact Ho2
  iexact HO

/-- A departure is over: the slot is whole again. -/
theorem sentX (d : Bool) (k : ℕ) (hk : k < 7) {Q : PUnit → sProp 𝕄} :
    iprop(ctx I K c ∗ away I c d k ∗ atPos ER (cell c (sx d k)) 0 ∅ 0 ∗ debt c 50
        ∗ (owned c (xSl d (k % 8) (Nat.mod_lt _ (by decide))) ∗ atPos ER (cell c (sx d k)) 1 ∅ 0 ∗ debt c 50 -∗ Q ⟨⟩))
      ⊢ run c (pSentX (F := F) d k hk) Q := by
  have h8 : k < 8 := by omega
  unfold away
  rw [xSl_congr d (Nat.mod_eq_of_lt h8) _ h8]
  iintro ⟨#Hc, ⟨Hx, Hcr⟩, Hat, HO, Hk⟩
  simp only [pSentX, Prog.lift]
  iapply (await (I := I) (K := K) (c := c) (sx d k) (r := 0) (n := 50) (a := (xSq d k h8).view.dmaCredit) (semOf_sx d k h8).symm (by decide)
    (Nat.zero_le _) (by omega)
    (by rw [duts_x false d k hk, credit_x, Finset.card_singleton, Nat.one_mul]; rfl)
    (wpE_waitDma2_eq 𝒱₀ (c : Thread nD τ) none Set.univ))
  rw [duts_x false d k hk, bigSep_singleton, pay_sx I c d k h8, credit_x]
  isplitr; · iexact Hc
  isplitl [Hcr]; · iexact Hcr
  isplitl [HO]; · iexact HO
  isplitl [Hat]; · iexact Hat
  iintro ⟨HO, Hat, -, Hp⟩
  iapply (done c)
  iapply Hk
  isplitl [Hx Hp]
  · iapply (own_owned c _ (xval I d k c))
    iapply (own_join c _ (xval I d k c) (xval I d k c))
    isplitl [Hx]; · iexact Hx
    iexact Hp
  isplitl [Hat]; · iexact Hat
  iexact HO

/-- `k` departures are known to be over. -/
def sentState (d : Bool) (k : ℕ) : sProp 𝕄 :=
  iprop((bigSep (Finset.Ico k 7) fun k => iprop(away I c d k ∗ atPos ER (cell c (sx d k)) 0 ∅ 0))
    ∗ (bigSep (Finset.Ico 0 k) fun k => iprop(owned (F := F) c (xSl d (k % 8) (Nat.mod_lt _ (by decide))) ∗ atPos ER (cell c (sx d k)) 1 ∅ 0)))

theorem sents (k : ℕ) (hk : k < 7) {Q : PUnit → sProp 𝕄} :
    iprop(ctx I K c ∗ sentState (I := I) c false k ∗ sentState (I := I) c true k ∗ debt c 50
        ∗ (sentState (I := I) c false (k + 1) ∗ sentState (I := I) c true (k + 1) ∗ debt c 50 -∗ Q ⟨⟩))
      ⊢ run c (pSents (F := F) k hk) Q := by
  unfold sentState pSents
  simp only [bigSep_Ico_succ_bot hk, bigSep_Ico_succ_top (Nat.zero_le k)]
  iintro ⟨#Hc, ⟨⟨⟨Ha1, Hp1⟩, Hr1⟩, Hd1⟩, ⟨⟨⟨Ha2, Hp2⟩, Hr2⟩, Hd2⟩, HO, Hk⟩
  iapply (seq c)
  iapply (sentX c false k hk)
  isplitr; · iexact Hc
  isplitl [Ha1]; · iexact Ha1
  isplitl [Hp1]; · iexact Hp1
  isplitl [HO]; · iexact HO
  iintro ⟨Ha1, Hp1, HO⟩
  iapply (sentX c true k hk)
  isplitr; · iexact Hc
  isplitl [Ha2]; · iexact Ha2
  isplitl [Hp2]; · iexact Hp2
  isplitl [HO]; · iexact HO
  iintro ⟨Ha2, Hp2, HO⟩
  iapply Hk
  isplitl [Ha1 Hp1 Hr1 Hd1]
  · isplitl [Hr1]; · iexact Hr1
    isplitl [Ha1 Hp1]
    · isplitl [Ha1]; · iexact Ha1
      iexact Hp1
    iexact Hd1
  isplitl [Ha2 Hp2 Hr2 Hd2]
  · isplitl [Hr2]; · iexact Hr2
    isplitl [Ha2 Hp2]
    · isplitl [Ha2]; · iexact Ha2
      iexact Hp2
    iexact Hd2
  iexact HO

end Cert.Proof.Ring

end
-- ==== Proof.Body.lean ====
/- The whole body of the kernel on one device: from the rights it starts with to the result, with all semaphores closed. -/
module

public import proofs.«01_k».proof.Proof.Steps

@[expose] public section

noncomputable section

namespace Cert.Proof.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F] (I : Inp F) (c : Dev nD)

local notation "𝕄" => MT nD τ sig ℕ (Elt F) ℕ UU ℕ

/-! ## Families over all semaphores of a device -/

theorem over8 (Φ : Fin 8 → sProp 𝕄) : bigSep Finset.univ Φ = bigSep (Finset.Ico 0 8) fun k => Φ (f8 k) := by
  rw [show Finset.Ico 0 8 = (Finset.univ : Finset (Fin 8)).map Fin.valEmbedding from by decide, bigSep_map]
  exact bigSep_congr fun k _ => congrArg Φ (Fin.ext (Nat.mod_eq_of_lt k.isLt).symm)

theorem over_bool (Φ : Bool → sProp 𝕄) : bigSep Finset.univ Φ = iprop(Φ false ∗ Φ true) := by
  rw [show (Finset.univ : Finset Bool) = {false, true} from by decide, bigSep_insert (by decide), bigSep_singleton]
  rfl

/-- The eight semaphores of an array. -/
def row (Φ : Own → sProp 𝕄) (q p d : Bool) : sProp 𝕄 := bigSep (Finset.Ico 0 8) fun k => Φ (.inr (q, p, d, f8 k))

theorem over_own (Φ : Own → sProp 𝕄) : bigSep Finset.univ Φ
    = iprop((Φ (.inl false) ∗ Φ (.inl true))
        ∗ ((row Φ false false false ∗ row Φ false false true) ∗ (row Φ false true false ∗ row Φ false true true))
        ∗ ((row Φ true false false ∗ row Φ true false true) ∗ (row Φ true true false ∗ row Φ true true true))) := by
  unfold row
  rw [bigSep_univ_sum, over_bool, bigSep_univ_prod, over_bool]
  simp only [bigSep_univ_prod, over_bool, over8]
  rfl

/-! ## The rights a device starts with -/

/-- In a direction. -/
def startD (d : Bool) : sProp 𝕄 :=
  iprop((bigSep (Finset.Ico 0 7) fun k => toSend (F := F) c d k) ∗ (bigSep (Finset.Ico 0 7) fun k => cred (tallyAt (cell c (rx d k)) 0 N))
    ∗ (bigSep (Finset.Ico 0 8) fun h => iprop(dutyTok ER (cell c (sa d h)) 0 false ∗ dutyTok ER (cell (dst d c) (ra d h)) 0 false
        ∗ cred (tallyAt (cell c (ra d h)) 0 N)))
    ∗ (bigSep (Finset.Ico 0 7) fun k => toGive (F := F) c d k) ∗ (bigSep (Finset.Ico 0 7) fun k => toTake (F := F) c d k))

def start : sProp 𝕄 :=
  iprop((bigSep Finset.univ fun o : Own => atPos ER (cell c (some o)) 0 ∅ 0) ∗ atPos ER (cell c kBar) 0 ∅ 0
    ∗ (dutyTok ER (cell (dst true c) kBar) 0 false ∗ dutyTok ER (cell (dst false c) kBar) 0 true)
    ∗ cred (tallyAt (cell c kBar) 0 2) ∗ startD c false ∗ startD c true)

/-- The slots of a direction. -/
def slots (d : Bool) : sProp 𝕄 :=
  iprop((bigSep (Finset.Ico 0 8) fun k => owned (F := F) c (xSl d (k % 8) (Nat.mod_lt _ (by decide))))
    ∗ owned c (aSl d 0 (by decide)) ∗ owned c (aSl d 1 (by decide)))

theorem slot_zero (d : Bool) : (bigSep (Finset.Ico 0 8) fun k => owned (F := F) c (xSl d (k % 8) (Nat.mod_lt _ (by decide))))
    = iprop(owned (F := F) c (xSl d 0 (by decide)) ∗ bigSep (Finset.Ico 0 7) fun k => owned (F := F) c (xSl d ((k + 1) % 8) (Nat.mod_lt _ (by decide)))) := by
  rw [bigSep_Ico_succ_bot (by decide), show Finset.Ico (0 + 1) 8 = (Finset.Ico 0 7).map (addRightEmbedding 1) from by decide, bigSep_map]
  rfl

/-- Up to which round a semaphore has been followed in the end. -/
def lastR : Own → ℕ
  | .inl _ => 7
  | .inr (q, p, d, k) => if q = true ∨ k.val < 7 then 1 else 0

variable {I} {K : GSem nD τ sig → ℕ}

theorem duts_last (o : Own) (r : ℕ) (h : lastR o ≤ r) : duts (some o) r = ∅ := by
  rcases o with d | ⟨q, p, d, k⟩
  · exact if_neg (Nat.not_lt.mpr h)
  · refine if_neg ?_
    rintro ⟨rfl, hk⟩
    have e : lastR (.inr (q, p, d, k)) = 1 := if_pos hk
    omega

/-- A semaphore whose rounds are over is closed: its counter is zero. -/
theorem close_one (k : Kd) (R : ℕ) (hR : ∀ r, R ≤ r → duts k r = ∅) :
    iprop(ctx I K c ∗ atPos ER (cell c k) R ∅ 0) ⊢ iprop(|={Set.univ}=> semVal (cell c k) 0) := by
  iintro ⟨#Hc, Hat⟩
  ihave #HI := (ctx_inv c k) $$ Hc
  iapply (Rounds.cell_close ER (Rd I) (g := cell c k) (κ := K (cell c k)) (Set.mem_univ _) id (R := R)
    (fun r h => by rw [Rd_duties]; exact hR r h))
  isplitr; · iexact HI
  iexact Hat

theorem close_own : iprop(ctx I K c ∗ bigSep Finset.univ fun o : Own => atPos ER (cell c (some o)) (lastR o) ∅ 0)
    ⊢ iprop(|={Set.univ}=> bigSep Finset.univ fun o : Own => semVal (cell c (some o)) 0) := by
  have h1 := bigSep_with_persistent (R := ctx I K c) (S := (Finset.univ : Finset Own))
    (Φ := fun o => atPos ER (cell c (some o)) (lastR o) ∅ 0) (Ψ := fun o => iprop(|={Set.univ}=> semVal (cell c (some o)) 0))
    (fun o _ => close_one c (some o) (lastR o) (duts_last o))
  exact h1.trans (bigSep_fupd _ _)

/-! ## Start and end -/

theorem mk_places (d : Bool) : iprop(ctx I K c ∗ (bigSep (Finset.Ico 0 7) fun k => owned (F := F) c (xSl d ((k + 1) % 8) (Nat.mod_lt _ (by decide))))
      ∗ owned c (aSl d 1 (by decide))) ⊢ places d c := by
  unfold places
  iintro ⟨#Hc, Hx, Ha⟩
  isplitl [Hx]
  · have h := bigSep_with_persistent (R := ctx I K c) (S := Finset.Ico 0 7)
      (Φ := fun k => owned (F := F) c (xSl d ((k + 1) % 8) (Nat.mod_lt _ (by decide))))
      (Ψ := fun k => iprop(owned (F := F) c (xSl d ((k + 1) % 8) (Nat.mod_lt _ (by decide))) ∗ reached ER (cell c (rx d k)) 0))
      (fun k _ => by
        iintro ⟨#Hc, H⟩
        isplitl [H]; · iexact H
        iapply (ctx_own (I := I) (K := K) (c := c) (.inr (false, true, d, f8 k))); iexact Hc)
    iapply h
    isplitr; · iexact Hc
    iexact Hx
  isplitl [Ha]; · iexact Ha
  have h := bigSep_with_persistent (R := ctx I K c) (S := Finset.Ico 0 8) (Φ := fun _ => (BI.emp : sProp 𝕄)) (Ψ := fun h => reached ER (cell c (ra d h)) 0)
      (fun k _ => by
        iintro ⟨#Hc, -⟩
        iapply (ctx_own (I := I) (K := K) (c := c) (.inr (true, true, d, f8 k))); iexact Hc)
  rw [bigSep_emp_const] at h
  iapply h
  isplitr; · iexact Hc
  iempintro

/-- From the rights and the neighbour's places to the state before the first step. -/
theorem mk_state (d : Bool) :
    iprop(ctx I K c ∗ startD c d ∗ places d (dst d c) ∗ atPos ER (cell c (kCr d)) 0 ∅ 0
      ∗ (bigSep (Finset.Ico 0 7) fun k => atPos ER (cell c (rx d k)) 0 ∅ 0)
      ∗ row (fun o => atPos ER (cell c (some o)) 0 ∅ 0) true false d ∗ row (fun o => atPos ER (cell c (some o)) 0 ∅ 0) true true d)
    ⊢ iprop(xState I c d 0 0 ∗ aState c d 0 0 ∗ room c d 0) := by
  unfold startD places xState aState room toRecv toSum place row
  simp only [Finset.Ico_self, bigSep_empty, bigSep_sep']
  iintro ⟨#Hc, ⟨Hts, Hcx, ⟨Hsa, Hra, Hca⟩, Htg, Htt⟩, ⟨⟨Hpx, Hprx⟩, Hpa, Hpra⟩, Hcr, Harx, Hasa, Hara⟩
  isplitl [Hts Hcx Hpx Hprx Harx]
  · isplitl [Hts]; · iexact Hts
    isplitl [Hpx Hprx]
    · isplitl [Hpx]; · iexact Hpx
      iexact Hprx
    isplitl [Hcx Harx]
    · isplitl [Harx]; · iexact Harx
      iexact Hcx
    isplitr; · iempintro
    iempintro
  isplitr [Hpa]
  · isplitl [Hsa Hra Hca Hpra Hasa Hara]
    · isplitl [Hsa]; · iexact Hsa
      isplitl [Hra]; · iexact Hra
      isplitl [Hpra]; · iexact Hpra
      isplitl [Hasa]; · iexact Hasa
      isplitl [Hara]; · iexact Hara
      iexact Hca
    isplitl [Htg]; · iexact Htg
    isplitl [Htt]; · iexact Htt
    isplitl [Hcr]; · iexact Hcr
    isplitr
    · iapply (ctx_own (I := I) (K := K) (c := c) (.inl d)); iexact Hc
    iempintro
  iexact Hpa

/-- The rendezvous: each neighbour gets this device's places for what it sends, and gives its own. -/
theorem barrier {Q : PUnit → sProp 𝕄} :
    iprop(ctx I K c ∗ (dutyTok ER (cell (dst true c) kBar) 0 false ∗ dutyTok ER (cell (dst false c) kBar) 0 true)
        ∗ places false c ∗ places true c ∗ cred (tallyAt (cell c kBar) 0 2) ∗ atPos ER (cell c kBar) 0 ∅ 0 ∗ debt c 0
        ∗ (places false (dst false c) ∗ places true (dst true c) ∗ atPos ER (cell c kBar) 1 ∅ 0 ∗ debt c 2 -∗ Q ⟨⟩))
      ⊢ run c (pBarrier (F := F) c) Q := by
  iintro ⟨#Hc, ⟨Ht1, Ht2⟩, Hp1, Hp2, Hcr, Hat, HO, Hk⟩
  simp only [pBarrier, semSignalWord, semWaitWord, Prog.bind_op, Prog.bind_ret]
  iapply (signal (I := I) (K := K) (c := c) (k := kBar) (r := 0) (n := 0) (t := true) (b := false)
    (s := (SemArray.scalar (sig.barrier 0 rfl) : Sems sig S_).sem) rfl (by omega) rfl (by decide) rfl)
  isplitr; · iexact Hc
  isplitl [HO]; · iexact HO
  isplitl [Ht1]; · iexact Ht1
  isplitl [Hp1]
  · have e : pay I (dst true c) kBar 0 false = places false c := by
      have := dst_dst_not false c
      exact congrArg (places false) this
    iapply (Entails.of_eq e.symm); iexact Hp1
  isplitr; · iapply (ctx_bar true); iexact Hc
  iintro HO
  iapply (signal (I := I) (K := K) (c := c) (k := kBar) (r := 0) (n := 1) (t := false) (b := true)
    (s := (SemArray.scalar (sig.barrier 0 rfl) : Sems sig S_).sem) rfl (by omega) rfl (by decide) rfl)
  isplitr; · iexact Hc
  isplitl [HO]; · iexact HO
  isplitl [Ht2]; · iexact Ht2
  isplitl [Hp2]
  · have e : pay I (dst false c) kBar 0 true = places true c := by
      have := dst_dst_not true c
      exact congrArg (places true) this
    iapply (Entails.of_eq e.symm); iexact Hp2
  isplitr; · iapply (ctx_bar false); iexact Hc
  iintro HO
  iapply (await (I := I) (K := K) (c := c) kBar (r := 0) (n := 2) (a := 2) rfl (by decide)
    (by decide) (by omega) (by decide)
    (wpE_semWait_eq 𝒱₀ (c : Thread nD τ) none Set.univ))
  isplitr; · iexact Hc
  isplitl [Hcr]; · iexact Hcr
  isplitl [HO]; · iexact HO
  isplitl [Hat]; · iexact Hat
  rw [show duts kBar 0 = Finset.univ from by decide, over_bool]
  iintro ⟨HO, Hat, -, Hp1, Hp2⟩
  iapply (done c)
  iapply Hk
  have e (d : Bool) : pay I c kBar 0 d = places d (dst d c) := rfl
  isplitl [Hp1]; · iapply (Entails.of_eq (e false)); iexact Hp1
  isplitl [Hp2]; · iapply (Entails.of_eq (e true)); iexact Hp2
  isplitl [Hat]; · iexact Hat
  iexact HO

/-- The parts that neither send nor wait, before the first step of the ring. -/
theorem headline {rest : PK F} {Q : PUnit → sProp 𝕄} :
    iprop(ctx I K c ∗ (dutyTok ER (cell (dst true c) kBar) 0 false ∗ dutyTok ER (cell (dst false c) kBar) 0 true)
        ∗ slots c false ∗ slots c true ∗ cred (tallyAt (cell c kBar) 0 2) ∗ atPos ER (cell c kBar) 0 ∅ 0 ∗ debt c 0
        ∗ own c gX fullShare (I.x c) ∗ locals I c
        ∗ (places false (dst false c) ∗ places true (dst true c) -∗
            xState I c false 0 0 ∗ aState c false 0 0 ∗ room c false 0 ∗ xState I c true 0 0 ∗ aState c true 0 0 ∗ room c true 0)
        ∗ (state I c 0 0 ∗ room c false 0 ∗ room c true 0 ∗ own c gX fullShare (I.x c) ∗ atPos ER (cell c kBar) 1 ∅ 0 -∗ run c rest Q))
      ⊢ run c (pHeadline (F := F) c >>= fun _ => rest) Q := by
  unfold slots locals
  rw [slot_zero, slot_zero]
  iintro ⟨#Hc, Htk, ⟨⟨Hz1, Hx1⟩, Ha1, Hb1⟩, ⟨⟨Hz2, Hx2⟩, Ha2, Hb2⟩, Hcr, Hat, HO, HX, ⟨Hcon, Hscr, HD⟩, Hmk, Hk⟩
  unfold pHeadline
  iapply (seq c)
  iapply (seq c)
  iapply (barrier (I := I) (K := K) c)
  isplitr; · iexact Hc
  isplitl [Htk]; · iexact Htk
  isplitl [Hx1 Hb1]
  · iapply (mk_places (I := I) (K := K) c false)
    isplitr; · iexact Hc
    isplitl [Hx1]; · iexact Hx1
    iexact Hb1
  isplitl [Hx2 Hb2]
  · iapply (mk_places (I := I) (K := K) c true)
    isplitr; · iexact Hc
    isplitl [Hx2]; · iexact Hx2
    iexact Hb2
  isplitl [Hcr]; · iexact Hcr
  isplitl [Hat]; · iexact Hat
  isplitl [HO]; · iexact HO
  iintro ⟨Hp1, Hp2, Hat, HO⟩
  ihave Hmk := Hmk $$ [Hp1 Hp2]
  · isplitl [Hp1]; · iexact Hp1
    iexact Hp2
  icases Hmk with ⟨HX1, HA1, Hr1, HX2, HA2, Hr2⟩
  iapply (seq c)
  iapply (init c false)
  isplitl [HX]; · iexact HX
  isplitl [Hz1]; · iexact Hz1
  iintro ⟨HX, Hz1⟩
  iapply (seq c)
  iapply (init c true)
  isplitl [HX]; · iexact HX
  isplitl [Hz2]; · iexact Hz2
  iintro ⟨HX, Hz2⟩
  iapply (seq c)
  iapply (sendX c false 0 _ (n := 2) (by omega) rfl)
  isplitr; · iexact Hc
  isplitl [Hz1]; · iexact Hz1
  isplitl [HX1]; · iexact HX1
  isplitl [HO]; · iexact HO
  iintro ⟨HX1, HO⟩
  iapply (seq c)
  iapply (sendX c true 0 _ (n := 3) (by omega) rfl)
  isplitr; · iexact Hc
  isplitl [Hz2]; · iexact Hz2
  isplitl [HX2]; · iexact HX2
  isplitl [HO]; · iexact HO
  iintro ⟨HX2, HO⟩
  ihave HX1 := (xState_slot c false 0 0 (by omega)) $$ HX1
  icases HX1 with ⟨Hz1, HX1⟩
  ihave HX2 := (xState_slot c true 0 0 (by omega)) $$ HX2
  icases HX2 with ⟨Hz2, HX2⟩
  iapply (seq c)
  iapply (part c (PosShare.left fullShare) 0 _)
  isplitl [Hz1]; · iexact Hz1
  isplitl [Hz2]; · iexact Hz2
  isplitl [Hcon]; · iexact Hcon
  isplitl [Hscr]; · iexact Hscr
  isplitl [HD]; · iexact HD
  iintro ⟨Hz1, Hz2, Hcon, Hscr, HD⟩
  iapply (seq c)
  iapply (first c false)
  isplitl [HD]; · iexact HD
  isplitl [Ha1]; · iexact Ha1
  iintro ⟨HD, Ha1⟩
  iapply (first c true)
  isplitl [HD]; · iexact HD
  isplitl [Ha2]; · iexact Ha2
  iintro ⟨HD, Ha2⟩
  iapply Hk
  unfold state sums locals
  isplitr [Hr1 Hr2 HX Hat]
  · isplitl [HX1 Hz1]; · iapply HX1; iexact Hz1
    isplitl [HX2 Hz2]; · iapply HX2; iexact Hz2
    isplitl [HA1]; · iexact HA1
    isplitl [HA2]; · iexact HA2
    isplitl [Ha1]; · iexact Ha1
    isplitl [Ha2]; · iexact Ha2
    isplitr [HO]
    · isplitl [Hcon]; · iexact Hcon
      isplitl [Hscr]; · iexact Hscr
      iapply (own_owned c gD); iexact HD
    iexact HO
  isplitl [Hr1]; · iexact Hr1
  isplitl [Hr2]; · iexact Hr2
  isplitl [HX]; · iexact HX
  iexact Hat

/-- All places of `x` are whole again. -/
theorem slots_back (d : Bool) :
    iprop((bigSep (Finset.Ico 0 7) fun k => owned (F := F) c (xSl d (k % 8) (Nat.mod_lt _ (by decide)))) ∗ owned (F := F) c (xSl d 7 (by decide))
      ∗ owned c (aSl d 0 (by decide)) ∗ owned c (aSl d 1 (by decide))) ⊢ slots c d := by
  unfold slots
  rw [bigSep_Ico_succ_top (by decide : 0 ≤ 7)]
  iintro ⟨H1, H2, H3, H4⟩
  isplitl [H1 H2]
  · isplitl [H2]; · iexact H2
    iexact H1
  isplitl [H3]; · iexact H3
  iexact H4

/-- What a device holds in the end, besides its buffers. -/
def closed : sProp 𝕄 :=
  iprop((bigSep Finset.univ fun o : Own => semVal (cell c (some o)) 0) ∗ semVal (cell c kBar) 0 ∗ debt c 50)

/-- The positions of a direction's transfers in the end. -/
theorem end_x (d : Bool) : iprop(xState I c d 7 7 ∗ bigSep (Finset.Ico 0 7) fun k => atPos ER (cell c (sx d k)) 0 ∅ 0)
    ⊢ iprop(sentState (I := I) c d 0 ∗ bigSep (Finset.Ico 0 7) fun k => atPos ER (cell c (rx d k)) 1 ∅ 0) := by
  unfold xState sentState
  simp only [Finset.Ico_self, bigSep_empty, bigSep_sep']
  iintro ⟨⟨-, -, -, Ha, Hr⟩, Hs⟩
  isplitr [Hr]
  · isplitl [Ha Hs]
    · isplitl [Ha]; · iexact Ha
      iexact Hs
    isplitr; · iempintro
    iempintro
  iexact Hr

theorem row_x (p d : Bool) : iprop((bigSep (Finset.Ico 0 7) fun k => atPos ER (cell c (kDm false p d (f8 k))) 1 ∅ 0)
      ∗ (atPos ER (cell c (kDm false p d (f8 7))) 0 ∅ 0 : sProp 𝕄))
    ⊢ row (F := F) (fun o => atPos ER (cell c (some o)) (lastR o) ∅ 0) false p d := by
  unfold row
  rw [bigSep_Ico_succ_top (by decide : 0 ≤ 7)]
  have e : (bigSep (Finset.Ico 0 7) fun k => atPos ER (cell c (some (.inr (false, p, d, f8 k)))) (lastR (.inr (false, p, d, f8 k))) ∅ 0 : sProp 𝕄)
      = bigSep (Finset.Ico 0 7) fun k => atPos ER (cell c (kDm false p d (f8 k))) 1 ∅ 0 :=
    bigSep_congr fun k hk => by
      have h7 : k < 7 := (Finset.mem_Ico.mp hk).2
      rw [show lastR (.inr (false, p, d, f8 k)) = 1 from if_pos (.inr (by rw [f8_eq (by omega)]; exact h7))]
  rw [e]
  iintro ⟨H1, H2⟩
  isplitl [H2]; · iexact H2
  iexact H1

theorem row_a (d : Bool) (t : ℕ) : aState (F := F) c d 8 t
    ⊢ iprop(atPos ER (cell c (kCr d)) t ∅ 0 ∗ row (F := F) (fun o => atPos ER (cell c (some o)) (lastR o) ∅ 0) true false d
      ∗ row (F := F) (fun o => atPos ER (cell c (some o)) (lastR o) ∅ 0) true true d) := by
  unfold aState summed row
  simp only [bigSep_sep']
  iintro ⟨-, -, -, H, -, Hs, Hr⟩
  isplitl [H]; · iexact H
  isplitl [Hs]; · iexact Hs
  iexact Hr

/-- All semaphores closed, from the positions they have in the end. -/
theorem close_all : iprop(ctx I K c ∗ atPos ER (cell c kBar) 1 ∅ 0 ∗ aState c false 8 7 ∗ aState c true 8 7
      ∗ row (F := F) (fun o => atPos ER (cell c (some o)) (lastR o) ∅ 0) false false false
      ∗ row (F := F) (fun o => atPos ER (cell c (some o)) (lastR o) ∅ 0) false false true
      ∗ row (F := F) (fun o => atPos ER (cell c (some o)) (lastR o) ∅ 0) false true false
      ∗ row (F := F) (fun o => atPos ER (cell c (some o)) (lastR o) ∅ 0) false true true
      ∗ debt c 50) ⊢ iprop(|={Set.univ}=> closed (F := F) c) := by
  unfold closed
  iintro ⟨#Hc, Hb, HA1, HA2, H1, H2, H3, H4, HO⟩
  ihave HA1 := (row_a c false 7) $$ HA1
  icases HA1 with ⟨Hc1, Hs1, Hr1⟩
  ihave HA2 := (row_a c true 7) $$ HA2
  icases HA2 with ⟨Hc2, Hs2, Hr2⟩
  imod (close_one (I := I) (K := K) c kBar 1 (fun r h => if_neg (by omega))) $$ [Hb] with Hb
  · isplitr; · iexact Hc
    iexact Hb
  imod (close_own (I := I) (K := K) c) $$ [Hc1 Hc2 Hs1 Hr1 Hs2 Hr2 H1 H2 H3 H4] with Hw
  · isplitr; · iexact Hc
    iapply (Entails.of_eq (over_own (fun o : Own => atPos ER (cell c (some o)) (lastR o) ∅ 0)).symm)
    isplitl [Hc1 Hc2]
    · isplitl [Hc1]; · iexact Hc1
      iexact Hc2
    isplitl [H1 H2 H3 H4]
    · isplitl [H1 H2]
      · isplitl [H1]; · iexact H1
        iexact H2
      isplitl [H3]; · iexact H3
      iexact H4
    isplitl [Hs1 Hs2]
    · isplitl [Hs1]; · iexact Hs1
      iexact Hs2
    isplitl [Hr1]; · iexact Hr1
    iexact Hr2
  imodintro
  isplitl [Hw]; · iexact Hw
  isplitl [Hb]; · iexact Hb
  iexact HO

theorem sent_then (k : ℕ) (hk : k < 7) {rest : PK F} {Q : PUnit → sProp 𝕄} :
    iprop(ctx I K c ∗ (sentState (I := I) c false k ∗ sentState (I := I) c true k ∗ debt c 50)
        ∗ (sentState (I := I) c false (k + 1) ∗ sentState (I := I) c true (k + 1) ∗ debt c 50 -∗ run c rest Q))
      ⊢ run c (pSents (F := F) k hk >>= fun _ => rest) Q := by
  iintro ⟨#Hc, ⟨H1, H2, HO⟩, Hk⟩
  iapply (seq c)
  iapply (sents (I := I) (K := K) c k hk)
  isplitr; · iexact Hc
  isplitl [H1]; · iexact H1
  isplitl [H2]; · iexact H2
  isplitl [HO]; · iexact HO
  iexact Hk

/-- The first positions of a row of `x`: the last semaphore is never used. -/
theorem row_split (p d : Bool) : row (F := F) (fun o => atPos ER (cell c (some o)) 0 ∅ 0) false p d
    ⊢ iprop((bigSep (Finset.Ico 0 7) fun k => atPos ER (cell c (kDm false p d (f8 k))) 0 ∅ 0)
      ∗ atPos ER (cell c (kDm false p d (f8 7))) 0 ∅ 0) := by
  unfold row
  rw [bigSep_Ico_succ_top (by decide : 0 ≤ 7)]
  iintro ⟨H1, H2⟩
  isplitl [H2]; · iexact H2
  iexact H1

/-- The steps of the ring, from the first one on. -/
theorem steps {Q : PUnit → sProp 𝕄} :
    iprop(ctx I K c ∗ state I c 0 0 ∗ room c false 0 ∗ room c true 0
        ∗ (bigSep (Finset.Ico 0 7) fun k => atPos ER (cell c (sx false k)) 0 ∅ 0)
        ∗ (bigSep (Finset.Ico 0 7) fun k => atPos ER (cell c (sx true k)) 0 ∅ 0)
        ∗ (sentState (I := I) c false 7 ∗ sentState (I := I) c true 7
            ∗ (bigSep (Finset.Ico 0 7) fun k => atPos ER (cell c (rx false k)) 1 ∅ 0)
            ∗ (bigSep (Finset.Ico 0 7) fun k => atPos ER (cell c (rx true k)) 1 ∅ 0)
            ∗ owned c (xSl false 7 (by decide)) ∗ owned c (xSl true 7 (by decide)) ∗ locals I c
            ∗ aState c false 8 7 ∗ aState c true 8 7
            ∗ own c (aSl false 0 (by decide)) fullShare (aval I false 7 (dst true c)) ∗ owned c (aSl false 1 (by decide))
            ∗ own c (aSl true 0 (by decide)) fullShare (aval I true 7 (dst false c)) ∗ owned c (aSl true 1 (by decide))
            ∗ debt c 50 -∗ Q ⟨⟩))
      ⊢ run c (do
        pX (F := F) c 0 (by omega)
        pA c 0 (by omega)
        pX c 1 (by omega); pTakeCr
        pA c 1 (by omega)
        pX c 2 (by omega); pTakeCr
        pA c 2 (by omega)
        pX c 3 (by omega); pTakeCr
        pA c 3 (by omega)
        pX c 4 (by omega); pTakeCr
        pA c 4 (by omega)
        pX c 5 (by omega); pTakeCr
        pA c 5 (by omega)
        pRecvX false 6 (by omega)
        pRecvX true 6 (by omega); pTakeCr
        pA c 6 (by omega)
        pTail c
        pSents 0 (by omega)
        pSents 1 (by omega)
        pSents 2 (by omega)
        pSents 3 (by omega)
        pSents 4 (by omega)
        pSents 5 (by omega)
        pSents 6 (by omega)) Q := by
  iintro ⟨#Hc, HS, Hr1, Hr2, Hp1, Hp2, Hk⟩
  iapply (round0 (I := I) (K := K) c)
  isplitr; · iexact Hc
  isplitl [HS]; · iexact HS
  isplitl [Hr1]; · iexact Hr1
  isplitl [Hr2]; · iexact Hr2
  iintro HS
  iapply (round (I := I) (K := K) c 0 (by omega))
  isplitr; · iexact Hc
  isplitl [HS]; · iexact HS
  iintro HS
  iapply (round (I := I) (K := K) c 1 (by omega))
  isplitr; · iexact Hc
  isplitl [HS]; · iexact HS
  iintro HS
  iapply (round (I := I) (K := K) c 2 (by omega))
  isplitr; · iexact Hc
  isplitl [HS]; · iexact HS
  iintro HS
  iapply (round (I := I) (K := K) c 3 (by omega))
  isplitr; · iexact Hc
  isplitl [HS]; · iexact HS
  iintro HS
  iapply (round (I := I) (K := K) c 4 (by omega))
  isplitr; · iexact Hc
  isplitl [HS]; · iexact HS
  iintro HS
  iapply (round6 (I := I) (K := K) c)
  isplitr; · iexact Hc
  isplitl [HS]; · iexact HS
  unfold late
  iintro ⟨⟨HX1, HX2, Hl1, Hl2, Hloc⟩, HA1, HA2, Hs1, Hs2, HO⟩
  ihave HX1 := (end_x (I := I) c false) $$ [HX1 Hp1]
  · isplitl [HX1]; · iexact HX1
    iexact Hp1
  icases HX1 with ⟨HX1, Hq1⟩
  ihave HX2 := (end_x (I := I) c true) $$ [HX2 Hp2]
  · isplitl [HX2]; · iexact HX2
    iexact Hp2
  icases HX2 with ⟨HX2, Hq2⟩
  iapply (seq c)
  iapply (tail (I := I) (K := K) c)
  isplitr; · iexact Hc
  isplitl [HA1]; · iexact HA1
  isplitl [HA2]; · iexact HA2
  isplitl [Hs1]; · iexact Hs1
  isplitl [Hs2]; · iexact Hs2
  isplitl [HO]; · iexact HO
  iintro ⟨HA1, HA2, Ha1, Hb1, Ha2, Hb2, HO⟩
  iapply (sent_then (I := I) (K := K) c 0 _)
  isplitr; · iexact Hc
  isplitl [HX1 HX2 HO]; · isplitl [HX1]; · iexact HX1
                          isplitl [HX2]; · iexact HX2
                          iexact HO
  iintro HX
  iapply (sent_then (I := I) (K := K) c 1 _)
  isplitr; · iexact Hc
  isplitl [HX]; · iexact HX
  iintro HX
  iapply (sent_then (I := I) (K := K) c 2 _)
  isplitr; · iexact Hc
  isplitl [HX]; · iexact HX
  iintro HX
  iapply (sent_then (I := I) (K := K) c 3 _)
  isplitr; · iexact Hc
  isplitl [HX]; · iexact HX
  iintro HX
  iapply (sent_then (I := I) (K := K) c 4 _)
  isplitr; · iexact Hc
  isplitl [HX]; · iexact HX
  iintro HX
  iapply (sent_then (I := I) (K := K) c 5 _)
  isplitr; · iexact Hc
  isplitl [HX]; · iexact HX
  iintro ⟨HX1, HX2, HO⟩
  iapply (sents (I := I) (K := K) c 6 _)
  isplitr; · iexact Hc
  isplitl [HX1]; · iexact HX1
  isplitl [HX2]; · iexact HX2
  isplitl [HO]; · iexact HO
  iintro ⟨HX1, HX2, HO⟩
  iapply Hk
  isplitl [HX1]; · iexact HX1
  isplitl [HX2]; · iexact HX2
  isplitl [Hq1]; · iexact Hq1
  isplitl [Hq2]; · iexact Hq2
  isplitl [Hl1]; · iexact Hl1
  isplitl [Hl2]; · iexact Hl2
  isplitl [Hloc]; · iexact Hloc
  isplitl [HA1]; · iexact HA1
  isplitl [HA2]; · iexact HA2
  isplitl [Ha1]; · iexact Ha1
  isplitl [Hb1]; · iexact Hb1
  isplitl [Ha2]; · iexact Ha2
  isplitl [Hb2]; · iexact Hb2
  iexact HO

theorem this_device {α : Type} {k : Dev nD → Prog (TpuEff nD τ sig (Elt F) Λ₀ .tc) α} {Q : α → sProp 𝕄} :
    run c (k c) Q ⊢ run c (.op .deviceId k) Q := by
  exact Entails.of_eq (Idealize.ShloMosaic.wp_deviceId 𝒱₀ (c : Thread nD τ) none Set.univ).symm

/-- The kernel's body on device `c`: it ends, its result is `oval`, and all its semaphores are closed. -/
theorem body {Q : PUnit → sProp 𝕄} :
    iprop(ctx I K c ∗ start c ∗ consts I c ∗ own c gX fullShare (I.x c) ∗ scratch c ∗ owned c gD ∗ owned c gOut
        ∗ slots c false ∗ slots c true ∗ debt c 0
        ∗ (closed c ∗ consts I c ∗ own c gX fullShare (I.x c) ∗ scratch c ∗ owned c gD ∗ own c gOut fullShare (oval I c)
            ∗ slots c false ∗ slots c true -∗ Q ⟨⟩))
      ⊢ run c (pBody (F := F)) Q := by
  unfold start
  rw [over_own]
  iintro ⟨#Hc, ⟨⟨⟨Hc1, Hc2⟩, ⟨⟨Hsx1, Hsx2⟩, Hrx1, Hrx2⟩, ⟨⟨Hsa1, Hsa2⟩, Hra1, Hra2⟩⟩, Hb, Htk, Hcr, HD1, HD2⟩, Hcon, HX, Hscr, HD, Hout, Hz1, Hz2, HO, Hk⟩
  ihave Hsx1 := (row_split (c := c) false false) $$ Hsx1
  icases Hsx1 with ⟨Hsx1, Ht1⟩
  ihave Hsx2 := (row_split (c := c) false true) $$ Hsx2
  icases Hsx2 with ⟨Hsx2, Ht2⟩
  ihave Hrx1 := (row_split (c := c) true false) $$ Hrx1
  icases Hrx1 with ⟨Hrx1, Ht3⟩
  ihave Hrx2 := (row_split (c := c) true true) $$ Hrx2
  icases Hrx2 with ⟨Hrx2, Ht4⟩
  unfold pBody
  iapply (seq c)
  unfold pCore
  simp only [Prog.lift, Prog.bind_op, Prog.bind_ret]
  iapply (this_device c)
  iapply (headline (I := I) (K := K) c)
  isplitr; · iexact Hc
  isplitl [Htk]; · iexact Htk
  isplitl [Hz1]; · iexact Hz1
  isplitl [Hz2]; · iexact Hz2
  isplitl [Hcr]; · iexact Hcr
  isplitl [Hb]; · iexact Hb
  isplitl [HO]; · iexact HO
  isplitl [HX]; · iexact HX
  isplitl [Hcon Hscr HD]
  · unfold locals
    isplitl [Hcon]; · iexact Hcon
    isplitl [Hscr]; · iexact Hscr
    iexact HD
  isplitl [HD1 HD2 Hc1 Hc2 Hrx1 Hrx2 Hsa1 Hsa2 Hra1 Hra2]
  · iintro ⟨Hp1, Hp2⟩
    ihave H1 := (mk_state (I := I) (K := K) c false) $$ [HD1 Hp1 Hc1 Hrx1 Hsa1 Hra1]
    · isplitr; · iexact Hc
      isplitl [HD1]; · iexact HD1
      isplitl [Hp1]; · iexact Hp1
      isplitl [Hc1]; · iexact Hc1
      isplitl [Hrx1]; · iexact Hrx1
      isplitl [Hsa1]; · iexact Hsa1
      iexact Hra1
    icases H1 with ⟨Hx1, Ha1, Hr1⟩
    isplitl [Hx1]; · iexact Hx1
    isplitl [Ha1]; · iexact Ha1
    isplitl [Hr1]; · iexact Hr1
    iapply (mk_state (I := I) (K := K) c true)
    isplitr; · iexact Hc
    isplitl [HD2]; · iexact HD2
    isplitl [Hp2]; · iexact Hp2
    isplitl [Hc2]; · iexact Hc2
    isplitl [Hrx2]; · iexact Hrx2
    isplitl [Hsa2]; · iexact Hsa2
    iexact Hra2
  iintro ⟨HS, Hr1, Hr2, HX, Hb⟩
  iapply (steps (I := I) (K := K) c)
  isplitr; · iexact Hc
  isplitl [HS]; · iexact HS
  isplitl [Hr1]; · iexact Hr1
  isplitl [Hr2]; · iexact Hr2
  isplitl [Hsx1]; · iexact Hsx1
  isplitl [Hsx2]; · iexact Hsx2
  unfold sentState
  simp only [Finset.Ico_self, bigSep_empty, bigSep_sep']
  iintro ⟨⟨-, Hz1, Hsx1⟩, ⟨-, Hz2, Hsx2⟩, Hrx1, Hrx2, Hl1, Hl2, Hloc, HA1, HA2, Ha1, Hb1, Ha2, Hb2, HO⟩
  imod (close_all (I := I) (K := K) c) $$ [Hb HA1 HA2 Hsx1 Hsx2 Hrx1 Hrx2 Ht1 Ht2 Ht3 Ht4 HO] with Hcl
  · isplitr; · iexact Hc
    isplitl [Hb]; · iexact Hb
    isplitl [HA1]; · iexact HA1
    isplitl [HA2]; · iexact HA2
    isplitl [Hsx1 Ht1]
    · iapply (row_x c false false)
      isplitl [Hsx1]; · iexact Hsx1
      iexact Ht1
    isplitl [Hsx2 Ht2]
    · iapply (row_x c false true)
      isplitl [Hsx2]; · iexact Hsx2
      iexact Ht2
    isplitl [Hrx1 Ht3]
    · iapply (row_x c true false)
      isplitl [Hrx1]; · iexact Hrx1
      iexact Ht3
    isplitl [Hrx2 Ht4]
    · iapply (row_x c true true)
      isplitl [Hrx2]; · iexact Hrx2
      iexact Ht4
    iexact HO
  unfold locals
  icases Hloc with ⟨Hcon, Hscr, HD⟩
  iapply (fin c)
  isplitl [Ha1]; · iexact Ha1
  isplitl [Ha2]; · iexact Ha2
  isplitl [Hout]; · iexact Hout
  iintro ⟨Ha1, Ha2, Hout⟩
  iapply Hk
  isplitl [Hcl]; · iexact Hcl
  isplitl [Hcon]; · iexact Hcon
  isplitl [HX]; · iexact HX
  isplitl [Hscr]; · iexact Hscr
  isplitl [HD]; · iexact HD
  isplitl [Hout]; · iexact Hout
  isplitl [Hz1 Hl1 Ha1 Hb1]
  · iapply (slots_back c false)
    isplitl [Hz1]; · iexact Hz1
    isplitl [Hl1]; · iexact Hl1
    isplitl [Ha1]; · iapply (own_owned c (aSl false 0 _)); iexact Ha1
    iexact Hb1
  iapply (slots_back c true)
  isplitl [Hz2]; · iexact Hz2
  isplitl [Hl2]; · iexact Hl2
  isplitl [Ha2]; · iapply (own_owned c (aSl true 0 _)); iexact Ha2
  iexact Hb2

end Cert.Proof.Ring

end
-- ==== Proof.Launch.lean ====
/- What the launch gives the devices: all semaphores ready for the rounds of the ring, and to every device the rights with
   which its kernel starts. -/
module

public import proofs.«01_k».proof.Proof.Body
public import Idealize.ShloMosaic.Lib.Quiescent

@[expose] public section

noncomputable section

namespace Cert.Proof.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F] (I : Inp F) (c : Dev nD)

local notation "𝕄" => MT nD τ sig ℕ (Elt F) ℕ UU ℕ

/-- A family over the first numbers. -/
theorem over_fin (n : ℕ) (Φ : ℕ → sProp 𝕄) : (bigSep Finset.univ fun k : Fin n => Φ k.val) = bigSep (Finset.Ico 0 n) Φ := by
  have e : Finset.Ico 0 n = (Finset.univ : Finset (Fin n)).map Fin.valEmbedding := by
    ext i
    simp only [Finset.mem_Ico, Nat.zero_le, true_and, Finset.mem_map, Finset.mem_univ, Fin.valEmbedding_apply]
    exact ⟨fun h => ⟨⟨i, h⟩, rfl⟩, fun ⟨k, hk⟩ => hk ▸ k.isLt⟩
  rw [e, bigSep_map]
  rfl

/-! ## The cells -/

def barEmb : Dev nD ↪ GSem nD τ sig := ⟨fun c => cell c kBar, fun _ _ h => (cell_inj h).1⟩
def ownEmb : Dev nD × Own ↪ GSem nD τ sig :=
  ⟨fun p => cell p.1 (some p.2), fun _ _ h => Prod.ext (cell_inj h).1 (Option.some.inj (cell_inj h).2)⟩

/-- The barriers. -/
abbrev barCells : Finset (GSem nD τ sig) := Finset.univ.map barEmb
/-- The semaphores that belong to the kernel. -/
abbrev ownCells : Finset (GSem nD τ sig) := Finset.univ.map ownEmb

theorem cells_disjoint : Disjoint barCells ownCells := by
  rw [Finset.disjoint_left]
  intro g h₁ h₂
  obtain ⟨c, -, rfl⟩ := Finset.mem_map.mp h₁
  obtain ⟨p, -, h⟩ := Finset.mem_map.mp h₂
  exact Option.some_ne_none _ (cell_inj h).2

theorem cell_mem (c : Dev nD) (k : Kd) : cell c k ∈ barCells ∪ ownCells := by
  cases k with
  | none => exact Finset.mem_union_left _ (Finset.mem_map_of_mem barEmb (Finset.mem_univ c))
  | some o => exact Finset.mem_union_right _ (Finset.mem_map_of_mem ownEmb (Finset.mem_univ (c, o)))

/-! ## The rights to pay -/

/-- All payments to the semaphores of a device: to the barrier; and in a direction the departures and arrivals of blocks,
    the departures and arrivals of running sums, and the credits. -/
abbrev TJ : Type := Bool ⊕ (Bool × ((Fin 7 × Bool) ⊕ ((Fin 8 × Bool) ⊕ Fin 7)))

instance : DecidableEq TJ := inferInstance

/-- The semaphore, the round and the name of a payment. -/
def tk : TJ → Kd × ℕ × Bool
  | .inl b => (kBar, 0, b)
  | .inr (d, .inl (k, p)) => (kDm false p d (f8 k.val), 0, false)
  | .inr (d, .inr (.inl (h, p))) => (kDm true p d (f8 h.val), 0, false)
  | .inr (d, .inr (.inr h)) => (kCr d, h.val, false)

theorem tk_inj : Function.Injective tk := by decide +kernel

def tokEmb : Dev nD × TJ ↪ GSem nD τ sig × ℕ × Bool :=
  ⟨fun p => (cell p.1 (tk p.2).1, (tk p.2).2), fun p q h => by
    obtain ⟨h₁, h₂⟩ := Prod.mk.inj (show (cell p.1 (tk p.2).1, (tk p.2).2) = (cell q.1 (tk q.2).1, (tk q.2).2) from h)
    exact Prod.ext (cell_inj h₁).1 (tk_inj (Prod.ext (cell_inj h₁).2 h₂))⟩

/-- All payments of the ring. -/
def ringToks : Finset (GSem nD τ sig × ℕ × Bool) := Finset.univ.map tokEmb

/-- Who makes a payment to device `c`, as the device this device pays. -/
def mv : TJ → (Dev nD ≃ Dev nD)
  | .inl b => ring (!b)
  | .inr (d, .inl (_, p)) => bif p then ring d else Equiv.refl _
  | .inr (d, .inr (.inl (_, p))) => bif p then ring d else Equiv.refl _
  | .inr (d, .inr (.inr _)) => ring (!d)

/-- The right to one payment. -/
abbrev tokAt (c : Dev nD) (j : TJ) : sProp 𝕄 := dutyTok ER (cell c (tk j).1) (tk j).2.1 (tk j).2.2

theorem swap (Φ : Dev nD → TJ → sProp 𝕄) : (bigSep Finset.univ fun c => bigSep Finset.univ fun j => Φ c j)
    = bigSep Finset.univ fun j => bigSep Finset.univ fun c => Φ c j :=
  calc (bigSep Finset.univ fun c => bigSep Finset.univ fun j => Φ c j)
      = bigSep Finset.univ fun p : Dev nD × TJ => Φ p.1 p.2 := (bigSep_univ_prod fun p : Dev nD × TJ => Φ p.1 p.2).symm
    _ = bigSep Finset.univ fun p : TJ × Dev nD => Φ p.2 p.1 :=
        bigSep_univ_equiv (Equiv.prodComm TJ (Dev nD)) fun p : Dev nD × TJ => Φ p.1 p.2
    _ = _ := bigSep_univ_prod fun p : TJ × Dev nD => Φ p.2 p.1

/-- Every right goes to the device that pays. -/
theorem toks_deal : bigSep ringToks (fun x => (dutyTok ER x.1 x.2.1 x.2.2 : sProp 𝕄))
    = bigSep Finset.univ fun c : Dev nD => bigSep Finset.univ fun j : TJ => tokAt (mv j c) j := by
  unfold ringToks
  rw [bigSep_map, bigSep_univ_prod]
  calc (bigSep Finset.univ fun c : Dev nD => bigSep Finset.univ fun j : TJ => (tokAt c j : sProp 𝕄))
      = bigSep Finset.univ fun j : TJ => bigSep Finset.univ fun c : Dev nD => tokAt c j := swap _
    _ = bigSep Finset.univ fun j : TJ => bigSep Finset.univ fun c : Dev nD => tokAt (mv j c) j :=
        bigSep_congr fun j _ => bigSep_univ_equiv (mv j) (fun c => (tokAt c j : sProp 𝕄))
    _ = _ := (swap fun c j => (tokAt (mv j c) j : sProp 𝕄)).symm

/-- The rights to pay of a direction. -/
def tokD (d : Bool) : sProp 𝕄 :=
  iprop((bigSep (Finset.Ico 0 7) fun k => toSend (F := F) c d k)
    ∗ (bigSep (Finset.Ico 0 8) fun h => iprop(dutyTok ER (cell c (sa d h)) 0 false ∗ dutyTok ER (cell (dst d c) (ra d h)) 0 false))
    ∗ (bigSep (Finset.Ico 0 7) fun k => toGive (F := F) c d k))

theorem toks_split : (bigSep Finset.univ fun j : TJ => (tokAt (mv j c) j : sProp 𝕄))
    = iprop((dutyTok ER (cell (dst true c) kBar) 0 false ∗ dutyTok ER (cell (dst false c) kBar) 0 true) ∗ tokD c false ∗ tokD c true) := by
  unfold tokD
  simp only [bigSep_univ_sum, bigSep_univ_prod, over_bool, ← over_fin]
  rfl

/-! ## The credits -/

/-- The waits of a device, each of one payment. -/
abbrev CJ : Type := Bool ⊕ (Bool × (Fin 7 ⊕ (Fin 8 ⊕ Fin 7)))

/-- The time at which the payment is made. -/
def cAt : CJ → ℕ
  | .inl b => b.toNat
  | .inr (d, .inl k) => if k.val = 0 then 2 + d.toNat else 6 * k.val - 2 + d.toNat
  | .inr (d, .inr (.inl h)) => 6 * h.val + 6 + d.toNat
  | .inr (d, .inr (.inr h)) => 6 * h.val + 8 + d.toNat

/-- The semaphore and the round. -/
def cOf : CJ → Kd × ℕ
  | .inl _ => (kBar, 0)
  | .inr (d, .inl k) => (rx d k.val, 0)
  | .inr (d, .inr (.inl h)) => (ra d h.val, 0)
  | .inr (d, .inr (.inr h)) => (kCr d, h.val)

theorem cAt_inj : Function.Injective cAt := by decide +kernel
theorem cAt_lt : ∀ j, cAt j < 50 := by decide +kernel
theorem cAt_item : ∀ j, (item (cAt j)).map Prod.snd = some (cOf j) := by decide +kernel

theorem cred_one (t : Bool) (k : Kd) (r : ℕ) :
    (Pipeline.launchCred (fun d => tallyAt (cell (dst t d) k) r (amt k)) c : sProp 𝕄) ⊢ cred (tallyAt (cell c k) r (amt k)) := by
  refine (Pipeline.launchCred_elim _ c (semOf k)).trans (Entails.of_eq (congrArg cred ?_))
  unfold tallyAt
  refine congrArg _ (Finsupp.ext fun i => ?_)
  rw [Pipeline.launchCredit_owing, Finsupp.single_apply]
  have e : ∀ d : Dev nD, (tallyAt (cell (dst t d) k) r (amt k) : CellTallies nD τ sig ℕ) (cell c k) i
      = if d = dst (!t) c then (if i = r then amt k else 0) else 0 := fun d => by
    rw [tallyAt_apply]
    by_cases h : d = dst (!t) c
    · subst h
      rw [dst_dst_not, if_pos rfl]
      by_cases hi : i = r
      · rw [if_pos ⟨rfl, hi⟩, if_pos hi]
      · rw [if_neg (fun h => hi h.2), if_neg hi]
    · rw [if_neg h, if_neg]
      rintro ⟨hc, -⟩
      apply h
      rw [(cell_inj hc).1, dst_not_dst]
  have e' := Finset.sum_congr (rfl : (Finset.univ : Finset (Dev nD)) = Finset.univ) fun d _ => e d
  refine e'.trans ?_
  rw [Finset.sum_ite_eq' Finset.univ (dst (!t) c), if_pos (Finset.mem_univ _)]
  by_cases hi : i = r
  · rw [if_pos hi, if_pos hi.symm]
  · rw [if_neg hi, if_neg (fun h => hi h.symm)]

theorem cred_due (j : CJ) : (Pipeline.launchCred (fun d => due d (cAt j)) c : sProp 𝕄)
    ⊢ cred (tallyAt (cell c (cOf j).1) (cOf j).2 (amt (cOf j).1)) := by
  have h := cAt_item j
  cases e : item (cAt j) with
  | none => rw [e] at h; exact absurd h (by simp)
  | some x =>
    obtain ⟨t, k, r⟩ := x
    rw [e] at h
    have h' : (k, r) = cOf j := Option.some.inj h
    rw [← h']
    have hd : (fun d : Dev nD => due d (cAt j)) = fun d => tallyAt (cell (dst t d) k) r (amt k) := by
      funext d; unfold due; rw [e]
    rw [hd]
    exact cred_one c t k r

/-- The credits of a direction. -/
def credD (d : Bool) : sProp 𝕄 :=
  iprop((bigSep (Finset.Ico 0 7) fun k => cred (tallyAt (cell c (rx d k)) 0 N))
    ∗ (bigSep (Finset.Ico 0 8) fun h => cred (tallyAt (cell c (ra d h)) 0 N)) ∗ bigSep (Finset.Ico 0 7) fun k => toTake (F := F) c d k)

theorem creds : (Pipeline.launchCred (fun d => owe d 0) c : sProp 𝕄)
    ⊢ iprop(cred (tallyAt (cell c kBar) 0 2) ∗ credD c false ∗ credD c true) := by
  unfold owe
  rw [Pipeline.launchCred_sum]
  have h1 : (bigSep (Finset.Ico 0 50) fun n => Pipeline.launchCred (fun d => due d n) c : sProp 𝕄)
      ⊢ bigSep (Finset.univ.map ⟨cAt, cAt_inj⟩) fun n => Pipeline.launchCred (fun d => due d n) c :=
    bigSep_subset fun n hn => by
      obtain ⟨j, -, rfl⟩ := Finset.mem_map.mp hn
      exact Finset.mem_Ico.mpr ⟨Nat.zero_le _, cAt_lt j⟩
  rw [bigSep_map] at h1
  have h2 := h1.trans (bigSep_mono fun j _ => cred_due (F := F) c j)
  have h3 : (bigSep Finset.univ fun j : CJ => (cred (tallyAt (cell c (cOf j).1) (cOf j).2 (amt (cOf j).1)) : sProp 𝕄))
      = iprop((cred (tallyAt (cell c kBar) 0 1) ∗ cred (tallyAt (cell c kBar) 0 1)) ∗ credD c false ∗ credD c true) := by
    unfold credD
    simp only [bigSep_univ_sum, bigSep_univ_prod, over_bool, ← over_fin]
    rfl
  have h4 := h2.trans (Entails.of_eq h3)
  iintro H
  ihave H := h4 $$ H
  icases H with ⟨⟨H1, H2⟩, H3, H4⟩
  isplitl [H1 H2]
  · have e : (tallyAt (cell c kBar) 0 2 : CellTallies nD τ sig ℕ) = tallyAt (cell c kBar) 0 1 + tallyAt (cell c kBar) 0 1 :=
      (tallyAt_add (cell c kBar) 0 1 1).symm
    rw [e]
    iapply (cred_add _ _).2
    isplitl [H1] <;> iassumption
  isplitl [H3] <;> iassumption

/-! ## What a device has when its kernel is called -/

/-- All but the positions at its own semaphores. -/
def rights : sProp 𝕄 :=
  iprop(atPos ER (cell c kBar) 0 ∅ 0
    ∗ (dutyTok ER (cell (dst true c) kBar) 0 false ∗ dutyTok ER (cell (dst false c) kBar) 0 true)
    ∗ cred (tallyAt (cell c kBar) 0 2) ∗ startD c false ∗ startD c true)

theorem mk_startD (d : Bool) : iprop(tokD c d ∗ credD c d) ⊢ (startD c d : sProp 𝕄) := by
  unfold tokD credD startD
  simp only [bigSep_sep']
  iintro ⟨⟨H1, ⟨H2, H3⟩, H4⟩, H5, H6, H7⟩
  isplitl [H1]; · iexact H1
  isplitl [H5]; · iexact H5
  isplitl [H2 H3 H6]
  · isplitl [H2]; · iexact H2
    isplitl [H3] <;> iassumption
  isplitl [H4] <;> iassumption

/-- What all devices know from the launch on. -/
def known (K : GSem nD τ sig → ℕ) : sProp 𝕄 :=
  iprop((bigSep (barCells ∪ ownCells) fun g => cellInv ER (Rd I) (K g) g) ∗ bigSep barCells fun g => reached ER g 0)

instance known_persistent (K : GSem nD τ sig → ℕ) : BI.Persistent (known I K) := by unfold known; infer_instance

/-- What a device has from the launch until its kernel is called. -/
def ready : sProp 𝕄 :=
  iprop((∃ K, known I K) ∗ (bigSep Finset.univ fun o : Own => openTok ER (cell c (some o))) ∗ rights c)

/-- What it has when the kernel starts. -/
def going : sProp 𝕄 := iprop((∃ K, ctx I K c) ∗ start c)

theorem known_inv (K : GSem nD τ sig → ℕ) (c : Dev nD) (k : Kd) : known I K ⊢ cellInv ER (Rd I) (K (cell c k)) (cell c k) := by
  unfold known
  iintro ⟨H, -⟩
  have h : (bigSep (barCells ∪ ownCells) fun g => (cellInv ER (Rd I) (K g) g : sProp 𝕄)) ⊢ cellInv ER (Rd I) (K (cell c k)) (cell c k) :=
    bigSep_elim (Φ := fun g => (cellInv ER (Rd I) (K g) g : sProp 𝕄)) (cell_mem c k)
  iapply h; iexact H

theorem known_bar (K : GSem nD τ sig → ℕ) (c : Dev nD) : known I K ⊢ reached ER (cell c kBar) 0 := by
  unfold known
  iintro ⟨-, H⟩
  have h : (bigSep barCells fun g => (reached ER g 0 : sProp 𝕄)) ⊢ reached ER (cell c kBar) 0 :=
    bigSep_elim (Φ := fun g => (reached ER g 0 : sProp 𝕄)) (Finset.mem_map_of_mem barEmb (Finset.mem_univ c))
  iapply h; iexact H

/-- Facts that hold for all members hold for the family. -/
theorem known_all {J : Type} [DecidableEq J] [Fintype J] {R : sProp 𝕄} [BI.Persistent R] {Ψ : J → sProp 𝕄} (h : ∀ j, R ⊢ Ψ j) :
    R ⊢ bigSep Finset.univ Ψ := by
  have h' := bigSep_with_persistent (R := R) (S := (Finset.univ : Finset J)) (Φ := fun _ => (BI.emp : sProp 𝕄)) (Ψ := Ψ)
    (fun j _ => by
      iintro ⟨H, -⟩
      iapply (h j); iexact H)
  rw [bigSep_emp_const] at h'
  iintro #H
  iapply h'
  isplitr; · iexact H
  iempintro

/-- The kernel's own semaphores, their counters at zero, are opened. -/
theorem open_own (K : GSem nD τ sig → ℕ) :
    iprop(known I K ∗ bigSep Finset.univ fun o : Own => iprop(openTok ER (cell c (some o)) ∗ semVal (cell c (some o)) 0))
      ⊢ (|={Set.univ}=> bigSep Finset.univ fun o : Own => iprop(atPos ER (cell c (some o)) 0 ∅ 0 ∗ reached ER (cell c (some o)) 0) : sProp 𝕄) := by
  have h1 := bigSep_with_persistent (R := known I K) (S := (Finset.univ : Finset Own))
    (Φ := fun o => iprop(openTok ER (cell c (some o)) ∗ semVal (cell c (some o)) 0))
    (Ψ := fun o => iprop(|={Set.univ}=> (atPos ER (cell c (some o)) 0 ∅ 0 ∗ reached ER (cell c (some o)) 0)))
    (fun o _ => by
      iintro ⟨#HK, Ht, Hv⟩
      iapply (Rounds.cell_open ER (Rd I) (g := cell c (some o)) (κ := K (cell c (some o))) (Set.mem_univ _))
      isplitr; · iapply (known_inv I K c (some o)); iexact HK
      isplitl [Ht] <;> iassumption)
  exact h1.trans (bigSep_fupd _ _)

theorem opened : iprop(ready I c ∗ Pipeline.ownSems0 ownSem c ∗ levAts L lv) ⊢ (|={Set.univ}=> going I c : sProp 𝕄) := by
  have hs := Entails.of_eq (bigSep_sep' Finset.univ (fun o : Own => (openTok ER (cell c (some o)) : sProp 𝕄))
    fun o : Own => semVal (cell c (some o)) 0).symm
  have hs' := Entails.of_eq (bigSep_sep' Finset.univ (fun o : Own => (atPos ER (cell c (some o)) 0 ∅ 0 : sProp 𝕄))
    fun o : Own => reached ER (cell c (some o)) 0)
  unfold ready going Pipeline.ownSems0
  iintro ⟨⟨⟨%K, #HK⟩, Ht, Hr⟩, Hv, #HL⟩
  imod (open_own I c K) $$ [Ht Hv] with H
  · isplitr; · iexact HK
    iapply hs
    isplitl [Ht]; · iexact Ht
    iexact Hv
  ihave H := hs' $$ H
  icases H with ⟨Hat, #Hre⟩
  imodintro
  isplitr
  · iexists K
    unfold ctx
    isplitr
    · iapply (known_all (R := known I K) fun p : Dev nD × Kd => known_inv I K p.1 p.2); iexact HK
    isplitr; · iexact HL
    isplitr; · iexact Hre
    iapply (known_all (R := known I K) fun d : Bool => known_bar I K (dst d c)); iexact HK
  unfold start rights
  isplitl [Hat]; · iexact Hat
  iexact Hr

end Cert.Proof.Ring

end
-- ==== Proof.Slots.lean ====
/- The scratch buffers of the kernel, cut into the slots that the ring hands around, and put together again. -/
module

public import proofs.«01_k».proof.Proof.Body
public import Idealize.ShloMosaic.Lib.Ring

@[expose] public section

noncomputable section

namespace Cert.Proof.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F] (c : Dev nD)

local notation "𝕄" => MT nD τ sig ℕ (Elt F) ℕ UU ℕ

/-- A whole buffer at some contents. -/
abbrev any (b : Ref sig .tc) : sProp 𝕄 := iprop(∃ f : Buf (Elt F) ((c : Thread nD τ).loc b), ((c : Thread nD τ).loc b) ↦{fullShare} f)

theorem any_owned (b : Ref sig .tc) : (any c b : sProp 𝕄) ⊢ owned c (Memref.whole b) := by
  unfold owned
  iintro ⟨%f, H⟩
  iexists (Memref.whole b).view.read (Elt F) f
  iapply (owns_intro (c : Thread nD τ) (Memref.whole b) fullShare f)
  rw [show (Memref.whole b).view.set = Finset.univ from View.set_whole _]
  iexact H

theorem owned_any (b : Ref sig .tc) : (owned c (Memref.whole b) : sProp 𝕄) ⊢ any c b := by
  unfold owned
  iintro ⟨%X, H⟩
  ihave H := (owns_elim (c : Thread nD τ) (Memref.whole b) fullShare X) $$ H
  icases H with ⟨%f, -, H⟩
  rw [show (Memref.whole b).view.set = Finset.univ from View.set_whole _]
  iexists f
  iexact H

section Cut

variable {n : ℕ} (b : Ref sig .tc) (r : Fin n → Rect b.ty.shape) (hr : ∀ k a, (r k).stride a = 1)
  (hd : ∀ k k', k ≠ k' → Disjoint (r k).set (r k').set) (hc : Finset.univ.biUnion (fun k => (r k).set) = Finset.univ)

/-- The elements of one rectangle, at some contents. -/
abbrev anyAt (k : Fin n) : sProp 𝕄 :=
  iprop(∃ f : Buf (Elt F) ((c : Thread nD τ).loc b), ((c : Thread nD τ).loc b) ↦[(r k).set]{fullShare} f)

theorem slice_owned (k : Fin n) : (owned c ((Memref.whole b).slice (r k) (hr k)) : sProp 𝕄) = anyAt c b r k := by
  have hs : ((Memref.whole b).slice (r k) (hr k)).view.set = (r k).set := View.set_slice_whole b (r k)
  have h1 : (owned c ((Memref.whole b).slice (r k) (hr k)) : sProp 𝕄) ⊢ anyAt c b r k := by
    unfold owned anyAt
    iintro ⟨%X, H⟩
    ihave H := (owns_elim (c : Thread nD τ) _ fullShare X) $$ H
    icases H with ⟨%f, -, H⟩
    rw [hs]
    iexists f; iexact H
  have h2 : (anyAt c b r k : sProp 𝕄) ⊢ owned c ((Memref.whole b).slice (r k) (hr k)) := by
    unfold owned anyAt
    iintro ⟨%f, H⟩
    iexists ((Memref.whole b).slice (r k) (hr k)).view.read (Elt F) f
    iapply (owns_intro (c : Thread nD τ) ((Memref.whole b).slice (r k) (hr k)) fullShare f)
    rw [hs]
    iexact H
  exact BI.equiv_iff.mp ⟨h1, h2⟩

include hd hc in
/-- A buffer is its pieces. -/
theorem cut : (any c b : sProp 𝕄) ⊢ bigSep Finset.univ fun k => owned c ((Memref.whole b).slice (r k) (hr k)) := by
  rw [bigSep_congr fun k _ => slice_owned c b r hr k]
  iintro ⟨%f, H⟩
  have h := Entails.of_eq (Ring.pointsTo_blocks (ℓ := (c : Thread nD τ).loc b) (fun k => (r k).set) hd hc (q := fullShare) f
    (Ix := ℕ) (Val := Elt F) (Name := ℕ) (U := UU) (Lvl := ℕ))
  ihave H := h $$ H
  have h' : (bigSep Finset.univ fun k => (((c : Thread nD τ).loc b) ↦[(r k).set]{fullShare} f : sProp 𝕄))
      ⊢ bigSep Finset.univ fun k => anyAt c b r k :=
    bigSep_mono fun k _ => (show (((c : Thread nD τ).loc b) ↦[(r k).set]{fullShare} f : sProp 𝕄) ⊢ anyAt c b r k from by
      unfold anyAt; iintro H; iexists f; iexact H)
  iapply h'; iexact H

include hd hc in
/-- And the other way round. -/
theorem glue (f₀ : Buf (Elt F) ((c : Thread nD τ).loc b)) :
    (bigSep Finset.univ fun k => owned c ((Memref.whole b).slice (r k) (hr k)) : sProp 𝕄) ⊢ any c b := by
  rw [bigSep_congr fun k _ => slice_owned c b r hr k]
  exact Ring.pointsTo_blocks_join_exists (ℓ := (c : Thread nD τ).loc b) (fun k => (r k).set) hd hc f₀

end Cut

/-! ## The slots of a direction -/

theorem rows8 : (∀ k k' : Fin 8, k ≠ k' → Disjoint (rc8 k.val k.isLt).set (rc8 k'.val k'.isLt).set)
    ∧ Finset.univ.biUnion (fun k : Fin 8 => (rc8 k.val k.isLt).set) = Finset.univ := by
  have ho : ∀ k : Fin 8, ∀ a : Fin S8x512x1024.rank, a ≠ 0 → (![k.val, 0, 0] : Fin 3 → ℕ) a = 0 := by decide
  have hs : ∀ a : Fin S8x512x1024.rank, a ≠ 0 → S1x512x1024.size a = S8x512x1024.size a := by decide
  exact ⟨Ring.lead_disjoint (s := S8x512x1024) 0 1 (fun k : Fin 8 => ![k.val, 0, 0]) S1x512x1024.size (fun k => inb8 k.val k.isLt)
      (fun k => (Nat.one_mul _).symm) rfl,
    Ring.lead_cover (s := S8x512x1024) 0 1 (fun k : Fin 8 => ![k.val, 0, 0]) S1x512x1024.size (fun k => inb8 k.val k.isLt)
      (fun k => (Nat.one_mul _).symm) ho rfl hs rfl⟩

theorem rows2 : (∀ k k' : Fin 2, k ≠ k' → Disjoint (rc2 k.val k.isLt).set (rc2 k'.val k'.isLt).set)
    ∧ Finset.univ.biUnion (fun k : Fin 2 => (rc2 k.val k.isLt).set) = Finset.univ := by
  have ho : ∀ k : Fin 2, ∀ a : Fin S2x512x1024.rank, a ≠ 0 → (![k.val, 0, 0] : Fin 3 → ℕ) a = 0 := by decide
  have hs : ∀ a : Fin S2x512x1024.rank, a ≠ 0 → S1x512x1024.size a = S2x512x1024.size a := by decide
  exact ⟨Ring.lead_disjoint (s := S2x512x1024) 0 1 (fun k : Fin 2 => ![k.val, 0, 0]) S1x512x1024.size (fun k => inb2 k.val k.isLt)
      (fun k => (Nat.one_mul _).symm) rfl,
    Ring.lead_cover (s := S2x512x1024) 0 1 (fun k : Fin 2 => ![k.val, 0, 0]) S1x512x1024.size (fun k => inb2 k.val k.isLt)
      (fun k => (Nat.one_mul _).symm) ho rfl hs rfl⟩

/-- The buffers of a direction. -/
def bufX (d : Bool) : Ref sig .tc := bif d then cc0_scratch1 else cc0_scratch0
def bufA (d : Bool) : Ref sig .tc := bif d then cc0_scratch3 else cc0_scratch2

theorem slots_eq (d : Bool) : (slots c d : sProp 𝕄)
    = iprop((bigSep Finset.univ fun k : Fin 8 => owned (F := F) c (xSl d k.val k.isLt)) ∗ bigSep Finset.univ fun k : Fin 2 => owned (F := F) c (aSl d k.val k.isLt)) := by
  unfold slots
  rw [over8, BI.bigSep_fin_two]
  rfl

theorem cut_slots (d : Bool) : iprop(any c (bufX d) ∗ any c (bufA d)) ⊢ (slots c d : sProp 𝕄) := by
  rw [slots_eq]
  cases d
  · exact BIClass.sep_mono (cut c cc0_scratch0 (fun k : Fin 8 => rc8 k.val k.isLt) (fun _ _ => rfl) rows8.1 rows8.2)
      (cut c cc0_scratch2 (fun k : Fin 2 => rc2 k.val k.isLt) (fun _ _ => rfl) rows2.1 rows2.2)
  · exact BIClass.sep_mono (cut c cc0_scratch1 (fun k : Fin 8 => rc8 k.val k.isLt) (fun _ _ => rfl) rows8.1 rows8.2)
      (cut c cc0_scratch3 (fun k : Fin 2 => rc2 k.val k.isLt) (fun _ _ => rfl) rows2.1 rows2.2)

theorem glue_slots (d : Bool) (f : (b : Ref sig .tc) → Buf (Elt F) ((c : Thread nD τ).loc b)) :
    (slots c d : sProp 𝕄) ⊢ iprop(any c (bufX d) ∗ any c (bufA d)) := by
  rw [slots_eq]
  cases d
  · exact BIClass.sep_mono (glue c cc0_scratch0 (fun k : Fin 8 => rc8 k.val k.isLt) (fun _ _ => rfl) rows8.1 rows8.2 (f _))
      (glue c cc0_scratch2 (fun k : Fin 2 => rc2 k.val k.isLt) (fun _ _ => rfl) rows2.1 rows2.2 (f _))
  · exact BIClass.sep_mono (glue c cc0_scratch1 (fun k : Fin 8 => rc8 k.val k.isLt) (fun _ _ => rfl) rows8.1 rows8.2 (f _))
      (glue c cc0_scratch3 (fun k : Fin 2 => rc2 k.val k.isLt) (fun _ _ => rfl) rows2.1 rows2.2 (f _))

end Cert.Proof.Ring

end
-- ==== Proof.Region.lean ====
/- The kernel as a step of @main: what it reads, what it leaves, and its run between the host's lines. -/
module

public import proofs.«01_k».proof.Proof.Launch
public import proofs.«01_k».proof.Proof.Slots
public import Idealize.ShloMosaic.Lib.Pipeline.RegionTalk
public import Idealize.ShloMosaic.Lib.Pipeline.FrameBody
public import Idealize.ShloMosaic.Lib.Pipeline.ValueKit

@[expose] public section

noncomputable section

namespace Cert.Proof.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F] [Named F] (m : (ℓ : Loc nD τ sig) → Buf (Elt F) ℓ) (c : Dev nD)

local notation "𝕄" => MT nD τ sig ℕ (Elt F) ℕ UU ℕ

/-- What the kernel reads: the host's lines have computed it from the arguments. -/
def inp : Inp F where
  x c := V1 m c main_v22
  wq c := V1 m c main_v23
  kk c := V1 m c main_v12
  vv c := V1 m c main_v20
  wo c := V1 m c main_v24

/-- What the kernel leaves in its result, as the table of all buffers that it may change. -/
def outs : Outs (F := F) := fun _ r c =>
  if h : r = main_v25 then h ▸ (show Buf (Elt F) ((c : Thread nD τ).loc main_v25) from oval (inp m) c) else m ((c : Thread nD τ).loc r)

theorem outs_eq : outs m 2 main_v25 c = oval (inp m) c := dif_pos rfl

/-! ## The kernel's data -/

/-- The scratch buffers. -/
abbrev rest : sProp 𝕄 := Pipeline.scopedRest (Ix := ℕ) (Name := ℕ) (U := UU) (Lvl := ℕ) (Val := Elt F) spec0 c

def dat (c : Dev nD) : Dat τ (Elt F) ℕ ℕ UU ℕ cfg0 c where
  A w := V1 m c (Proc.devRef .tc (Pipeline.arrRef spec0 w))
  after := fun
    | 0, _ => (inp m).x c
    | 1, _ => (inp m).wq c
    | 2, _ => (inp m).kk c
    | 3, _ => (inp m).vv c
    | 4, _ => (inp m).wo c
    | 5, _ => oval (inp m) c
    | ⟨_ + 6, h⟩, _ => absurd h (Nat.not_lt.2 (Nat.le_add_left _ _))
  Φ t := if t.val = 0 then iprop(going (inp m) c ∗ rest c ∗ ∃ r, prngReg c r)
    else iprop((Pipeline.ownSems0 ownSem c ∗ semVal (cell c kBar) 0) ∗ rest c ∗ ∃ r, prngReg c r)
  q _ := fullShare
  owed t := if t.val = 0 then owe c 0 else 0

def pdats : (p : Fin 1) → (c : Dev nD) → Dat τ (Elt F) ℕ ℕ UU ℕ (cfgs p) c := fun _ => dat m

theorem Φ_at (t : Fin (cfg0.N + 1)) : (dat m c).Φ t = if t.val = 0 then iprop(going (inp m) c ∗ rest c ∗ ∃ r, prngReg c r)
    else iprop((Pipeline.ownSems0 ownSem c ∗ semVal (cell c kBar) 0) ∗ rest c ∗ ∃ r, prngReg c r) := rfl
theorem owed_at (t : Fin (cfg0.N + 1)) : (dat m c).owed t = if t.val = 0 then owe c 0 else 0 := rfl
theorem last_ne : (Fin.last cfg0.N).val ≠ 0 := by rw [Fin.val_last, show cfg0.N = 1 from N_0]; decide

theorem Φ_first : (dat m c).Φ 0 = iprop(going (inp m) c ∗ rest c ∗ ∃ r, prngReg c r) := by rw [Φ_at, if_pos (show (0 : Fin (cfg0.N + 1)).val = 0 from rfl)]
theorem Φ_last : (dat m c).Φ (Fin.last _)
    = iprop((Pipeline.ownSems0 ownSem c ∗ semVal (cell c kBar) 0) ∗ rest c ∗ ∃ r, prngReg c r) := by
  rw [Φ_at, if_neg last_ne]
theorem owed_first : (dat m c).owed 0 = owe c 0 := by rw [owed_at, if_pos (show (0 : Fin (cfg0.N + 1)).val = 0 from rfl)]
theorem owed_last : (dat m c).owed (Fin.last _) = 0 := by rw [owed_at, if_neg last_ne]

/-- A window is a whole array: index `j` of its one block is index `j` of the array. -/
theorem at_zero {i s j : ℕ} (h : i = 0) : i * s + j = j := by rw [h, Nat.zero_mul, Nat.zero_add]

theorem emb_0 (t : Fin cfg0.N) (j) : ((cfg0.win 0).blk t).view.emb j = j := by
  obtain rfl := fin_N0 t; funext a; apply Fin.ext; blk_simp; exact at_zero rfl
theorem emb_1 (t : Fin cfg0.N) (j) : ((cfg0.win 1).blk t).view.emb j = j := by
  obtain rfl := fin_N0 t; funext a; apply Fin.ext; blk_simp; exact at_zero rfl
theorem emb_2 (t : Fin cfg0.N) (j) : ((cfg0.win 2).blk t).view.emb j = j := by
  obtain rfl := fin_N0 t; funext a; apply Fin.ext; blk_simp; exact at_zero rfl
theorem emb_3 (t : Fin cfg0.N) (j) : ((cfg0.win 3).blk t).view.emb j = j := by
  obtain rfl := fin_N0 t; funext a; apply Fin.ext; blk_simp; exact at_zero rfl
theorem emb_4 (t : Fin cfg0.N) (j) : ((cfg0.win 4).blk t).view.emb j = j := by
  obtain rfl := fin_N0 t; funext a; apply Fin.ext; blk_simp; exact at_zero rfl

theorem before_0 (t : Fin cfg0.N) (d) : (dat m c).before 0 t d = (inp m).x c :=
  ((dat m c).before_fetched 0 t (fetch0_0 t) d).trans (funext fun j => congrArg ((inp m).x c) (emb_0 t j))
theorem before_1 (t : Fin cfg0.N) (d) : (dat m c).before 1 t d = (inp m).wq c :=
  ((dat m c).before_fetched 1 t (fetch0_1 t) d).trans (funext fun j => congrArg ((inp m).wq c) (emb_1 t j))
theorem before_2 (t : Fin cfg0.N) (d) : (dat m c).before 2 t d = (inp m).kk c :=
  ((dat m c).before_fetched 2 t (fetch0_2 t) d).trans (funext fun j => congrArg ((inp m).kk c) (emb_2 t j))
theorem before_3 (t : Fin cfg0.N) (d) : (dat m c).before 3 t d = (inp m).vv c :=
  ((dat m c).before_fetched 3 t (fetch0_3 t) d).trans (funext fun j => congrArg ((inp m).vv c) (emb_3 t j))
theorem before_4 (t : Fin cfg0.N) (d) : (dat m c).before 4 t d = (inp m).wo c :=
  ((dat m c).before_fetched 4 t (fetch0_4 t) d).trans (funext fun j => congrArg ((inp m).wo c) (emb_4 t j))

/-- The kernel leaves its value in the result. -/
theorem arr_out : (dat m c).arrAt 5 cfg0.N = oval (inp m) c := by
  refine (dat m c).arrAt_eq_of_after_last 5 t0_0 (by decide +kernel) _ fun j => ?_
  blk_simp
  rfl

/-! ## The body -/

theorem owes_first (W : Waits sig ℕ) : (owes (c : Thread nD τ) (owe c 0) W : sProp 𝕄) ⊢ (dat m c).owesAt 0 0 := by
  unfold Dat.owesAt Pipeline.owesWithin Dat.bound
  rw [owed_first m c]
  iintro HO
  iexists W
  isplitr; · ipureintro; exact fun _ _ => Or.inl trivial
  iexact HO

theorem debt_first : (dat m c).owesAt 0 0 ⊢ (debt c 0 : sProp 𝕄) := by
  unfold Dat.owesAt Pipeline.owesWithin debt
  rw [owed_first m c]
  iintro ⟨%W, -, HO⟩
  iexists W; iexact HO

theorem debt_last : (debt c 50 : sProp 𝕄) ⊢ (dat m c).owesAt 0 (Fin.last _) := by
  unfold Dat.owesAt Pipeline.owesWithin Dat.bound debt
  rw [owed_last m c, owe_end]
  iintro ⟨%W, HO⟩
  iexists W
  isplitr; · ipureintro; exact fun _ _ => Or.inl trivial
  iexact HO

/-- The scratch buffers, one by one. -/
theorem rest_eq : (rest c : sProp 𝕄) = iprop(any c (bufX false) ∗ any c (bufX true) ∗ any c (bufA false) ∗ any c (bufA true)
    ∗ any c cc0_scratch4 ∗ any c cc0_scratch5 ∗ any c cc0_scratch6) := scopedRest0_eq c

theorem rest_cut : (rest c : sProp 𝕄) ⊢ iprop(scratch c ∗ owned c gD ∗ slots c false ∗ slots c true) := by
  rw [rest_eq]
  unfold scratch
  iintro ⟨H0, H1, H2, H3, H4, H5, H6⟩
  isplitl [H4 H5]
  · isplitl [H4]; · iapply (any_owned c cc0_scratch4); iexact H4
    iapply (any_owned c cc0_scratch5); iexact H5
  isplitl [H6]; · iapply (any_owned c cc0_scratch6); iexact H6
  isplitl [H0 H2]
  · iapply (cut_slots c false); isplitl [H0] <;> iassumption
  iapply (cut_slots c true); isplitl [H1] <;> iassumption

theorem rest_glue (m : (ℓ : Loc nD τ sig) → Buf (Elt F) ℓ) (c : Dev nD) : iprop(scratch c ∗ owned c gD ∗ slots c false ∗ slots c true) ⊢ (rest c : sProp 𝕄) := by
  rw [rest_eq]
  unfold scratch
  iintro ⟨⟨H4, H5⟩, H6, Hf, Ht⟩
  ihave Hf := (glue_slots c false fun b => m ((c : Thread nD τ).loc b)) $$ Hf
  ihave Ht := (glue_slots c true fun b => m ((c : Thread nD τ).loc b)) $$ Ht
  icases Hf with ⟨H0, H2⟩
  icases Ht with ⟨H1, H3⟩
  isplitl [H0]; · iexact H0
  isplitl [H1]; · iexact H1
  isplitl [H2]; · iexact H2
  isplitl [H3]; · iexact H3
  isplitl [H4]; · iapply (owned_any c cc0_scratch4); iexact H4
  isplitl [H5]; · iapply (owned_any c cc0_scratch5); iexact H5
  iapply (owned_any c cc0_scratch6); iexact H6

/-- The body, called with the windows' buffers, does what its data say. -/
theorem body_ok : BodyObligation (dat m c) defs₀ 𝒱₀ 0 Set.univ := fun t => by
  obtain rfl := fin_N0 t
  rw [bigSep_W0, bigSep_W0]
  show iprop((dat m c).Φ 0 ∗ (dat m c).owesAt 0 0
      ∗ (∃ d, own c gX fullShare ((dat m c).before 0 t0_0 d)) ∗ (∃ d, own c gWq fullShare ((dat m c).before 1 t0_0 d))
      ∗ (∃ d, own c gK fullShare ((dat m c).before 2 t0_0 d)) ∗ (∃ d, own c gV fullShare ((dat m c).before 3 t0_0 d))
      ∗ (∃ d, own c gWo fullShare ((dat m c).before 4 t0_0 d)) ∗ (∃ d, own c gOut fullShare ((dat m c).before 5 t0_0 d)))
    ⊢ run c (bodyAt0 (F := F) t0_0) fun _ => iprop((dat m c).Φ (Fin.last _) ∗ (dat m c).owesAt 0 (Fin.last _)
      ∗ own c gX fullShare ((inp m).x c) ∗ own c gWq fullShare ((inp m).wq c) ∗ own c gK fullShare ((inp m).kk c)
      ∗ own c gV fullShare ((inp m).vv c) ∗ own c gWo fullShare ((inp m).wo c) ∗ own c gOut fullShare (oval (inp m) c))
  have hb : bodyAt0 (F := F) t0_0 = pBody := body_eq
  rw [hb, Φ_first, Φ_last]
  simp only [before_0, before_1, before_2, before_3, before_4]
  unfold going Pipeline.ownSems0
  iintro ⟨⟨⟨⟨%K, #Hc⟩, Hst⟩, Hr, Hp⟩, HO, ⟨%d0, H0⟩, ⟨%d1, H1⟩, ⟨%d2, H2⟩, ⟨%d3, H3⟩, ⟨%d4, H4⟩, ⟨%d5, H5⟩⟩
  ihave HO := (debt_first m c) $$ HO
  ihave Hr := (rest_cut c) $$ Hr
  icases Hr with ⟨Hs, HD, Hf, Ht⟩
  iapply (body (I := inp m) (K := K) c)
  isplitr; · iexact Hc
  isplitl [Hst]; · iexact Hst
  isplitl [H1 H2 H3 H4]
  · unfold consts
    isplitl [H1]; · iexact H1
    isplitl [H2]; · iexact H2
    isplitl [H3] <;> iassumption
  isplitl [H0]; · iexact H0
  isplitl [Hs]; · iexact Hs
  isplitl [HD]; · iexact HD
  isplitl [H5]; · unfold owned; iexists _; iexact H5
  isplitl [Hf]; · iexact Hf
  isplitl [Ht]; · iexact Ht
  isplitl [HO]; · iexact HO
  unfold closed consts
  iintro ⟨⟨Hv, Hb, HO⟩, ⟨H1, H2, H3, H4⟩, H0, Hs, HD, H5, Hf, Ht⟩
  isplitl [Hv Hb Hs HD Hf Ht Hp]
  · isplitl [Hv Hb]
    · isplitl [Hv]; · iexact Hv
      iexact Hb
    isplitl [Hs HD Hf Ht]
    · iapply (rest_glue m c)
      isplitl [Hs]; · iexact Hs
      isplitl [HD]; · iexact HD
      isplitl [Hf] <;> iassumption
    iexact Hp
  isplitl [HO]; · iapply (debt_last m c); iexact HO
  isplitl [H0]; · iexact H0
  isplitl [H1]; · iexact H1
  isplitl [H2]; · iexact H2
  isplitl [H3]; · iexact H3
  isplitl [H4]; · iexact H4
  iexact H5

/-! ## The step of @main -/

theorem owe_first {c : Dev nD} {g : GSem nD τ sig} {i : ℕ} (h : 0 < owe c 0 g i) : i ∈ L g ∧ 0 < lv g i := by
  unfold owe at h
  rw [Finset.sum_apply, Finsupp.finset_sum_apply] at h
  obtain ⟨n, hn, hp⟩ := Finset.exists_ne_zero_of_sum_ne_zero (Nat.pos_iff_ne_zero.mp h)
  unfold due at hp
  cases e : item n with
  | none => rw [e] at hp; exact absurd rfl hp
  | some x =>
    obtain ⟨t, k, r⟩ := x
    rw [e] at hp
    replace hp : (tallyAt (cell (dst t c) k) r (amt k) : CellTallies nD τ sig ℕ) g i ≠ 0 := hp
    rw [tallyAt_apply] at hp
    split at hp
    · next hg =>
      obtain ⟨rfl, rfl⟩ := hg
      obtain ⟨h8, hl⟩ := item_lev n (Finset.mem_Ico.mp hn).2 t k i e
      refine ⟨by rw [show cell (dst t c) k = (((dst t c : Dev nD) : Thread nD τ), semOf k) from rfl, L_tc]; exact Finset.mem_range.mpr h8, ?_⟩
      rw [lv_cell, hl]
      split <;> omega
    · exact absurd rfl hp

theorem stage_kind : ∀ (w : Fin cfg0.W) (s : Fin (cfg0.win w).nbuf), kindOf (.dma ((cfg0.win w).sem s)) = none := by decide +kernel

theorem cut_ok : Pipeline.LevelCutOwed (pcfgs (F := F)) adm (pdats m) 0 L lv 0 (fun _ => 0) where
  hι c w s := by rw [L_tc]; exact Finset.mem_range.mpr (by decide)
  hιb c w s := by
    refine le_of_eq ?_
    unfold lv
    rw [show kindOf _ = none from stage_kind w s]
  hD c t g i h := by
    replace h : 0 < (if t.val = 0 then owe c 0 else 0) g i := h
    split at h
    · exact owe_first h
    · exact absurd h (Nat.lt_irrefl 0)

/-- The buffers that the kernel does not touch. -/
abbrev others : Finset (DevRef τ sig) := Pipeline.ucRefs τ sig \ Pipeline.arrRefs (τ := τ) spec0

theorem V2_arr (c : Dev nD) (w : Fin 6) : (dat m c).arrAt w cfg0.N = V2 m (outs m) c (Proc.devRef .tc (Pipeline.arrRef spec0 w)) := by
  have h (w : Fin 6) (hw : (cfg0.win w).isOut = false) (hn : Pipeline.arrRef spec0 w ∉ ([main_v25] : List (Ref sig .tc))) :
      (dat m c).arrAt w cfg0.N = V2 m (outs m) c (Proc.devRef .tc (Pipeline.arrRef spec0 w)) :=
    ((dat m c).arrAt_in w hw _).trans (V2_of m (outs m) c _ hn).symm
  fin_cases w
  · exact h 0 rfl (by decide)
  · exact h 1 rfl (by decide)
  · exact h 2 rfl (by decide)
  · exact h 3 rfl (by decide)
  · exact h 4 rfl (by decide)
  · refine (arr_out m c).trans ((outs_eq m c).symm.trans ?_)
    exact (Function.update_self (Proc.devRef .tc main_v25 : DevRef τ sig) (outs m 2 main_v25 c) (V1 m c)).symm

theorem V2_others (c : Dev nD) : ∀ b ∈ others \ (∅ : Finset (DevRef τ sig)), V2 m (outs m) c b = V1 m c b := fun b hb => by
  refine Function.update_of_ne ?_ _ _
  rintro rfl
  exact absurd hb (by decide +kernel)

theorem entry (c : Dev nD) : iprop(Pipeline.scopedRest (Pipeline.pin (pcfgs (F := F)) adm 0).spec c ∗ (∃ r, prngReg c r)
    ∗ StableHlo.held (c.tc : Thread nD τ) (∅ : Finset (DevRef τ sig)) (V1 m c) ∗ going (inp m) c) ⊢ (pdats m 0 c).Φ 0 := by
  rw [show (pdats m 0 c).Φ 0 = _ from Φ_first m c]
  iintro ⟨Hs, Hp, -, HX⟩
  isplitl [HX]; · iexact HX
  isplitl [Hs]; · iexact Hs
  iexact Hp

theorem exit (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) (∅ : Finset (DevRef τ sig)) (V2 m (outs m) c) ∗ Pipeline.ownSems0 ownSem c ∗ semVal (cell c kBar) 0) := by
  rw [show (pdats m 0 c).Φ (Fin.last _) = _ from Φ_last m c]
  unfold StableHlo.held
  rw [bigSep_empty]
  iintro ⟨⟨Ho, Hb⟩, Hs, Hp⟩
  isplitl [Hs]; · iexact Hs
  isplitl [Hp]; · iexact Hp
  isplitr; · iempintro
  isplitl [Ho] <;> iassumption

theorem share_full (c : Dev nD) (w : Fin 6) : (dat m c).share w = fullShare := by
  unfold Dat.share; split <;> rfl

set_option backward.isDefEq.respectTransparency.types false in
/-- The kernel between the host's lines. -/
def region : Pipeline.RegionSeg (pcfgs (F := F)) adm (pdats m) 0 defs₀ 𝒱₀ L lv 0 :=
  Pipeline.RegionSeg.ofTalk (pcfgs (F := F)) adm (pdats m) 0 defs₀ 𝒱₀ L lv 0 ownSem (by decide +kernel : Pipeline.OwnSemFacts spec0 ownSem)
    ∅ others (Finset.empty_subset _) launch0.toP rfl (fun c => (body_ok m c).loose)
    (fun _ => 0) (fun c => owe c 0) (fun c => (owed_first m c).trans (zero_add _).symm) (owed_last m) (fun _ => rfl) (fun c w => share_full m c w)
    (V1 m) (V2 m (outs m)) (V2_others m)
    (ready (inp m)) (fun c => semVal (cell c kBar) 0) (going (inp m)) (fun c => semVal (cell c kBar) 0) (opened (inp m)) (entry m) (exit m)
    (fun c => by iintro H; imodintro; iexact H)
    (fun _ => 0) (cut_ok m) (fun _ => iprop(emp))
    (fun _ _ => rfl) (V2_arr m)

end Cert.Proof.Ring

end
-- ==== Proof.Inputs.lean ====
/- What the host's lines make of the arguments before the kernel starts: the rows, the weights and this device's eight
   heads of the keys and the values. -/
module

public import proofs.«01_k».proof.Proof.Region
public import proofs.«01_k».proof.Proof.KerValue
public import Idealize.ShloMosaic.Lib.StableHlo.RunRead

@[expose] public section

noncomputable section

namespace Cert.Proof.Ring

open Idealize.ShloMosaic Idealize.ShloMosaic.TcCoe Idealize.ShloMosaic.StableHlo Idealize.ShloMosaic.Pointwise
open Cert.KernelIdeal Cert.KernelIdeal.Gen

/-- The device's number as the host computes it. -/
def hostWord (c : Dev nD) : IVec S_ 32 :=
  Host.remui (Host.divui (constantI S_ 32 (Dev.word c)) (constantI S_ 32 1#32)) (constantI S_ 32 8#32)

/-- The first of the device's heads: eight times its number. -/
def hostStart (c : Dev nD) : IVec S_ 32 :=
  select (cmpi .slt (muli (hostWord c) (constantI S_ 32 8#32)) (constantI S_ 32 0#32))
    (addi (muli (hostWord c) (constantI S_ 32 8#32)) (constantI S_ 32 64#32)) (muli (hostWord c) (constantI S_ 32 8#32))

theorem hostStart_eq (c : Dev nD) : (hostStart c (Shape.Idx.first h_S_)).toInt = ((8 * c.val : ℕ) : ℤ) := by
  revert c; decide +kernel

/-- The device's heads of the keys or the values, head first. -/
def headsOf (k : FVec Ideal S1x1024x64x128 .f32) (w : IVec S_ 32) : FVec Ideal S8x1024x128 .bf16 :=
  truncf .bf16 (transpose S8x1024x128 [1, 0, 2]
    (Host.dynamicSlice S1024x8x128 (shapeCast S1024x64x128 k shapeCasts_S1x1024x64x128_S1024x64x128)
      (fun a => ((![constantI S_ 32 0#32, w, constantI S_ 32 0#32] : Fin 3 → IVec S_ 32) a (Shape.Idx.first h_S_)).toInt)
      sliceFits_S1024x64x128_S1024x8x128)
    transposes_S1024x8x128_S8x1024x128_1_0_2 : FVec Ideal S8x1024x128 .f32) bitsLt_bf16_f32

theorem headsOf_apply (k : FVec Ideal S1x1024x64x128 .f32) (w : IVec S_ 32) (n : ℕ) (hn : n < 8)
    (hw : (w (Shape.Idx.first h_S_)).toInt = ((8 * n : ℕ) : ℤ)) (t : Fin 8) (j : Fin 1024) (a : Fin 128) :
    headsOf k w (ix3 t j a) = k (ix4 0 j ⟨8 * n + t.val, by omega⟩ a) := by
  have e1 : Host.clampedStart S1024x64x128 S1024x8x128 sliceFits_S1024x64x128_S1024x8x128.1
      (fun a => ((![constantI S_ 32 0#32, w, constantI S_ 32 0#32] : Fin 3 → IVec S_ 32) a (Shape.Idx.first h_S_)).toInt) 1 = 8 * n :=
    Host.clampedStart_of_le _ _ 1 (8 * n) hw (by show 8 * n + 8 ≤ 64; omega)
  have e0 : Host.clampedStart S1024x64x128 S1024x8x128 sliceFits_S1024x64x128_S1024x8x128.1
      (fun a => ((![constantI S_ 32 0#32, w, constantI S_ 32 0#32] : Fin 3 → IVec S_ 32) a (Shape.Idx.first h_S_)).toInt) 0 = 0 :=
    Host.clampedStart_of_le _ _ 0 0 rfl (by decide)
  have e2 : Host.clampedStart S1024x64x128 S1024x8x128 sliceFits_S1024x64x128_S1024x8x128.1
      (fun a => ((![constantI S_ 32 0#32, w, constantI S_ 32 0#32] : Fin 3 → IVec S_ 32) a (Shape.Idx.first h_S_)).toInt) 2 = 0 :=
    Host.clampedStart_of_le _ _ 2 0 rfl (by decide)
  have hs : Host.dynamicSlice S1024x8x128 (shapeCast S1024x64x128 k shapeCasts_S1x1024x64x128_S1024x64x128)
      (fun a => ((![constantI S_ 32 0#32, w, constantI S_ 32 0#32] : Fin 3 → IVec S_ 32) a (Shape.Idx.first h_S_)).toInt)
      sliceFits_S1024x64x128_S1024x8x128 (ix3 j t a)
      = shapeCast S1024x64x128 k shapeCasts_S1x1024x64x128_S1024x64x128 (ix3 j ⟨8 * n + t.val, by omega⟩ a) := by
    refine congrArg (shapeCast S1024x64x128 k shapeCasts_S1x1024x64x128_S1024x64x128) (funext fun b => Fin.ext ?_)
    fin_cases b
    · exact (congrArg (· + j.val) e0).trans (Nat.zero_add _)
    · exact congrArg (· + t.val) e1
    · exact (congrArg (· + a.val) e2).trans (Nat.zero_add _)
  have ht : headsOf k w (ix3 t j a) = Host.dynamicSlice S1024x8x128 (shapeCast S1024x64x128 k shapeCasts_S1x1024x64x128_S1024x64x128)
      (fun a => ((![constantI S_ 32 0#32, w, constantI S_ 32 0#32] : Fin 3 → IVec S_ 32) a (Shape.Idx.first h_S_)).toInt)
      sliceFits_S1024x64x128_S1024x8x128 (ix3 j t a) := by
    unfold headsOf
    generalize Host.dynamicSlice S1024x8x128 _ _ _ = y
    pointwise
  rw [ht, hs]
  pointwise

theorem flat_apply (y : FVec Ideal S1x1024x1024 .f32) (r b : Fin 1024) :
    (truncf .bf16 (shapeCast S1024x1024 y shapeCasts_S1x1024x1024_S1024x1024 : FVec Ideal S1024x1024 .f32) bitsLt_bf16_f32) (ix2 r b)
      = y (ix3 0 r b) := by
  pointwise

variable (m : (ℓ : Loc nD τ sig) → Buf (Elt Ideal) ℓ) (c : Dev nD)

theorem inp_x : (inp (F := Ideal) m).x c
    = truncf .bf16 (shapeCast S1024x1024 (m ((c : Thread nD τ).loc main_arg0)) shapeCasts_S1x1024x1024_S1024x1024 : FVec Ideal S1024x1024 .f32) bitsLt_bf16_f32 := by
  show V1 m c main_v22 = _
  simp only [V1, hostOps0]
  after_results_simp
  rfl

theorem inp_wq : (inp (F := Ideal) m).wq c = truncf (F := Ideal) (s := S1024x1024) (φ := .f32) .bf16 (m ((c : Thread nD τ).loc main_arg1)) bitsLt_bf16_f32 := by
  show V1 m c main_v23 = _
  simp only [V1, hostOps0]
  after_results_simp

theorem inp_wo : (inp (F := Ideal) m).wo c = truncf (F := Ideal) (s := S1024x1024) (φ := .f32) .bf16 (m ((c : Thread nD τ).loc main_arg4)) bitsLt_bf16_f32 := by
  show V1 m c main_v24 = _
  simp only [V1, hostOps0]
  after_results_simp

theorem inp_kk : (inp (F := Ideal) m).kk c = headsOf (m ((c : Thread nD τ).loc main_arg2)) (hostStart c) := by
  show V1 m c main_v12 = _
  after_reads_simp [unaryIndexed_result_read, indexContents_tref_cons, indexContents_tref_empty, indexContents_cons, indexContents_empty]
  rfl

theorem inp_vv : (inp (F := Ideal) m).vv c = headsOf (m ((c : Thread nD τ).loc main_arg3)) (hostStart c) := by
  show V1 m c main_v20 = _
  after_reads_simp [unaryIndexed_result_read, indexContents_tref_cons, indexContents_tref_empty, indexContents_cons, indexContents_empty]
  rfl

/-! ## Element by element -/

theorem x_apply (r b : Fin 1024) : (inp (F := Ideal) m).x c (ix2 r b) = (show FVec Ideal S1x1024x1024 .f32 from m ((c : Thread nD τ).loc main_arg0)) (ix3 0 r b) := by
  rw [inp_x]
  exact flat_apply _ r b

theorem wq_apply (r b : Fin 1024) : (inp (F := Ideal) m).wq c (ix2 r b) = (show FVec Ideal S1024x1024 .f32 from m ((c : Thread nD τ).loc main_arg1)) (ix2 r b) := by
  rw [inp_wq]
  rfl

theorem wo_apply (r b : Fin 1024) : (inp (F := Ideal) m).wo c (ix2 r b) = (show FVec Ideal S1024x1024 .f32 from m ((c : Thread nD τ).loc main_arg4)) (ix2 r b) := by
  rw [inp_wo]
  rfl

theorem kk_apply (t : Fin 8) (j : Fin 1024) (a : Fin 128) : (inp (F := Ideal) m).kk c (ix3 t j a)
    = (show FVec Ideal S1x1024x64x128 .f32 from m ((c : Thread nD τ).loc main_arg2)) (ix4 0 j ⟨8 * c.val + t.val, by have : c.val < 8 := c.isLt; omega⟩ a) := by
  rw [inp_kk]
  exact headsOf_apply _ _ c.val c.isLt (hostStart_eq c) t j a

theorem vv_apply (t : Fin 8) (j : Fin 1024) (a : Fin 128) : (inp (F := Ideal) m).vv c (ix3 t j a)
    = (show FVec Ideal S1x1024x64x128 .f32 from m ((c : Thread nD τ).loc main_arg3)) (ix4 0 j ⟨8 * c.val + t.val, by have : c.val < 8 := c.isLt; omega⟩ a) := by
  rw [inp_vv]
  exact headsOf_apply _ _ c.val c.isLt (hostStart_eq c) t j a

end Cert.Proof.Ring
-- ==== Proof.Run.lean ====
/- The run of the whole program on eight devices: it ends, with the arguments as launched, every semaphore's counter at zero, and
   the kernel's value in the result. -/
module

public import proofs.«01_k».proof.Proof.Region
public import Idealize.ShloMosaic.Harness.Basic

@[expose] public section

noncomputable section

namespace Cert.Proof.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (Seg)
open Cert.KernelIdeal Cert.KernelIdeal.Gen

variable {F : FTy → Type} [FloatOps F] [Named F] (m : (ℓ : Loc nD τ sig) → Buf (Elt F) ℓ) (ρ : Dev nD → PrngReg)

local notation "𝕄" => MT nD τ sig ℕ (Elt F) ℕ UU ℕ

/-- What rides beside the buffers: before the kernel what it starts with, after it the barrier's counter at zero. -/
def E : Fin 2 → Dev nD → sProp 𝕄
  | 0, c => iprop(ready (inp m) c ∗ (∃ r, prngReg c r) ∗ ∃ W, owes (c : Thread nD τ) (owe c 0) W)
  | 1, c => iprop(semVal (cell c kBar) 0 ∗ ∃ W, owes (c : Thread nD τ) (0 : CellTallies nD τ sig ℕ) W)

/-- All unscoped buffers, as the kernel's arrays and the others. -/
theorem held_split (c : Dev nD) (W : Valuation τ sig (Elt F)) :
    (StableHlo.held (c : Thread nD τ) (Pipeline.ucRefs τ sig) W : sProp 𝕄)
      = iprop(StableHlo.held (c : Thread nD τ) (Pipeline.arrRefs (τ := τ) spec0) W ∗ StableHlo.held (c : Thread nD τ) others W) :=
  StableHlo.held_sub_split (c : Thread nD τ) (by decide +kernel) W

theorem pre_ok (c : Dev nD) : iprop(StableHlo.held (c : Thread nD τ) (Pipeline.ucRefs τ sig) (V1 m c) ∗ E m 0 c) ⊢ (region m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ ready (inp m) c ∗ ∃ Wd, owes (c : Thread nD τ) (0 + owe c 0) Wd)
  rw [held_split, zero_add]
  unfold E
  iintro ⟨⟨Ha, Ho⟩, HT, Hp, HO⟩
  isplitl [Ha]; · iexact Ha
  isplitl [Hp]; · iexact Hp
  isplitl [Ho]
  · isplitl [Ho]; · iexact Ho
    iempintro
  isplitl [HT] <;> iassumption

theorem post_ok (c : Dev nD) : (region m).post c
    ⊢ iprop(StableHlo.held (c : Thread nD τ) (Pipeline.ucRefs τ sig) (V2 m (outs m) c) ∗ E m 1 c) := by
  show iprop(StableHlo.held (c.tc : Thread nD τ) (Pipeline.arrRefs (τ := τ) spec0) (V2 m (outs m) c) ∗ (∃ r, prngReg c r)
    ∗ (StableHlo.held (c.tc : Thread nD τ) others (V2 m (outs m) c) ∗ emp) ∗ semVal (cell c kBar) 0
    ∗ ∃ Wd, owes (c : Thread nD τ) (0 : CellTallies nD τ sig ℕ) Wd) ⊢ _
  rw [held_split]
  unfold E
  iintro ⟨Ha, -, ⟨Ho, -⟩, Hb, HO⟩
  isplitl [Ha Ho]
  · isplitl [Ha] <;> iassumption
  isplitl [Hb] <;> iassumption

/-! ## The launch -/

/-- The ghost state of the launch: the transfers' of the arrays, and the ring's. -/
def u₀ : UU :=
  (initOf (Pipeline.cells (Pipeline.pin (pcfgs (F := F)) adm) cellOf_inj) (Pipeline.launchToks (Pipeline.pin (pcfgs (F := F)) adm) cellOf_inj),
    launchOf barCells ownCells ringToks)

/-- The ring's part, kept by device 0 until all devices have theirs. -/
abbrev whole : sProp 𝕄 := BI.own (ER (launchOf barCells ownCells ringToks))
def kept (c : Dev nD) : sProp 𝕄 := if c = 0 then whole else iprop(emp)

theorem kept_all : bigSep Finset.univ (kept (F := F)) = (whole : sProp 𝕄) := by
  have h : bigSep (Finset.univ.erase (0 : Dev nD)) (kept (F := F)) = (BI.emp : sProp 𝕄) :=
    (bigSep_congr fun c hc => if_neg (Finset.ne_of_mem_erase hc)).trans (bigSep_emp_const _)
  rw [bigSep_univ_at _ (0 : Dev nD), h]
  exact (BI.equiv_iff.mp sep_emp).trans (if_pos rfl)

theorem unscoped_bar (c : Dev nD) : (unscopedSems0 c : sProp 𝕄) = semVal (cell c kBar) 0 := by
  unfold unscopedSems0
  rw [show (Finset.univ.filter fun sm : SemLoc sig => ¬ sm.isScoped .tc) = {semOf kBar} from by decide +kernel, BI.bigSep_singleton]

theorem unscoped_eq : ∀ sm : SemLoc sig, sm.isScoped .tc = false → sm = semOf kBar := by decide +kernel

/-- What a device has of its own at the launch. -/
def mine (c : Dev nD) : sProp 𝕄 :=
  iprop((cred (tallyAt (cell c kBar) 0 2) ∗ credD c false ∗ credD c true) ∗ (∃ r, prngReg c r) ∗ ∃ W, owes (c : Thread nD τ) (owe c 0) W)

/-- What it is dealt of the ring's. -/
def dealt (c : Dev nD) : sProp 𝕄 :=
  iprop(atPos ER (cell c kBar) 0 ∅ 0 ∗ (bigSep Finset.univ fun o : Own => openTok ER (cell c (some o)))
    ∗ bigSep Finset.univ fun j : TJ => tokAt (mv j c) j)

theorem mk_E (K : GSem nD τ sig → ℕ) (c : Dev nD) : iprop(known (inp m) K ∗ (dealt c ∗ mine c)) ⊢ E m 0 c := by
  unfold dealt mine E ready rights
  rw [toks_split]
  iintro ⟨#HK, ⟨Hat, Ho, Hb, Ht, Ht'⟩, ⟨Hc, Hd, Hd'⟩, Hp, HO⟩
  isplitl [Hat Ho Hb Ht Ht' Hc Hd Hd']
  · isplitr; · iexists K; iexact HK
    isplitl [Ho]; · iexact Ho
    isplitl [Hat]; · iexact Hat
    isplitl [Hb]; · iexact Hb
    isplitl [Hc]; · iexact Hc
    isplitl [Ht Hd]
    · iapply (mk_startD c false); isplitl [Ht] <;> iassumption
    iapply (mk_startD c true); isplitl [Ht'] <;> iassumption
  isplitl [Hp] <;> iassumption

theorem launch : iprop((bigSep Finset.univ fun c : Dev nD => iprop(unscopedSems0 c ∗ owes (c : Thread nD τ) (owe c 0) ∅
        ∗ Pipeline.launchCred (fun c => owe c 0) c ∗ prngReg c (ρ c) ∗ kept c)) ∗ levAts L lv)
      ⊢ (|={Set.univ}=> bigSep Finset.univ (E m 0) : sProp 𝕄) := by
  have hcore (c : Dev nD) : iprop(unscopedSems0 c ∗ owes (c : Thread nD τ) (owe c 0) ∅
        ∗ Pipeline.launchCred (fun c => owe c 0) c ∗ prngReg c (ρ c) ∗ kept c)
      ⊢ (iprop(mine c ∗ (semVal (cell c kBar) 0 ∗ kept c)) : sProp 𝕄) := by
    rw [unscoped_bar]
    unfold mine
    iintro ⟨Hb, HO, Hc, Hp, HK⟩
    ihave Hc := (creds (F := F) c) $$ Hc
    isplitl [HO Hc Hp]
    · isplitl [Hc]; · iexact Hc
      isplitl [Hp]; · iexists (ρ c); iexact Hp
      iexists ∅; iexact HO
    isplitl [Hb] <;> iassumption
  have hall : (bigSep Finset.univ fun c : Dev nD => iprop(unscopedSems0 c ∗ owes (c : Thread nD τ) (owe c 0) ∅
        ∗ Pipeline.launchCred (fun c => owe c 0) c ∗ prngReg c (ρ c) ∗ kept c))
      ⊢ (bigSep Finset.univ fun c : Dev nD => iprop(mine c ∗ (semVal (cell c kBar) 0 ∗ kept c)) : sProp 𝕄) :=
    bigSep_mono fun c _ => hcore c
  have hv : (bigSep Finset.univ fun c : Dev nD => (semVal (cell c kBar) 0 : sProp 𝕄)) ⊢ bigSep barCells fun g => (semVal g 0 : sProp 𝕄) :=
    Entails.of_eq (bigSep_map (s := Finset.univ) barEmb (Φ := fun g : GSem nD τ sig => (semVal g 0 : sProp 𝕄))).symm
  have hat : (bigSep barCells fun g => (atPos ER g 0 ∅ 0 : sProp 𝕄)) ⊢ bigSep Finset.univ fun c : Dev nD => (atPos ER (cell c kBar) 0 ∅ 0 : sProp 𝕄) :=
    Entails.of_eq (bigSep_map (s := Finset.univ) barEmb (Φ := fun g : GSem nD τ sig => (atPos ER g 0 ∅ 0 : sProp 𝕄)))
  have hop : (bigSep ownCells fun g => (openTok ER g : sProp 𝕄))
      ⊢ bigSep Finset.univ fun c : Dev nD => bigSep Finset.univ fun o : Own => (openTok ER (cell c (some o)) : sProp 𝕄) :=
    Entails.of_eq ((bigSep_map (s := Finset.univ) ownEmb (Φ := fun g : GSem nD τ sig => (openTok ER g : sProp 𝕄))).trans
      (bigSep_univ_prod fun p : Dev nD × Own => (openTok ER (cell p.1 (some p.2)) : sProp 𝕄)))
  have hk : bigSep Finset.univ (kept (F := F)) ⊢ (whole : sProp 𝕄) := Entails.of_eq kept_all
  have ht : bigSep ringToks (fun x => (dutyTok ER x.1 x.2.1 x.2.2 : sProp 𝕄))
      ⊢ bigSep Finset.univ fun c : Dev nD => bigSep Finset.univ fun j : TJ => tokAt (mv j c) j := Entails.of_eq toks_deal
  iintro ⟨H, -⟩
  ihave H := hall $$ H
  ihave H := bigSep_unpair $$ H; icases H with ⟨HM, H⟩
  ihave H := bigSep_unpair $$ H; icases H with ⟨Hv, HG⟩
  ihave Hu := hk $$ HG
  imod (Rounds.fund_launch ER (Rd (inp m)) cells_disjoint (fun g _ h => h) ringToks) $$ [Hv Hu] with ⟨%κ, -, #Hinv, #Hr, Hat, Hopen, Htok⟩
  · isplitl [Hv]
    · iapply hv $$ Hv
    · iexact Hu
  imodintro
  iapply (bigSep_with_persistent (R := known (inp m) κ) (Φ := fun c => iprop(dealt c ∗ mine c)) fun c _ => mk_E m κ c)
  isplitr
  · unfold known
    isplitr; · iexact Hinv
    iexact Hr
  iapply bigSep_pair
  isplitr [HM]
  · unfold dealt
    iapply bigSep_pair; isplitl [Hat]; · iapply hat $$ Hat
    iapply bigSep_pair; isplitl [Hopen]; · iapply hop $$ Hopen
    iapply ht $$ Htok
  · iexact HM

/-! ## The run -/

/-- An unscoped buffer is among those held between the steps of @main. -/
theorem mem_uc (b : Ref sig .tc) (h : ¬ (Proc.devRef (τ := τ) .tc b).isScoped) : Proc.devRef (τ := τ) .tc b ∈ Pipeline.ucRefs τ sig :=
  Finset.mem_filter.mpr ⟨StableHlo.devRef_mem_tcRefs b, h⟩

set_option backward.isDefEq.respectTransparency.types false in
/-- From any memory with zero counters every weakly fair execution on the eight devices ends; then every unscoped buffer holds what
    the program's lines say, and every counter is zero. -/
theorem run_all : θ_run (defs (F := F)) (onTc (τ := τ) (main (F := F))) ⟨m, fun _ => 0, ρ⟩ (fun r =>
    (∀ c : Dev nD, ∀ b ∈ Pipeline.ucRefs τ sig, r.2.mem (c, b) = V3 m (outs m) c b) ∧ r.2.sem = fun _ => 0) := by
  refine Pipeline.θ_run_regions_kit_dev_sems (pcfgs (F := F)) adm (pdats m) 0 cellOf_inj EP defs₀ 𝒱₀ L lv m ρ main
    (segs m (outs m) 𝒱₀ L lv (E m) 0 (pdats m) (region m))
    (fun c Q => by
      rewrite [main_chain c, Seg.run_eq_chain,
        show (segs m (outs m) 𝒱₀ L lv (E m) 0 (pdats m) (region m) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide) (fun c => owe c 0) L_of_ne kept (u₀ (F := F))
    (by
      unfold u₀
      iintro Hu
      ihave H := (ownU_pair _ _) $$ Hu
      icases H with ⟨HP, HX⟩
      imodintro
      isplitl [HP]; · iexact HP
      rw [kept_all]; iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (V3 m (outs m) c) ∗ semVal (cell c kBar) 0))
    (hch := fun c => ⟨.rfl, pre_ok m c, post_ok m c, ?_⟩)
    (hinit := ?_)
    (QY := fun c s => (∀ b ∈ Pipeline.ucRefs τ sig, s.mem (c, b) = V3 m (outs m) c b) ∧ s.sem (cell c kBar) = 0)
    (hfin := fun c s' => ?_)
    (hQ := fun s h hs => ⟨fun c => (h c).1, sem_eq_zero hs fun c sm hsm => by
      obtain rfl := unscoped_eq sm hsm
      exact (h c).2⟩)
  · show iprop(StableHlo.held (c : Thread nD τ) (Pipeline.ucRefs τ sig) (V3 m (outs m) c) ∗ semVal (cell c kBar) 0
        ∗ ∃ W, owes (c : Thread nD τ) (0 : CellTallies nD τ sig ℕ) W)
      ⊢ iprop((StableHlo.held (c : Thread nD τ) (Pipeline.ucRefs τ sig) (V3 m (outs m) c) ∗ semVal (cell c kBar) 0)
        ∗ ∃ W, owes (c : Thread nD τ) (0 : CellTallies nD τ sig ℕ) W)
    iintro ⟨H, Hb, HO⟩
    isplitl [H Hb]
    · isplitl [H] <;> iassumption
    iexact HO
  · have hsplit : (bigSep Finset.univ fun c : Dev nD => iprop(unscopedBufs c (fun b => m ((c.tc : Thread nD τ).loc b)) ∗ unscopedSems0 c
          ∗ owes (c.tc : Thread nD τ) (owe c 0) ∅ ∗ Pipeline.launchCred (fun c => owe c 0) c ∗ prngReg c (ρ c) ∗ kept c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (owe c 0) ∅
              ∗ Pipeline.launchCred (fun c => owe c 0) c ∗ prngReg c (ρ c) ∗ kept c)) : sProp 𝕄) := by
      rw [← bigSep_sep']
      exact bigSep_mono fun c _ => by
        rw [← Pipeline.unscopedBufs_held (Ix := ℕ) (Name := ℕ) (U := UU) (Lvl := ℕ) c (V0 m c)]; exact BI.Entails.refl _
    have hpair := Entails.of_eq (bigSep_sep' Finset.univ
      (fun c : Dev nD => (StableHlo.held (c : Thread nD τ) (Pipeline.ucRefs τ sig) (V0 m c) : sProp 𝕄)) (E m 0)).symm
    iintro ⟨H, Hla⟩
    ihave H' := hsplit $$ H
    icases H' with ⟨Hh, Hr⟩
    imod (launch m ρ) $$ [Hr Hla] with HE
    · isplitl [Hr] <;> iassumption
    imodintro
    iapply hpair
    isplitl [Hh] <;> iassumption
  · unfold StableHlo.held
    iintro ⟨⟨Hh, Hb⟩, HSI⟩
    icombine HSI Hb gives %hb
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨h, by simpa using hb⟩
    · iexact HSI

/-- The result of the kernel on a device, as @main returns it. -/
theorem V3_result (c : Dev nD) : V3 m (outs m) c main_v26
    = broadcastInDim S1x1024x1024 ![1, 2] bcast_S1024x1024_S1x1024x1024_1_2 (oval (inp m) c) := by
  rw [← outs_eq m c]
  show StableHlo.after hostOps1 (V2 m (outs m) c) (Proc.devRef .tc main_v26) = _
  rw [StableHlo.after_cons, StableHlo.after_nil, StableHlo.unary_result]
  rw [show V2 m (outs m) c (Proc.devRef .tc main_v25) = outs m 2 main_v25 c from Function.update_self _ _ _]

/-- THE RUN, as the claims read it. -/
theorem run_main : θ_run (defs (F := F)) (onTc (τ := τ) (main (F := F))) ⟨m, fun _ => 0, ρ⟩ (fun r =>
    (∀ c : Dev nD,
      r.2.mem ((c : Thread nD τ).loc main_v26) = broadcastInDim S1x1024x1024 ![1, 2] bcast_S1024x1024_S1x1024x1024_1_2 (oval (inp m) c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0) := by
  refine θ_run_mono (run_all m ρ) (fun r h => ⟨fun c => ?_, h.2⟩)
  have h' (b : Ref sig .tc) (hb : ¬ (Proc.devRef (τ := τ) .tc b).isScoped) := h.1 c _ (mem_uc b hb)
  exact ⟨(h' main_v26 (by decide)).trans (V3_result m c), (h' main_arg0 (by decide)).trans (V3_main_arg0 m (outs m) c),
    (h' main_arg1 (by decide)).trans (V3_main_arg1 m (outs m) c), (h' main_arg2 (by decide)).trans (V3_main_arg2 m (outs m) c),
    (h' main_arg3 (by decide)).trans (V3_main_arg3 m (outs m) c), (h' main_arg4 (by decide)).trans (V3_main_arg4 m (outs m) c)⟩

end Cert.Proof.Ring

end
-- ==== Proof.Same.lean ====
/- The printed kernel and its idealized print are the same program at machine formats, once a named constant is read
   as the number it replaces. So one run of the idealized print, over any float operations, serves both. -/
module

public import proofs.«01_k».proof.Defs
public import proofs.«01_k».proof.Proof.Gen.Kernel
public import proofs.«01_k».proof.Proof.Gen.KernelIdeal

@[expose] public section

noncomputable section

namespace Cert.Proof

open Idealize.ShloMosaic Idealize.SL.Sem

/-- Named constants at machine formats: the number that stands in the kernel. -/
@[reducible] def namedBits : Named Bits := ⟨fun _ _ {φ} b => FloatOps.ofBits φ b⟩

attribute [local instance] namedBits

/-- The two programs are the same. -/
theorem main_same : Cert.Kernel.main (F := Bits) = Cert.KernelIdeal.main (F := Bits) := rfl

/-- The kernels' table of bodies too. -/
theorem defs₀_same : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => exact rfl

/-- And the whole table of bodies. -/
theorem defs_same : Cert.Kernel.defs (F := Bits) = Cert.KernelIdeal.defs (F := Bits) := by
  unfold Cert.Kernel.defs Cert.KernelIdeal.defs
  rw [defs₀_same]
  rfl

end Cert.Proof

end
-- ==== Proof.Frames.lean ====
/- The frames: each of the three programs runs to its end, leaves its arguments as they were and every counter at zero. -/
module

public import proofs.«01_k».proof.Defs
public import proofs.«01_k».proof.Proof.Same
public import proofs.«01_k».proof.Proof.Run
public import proofs.«01_k».proof.Proof.Gen.ReferenceIdeal.Run

@[expose] public section

noncomputable section

namespace Cert.Proof

open Idealize.ShloMosaic Idealize.ShloMosaic.TcCoe Idealize.SL.Sem

attribute [local instance] namedBits

/-- The kernel as printed, at machine formats. -/
theorem frame_kernel : Cert.quiescent_Kernel := fun m ρ _ => by
  rw [main_same, defs_same]
  exact (θ_run (Cert.KernelIdeal.defs (F := Bits)) _ _).mono (fun _ h => ⟨fun c => (h.1 c).2, h.2⟩) (Ring.run_main (F := Bits) m ρ)

/-- The kernel over the reals. -/
theorem frame_ideal : Cert.quiescent_KernelIdeal := fun m ρ _ =>
  (θ_run (Cert.KernelIdeal.defs (F := Ideal)) _ _).mono (fun _ h => ⟨fun c => (h.1 c).2, h.2⟩) (Ring.run_main (F := Ideal) m ρ)

/-- The reference over the reals: it touches no semaphore. -/
theorem frame_reference : Cert.quiescent_ReferenceIdeal := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

/-- The named mask is the number it replaces at machine formats, and −∞ over the reals. -/
theorem mask : Cert.preserves_Kernel_KernelIdeal := IdealRules.named_const.statement Cert.KernelIdeal.κ "mask" .f32 0xCE6E6B28#32 ⊥ rfl

end Cert.Proof

end
-- ==== Proof.Value.lean ====
/- The value claim: on arguments whose rows, query weights and keys are real numbers, each device's result is its block of the
   reference's result. -/
module

public import proofs.«01_k».proof.Proof.Match
public import proofs.«01_k».proof.Proof.Inputs
public import proofs.«01_k».proof.Proof.Run
public import proofs.«01_k».proof.Proof.Frames

@[expose] public section

noncomputable section

namespace Cert.Proof

open Idealize.ShloMosaic Idealize.ShloMosaic.TcCoe Idealize.ShloMosaic.Pointwise Idealize.SL.Sem
open Ring (blk hd)

/-! ## The blocks -/

theorem block_x {α : Type} (c : Fin 8) (v : Shape.Idx ⟨3, ![1, 8192, 1024]⟩ → α) (r b : Fin 1024) :
    Layout.block ⟨3, ![1, 1024, 1024]⟩ ⟨3, ![1, 8192, 1024]⟩ 1 8 c v (by decide) (ix3 0 r b) = v (ix3 0 (blk c r) b) := by
  refine congrArg v (funext fun a => Fin.ext ?_)
  fin_cases a
  · rfl
  · exact congrArg (· + r.val) (Nat.mul_comm c.val 1024)
  · rfl

theorem block_wq {α : Type} (c : Fin 8) (v : Shape.Idx ⟨2, ![1024, 8192]⟩ → α) (r b : Fin 1024) :
    Layout.block ⟨2, ![1024, 1024]⟩ ⟨2, ![1024, 8192]⟩ 1 8 c v (by decide) (ix2 r b) = v (ix2 r (blk c b)) := by
  refine congrArg v (funext fun a => Fin.ext ?_)
  fin_cases a
  · rfl
  · exact congrArg (· + b.val) (Nat.mul_comm c.val 1024)

theorem block_wo {α : Type} (c : Fin 8) (v : Shape.Idx ⟨2, ![8192, 1024]⟩ → α) (r b : Fin 1024) :
    Layout.block ⟨2, ![1024, 1024]⟩ ⟨2, ![8192, 1024]⟩ 0 8 c v (by decide) (ix2 r b) = v (ix2 (blk c r) b) := by
  refine congrArg v (funext fun a => Fin.ext ?_)
  fin_cases a
  · exact congrArg (· + r.val) (Nat.mul_comm c.val 1024)
  · rfl

theorem blk_surj (i : Fin 8192) : ∃ (e : Dev Cert.KernelIdeal.nD) (r : Fin 1024), blk e r = i :=
  ⟨⟨i.val / 1024, by have := i.isLt; show _ < 8; omega⟩, ⟨i.val % 1024, by omega⟩, Fin.ext (by
    show 1024 * (i.val / 1024) + i.val % 1024 = i.val; omega)⟩

/-! ## The parts of the arguments -/

section
open Cert.KernelIdeal

variable (m : (ℓ : Loc nD τ sig) → Buf (Elt Ideal) ℓ)
  (x : FVec Ideal Cert.ReferenceIdeal.S1x8192x1024 .f32) (wq : FVec Ideal Cert.ReferenceIdeal.S1024x8192 .f32)
  (k v : FVec Ideal Cert.ReferenceIdeal.S1x1024x64x128 .f32) (wo : FVec Ideal Cert.ReferenceIdeal.S8192x1024 .f32)

theorem parts (hpre : Cert.Pre_KernelIdeal_finite_KernelIdeal m)
    (h : ∀ c : Dev nD,
      m ((c.tc : Thread nD τ).loc main_arg0) = Layout.block ⟨3, ![1, 1024, 1024]⟩ ⟨3, ![1, 8192, 1024]⟩ 1 8 c x
      ∧ m ((c.tc : Thread nD τ).loc main_arg1) = Layout.block ⟨2, ![1024, 1024]⟩ ⟨2, ![1024, 8192]⟩ 1 8 c wq
      ∧ m ((c.tc : Thread nD τ).loc main_arg2) = k
      ∧ m ((c.tc : Thread nD τ).loc main_arg3) = v
      ∧ m ((c.tc : Thread nD τ).loc main_arg4) = Layout.block ⟨2, ![1024, 1024]⟩ ⟨2, ![8192, 1024]⟩ 0 8 c wo) :
    Ring.Parts (Ring.inp (F := Ideal) m) x wq k v wo where
  hx e r b := (Ring.x_apply m e r b).trans ((congrFun (h e).1 (ix3 0 r b)).trans (block_x e x r b))
  hwq e b j := (Ring.wq_apply m e b j).trans ((congrFun (h e).2.1 (ix2 b j)).trans (block_wq e wq b j))
  hk e t j a := (Ring.kk_apply m e t j a).trans (congrFun (h e).2.2.1 (ix4 0 j (hd e t) a))
  hv e t j a := (Ring.vv_apply m e t j a).trans (congrFun (h e).2.2.2.1 (ix4 0 j (hd e t) a))
  hwo e j n := (Ring.wo_apply m e j n).trans ((congrFun (h e).2.2.2.2 (ix2 j n)).trans (block_wo e wo j n))
  fx i b := by
    obtain ⟨e, r, rfl⟩ := blk_surj i
    have q := (real_of_pre _ _ _ _ _ (hpre e)).1 (ix3 0 r b)
    rw [(h e).1, block_x] at q
    exact q
  fwq b i := by
    obtain ⟨e, r, rfl⟩ := blk_surj i
    have q := (real_of_pre _ _ _ _ _ (hpre e)).2.1 (ix2 b r)
    rw [(h e).2.1, block_wq] at q
    exact q
  fk j t a := by
    have q := (real_of_pre _ _ _ _ _ (hpre 0)).2.2 (ix4 0 j t a)
    rw [(h 0).2.2.1] at q
    exact q

theorem lift_apply (y : FVec Ideal S1024x1024 .f32) (r n : Fin 1024) :
    broadcastInDim S1x1024x1024 ![1, 2] Gen.bcast_S1024x1024_S1x1024x1024_1_2 y (ix3 0 r n) = y (ix2 r n) := by
  pointwise

theorem result_block (P : Ring.Parts (Ring.inp (F := Ideal) m) x wq k v wo) (c : Dev nD) :
    (broadcastInDim S1x1024x1024 ![1, 2] Gen.bcast_S1024x1024_S1x1024x1024_1_2 (Ring.oval (Ring.inp (F := Ideal) m) c)
        : FVec Ideal S1x1024x1024 .f32)
      = Layout.block ⟨3, ![1, 1024, 1024]⟩ ⟨3, ![1, 8192, 1024]⟩ 1 8 c (Ref.out x wq k v wo) := by
  funext i
  have hi : i = ix3 (0 : Fin 1) (i 1) (i 2) := by
    funext a
    fin_cases a
    · exact Subsingleton.elim (α := Fin 1) _ _
    · rfl
    · rfl
  rw [hi]
  exact (lift_apply _ _ _).trans ((Ring.oval_eq P c (i 1) (i 2)).trans (block_x c (Ref.out x wq k v wo) (i 1) (i 2)).symm)

end

/-- The kernel computes the reference's value. -/
theorem value : Cert.algebraic_KernelIdeal_ReferenceIdeal_pre_finite_KernelIdeal := by
  intro m g m' g' hpre h
  have P := parts m _ _ _ _ _ hpre h
  refine ⟨Cert.ReferenceIdeal.Value.res_main_v44 (F := Ideal) m' 0, ?_, ?_⟩
  · exact (θ_run (Cert.KernelIdeal.defs (F := Ideal)) _ _).mono
      (fun _ hr c => ⟨((hr.1 c).1.trans (result_block m _ _ _ _ _ P c)).trans
        (congrArg (fun y => Layout.block ⟨3, ![1, 1024, 1024]⟩ ⟨3, ![1, 8192, 1024]⟩ 1 8 c y) (Ref.res_eq m' 0).symm), (hr.1 c).2⟩)
      (Ring.run_main (F := Ideal) m g)
  · exact (θ_run (Cert.ReferenceIdeal.defs (F := Ideal)) _ _).mono
      (fun _ hr => hr 0) (Cert.ReferenceIdeal.Value.run (F := Ideal) m' g')

/-! ## The frames on the arguments of the value claim -/

theorem frame_ideal_finite : Cert.quiescent_KernelIdeal_pre_finite_KernelIdeal := fun m g _ => frame_ideal m g trivial

theorem frame_reference_finite : Cert.quiescent_ReferenceIdeal_pre_finite_ReferenceIdeal := fun m g _ => frame_reference m g trivial

end Cert.Proof

end
-- ==== Proof.lean ====
/- The certificate: the frames of the three programs, the named mask and the value. -/
module

public import proofs.«01_k».proof.Proof.Value

@[expose] public section

noncomputable section

namespace Cert.Proof

theorem claim : Cert.Claim := ⟨Cert.Kernel.Gen.facts, Cert.KernelIdeal.Gen.facts, Cert.ReferenceIdeal.Gen.facts, preFacts, preFactsRef,
  frame_kernel, frame_ideal, frame_ideal_finite, frame_reference, frame_reference_finite, mask, value⟩

end Cert.Proof

end
